-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite_KernelIdeal [hPre_operands_finite_KernelIdeal : Cert.Pre_operands_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite_ReferenceIdeal [hPre_operands_finite_ReferenceIdeal : Cert.Pre_operands_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_operands_finite_KernelIdeal [hKernelIdeal : Cert.KernelIdeal.Facts] [hPre_operands_finite_KernelIdeal : Cert.Pre_operands_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_operands_finite_ReferenceIdeal [hReferenceIdeal : Cert.ReferenceIdeal.Facts] [hPre_operands_finite_ReferenceIdeal : Cert.Pre_operands_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_operands_finite_KernelIdeal [hKernelIdeal : Cert.KernelIdeal.Facts] [hReferenceIdeal : Cert.ReferenceIdeal.Facts] [hPre_operands_finite_KernelIdeal : Cert.Pre_operands_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 128]⟩ ⟨3, ![256, 1024, 128]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 128]⟩ ⟨3, ![256, 1024, 128]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_operands_finite_KernelIdeal : Cert.Pre_operands_finite_KernelIdeal.Facts) (hPre_operands_finite_ReferenceIdeal : Cert.Pre_operands_finite_ReferenceIdeal.Facts),
    quiescent_Kernel (hKernel := hKernel)
    ∧ quiescent_KernelIdeal (hKernelIdeal := hKernelIdeal)
    ∧ quiescent_KernelIdeal_pre_operands_finite_KernelIdeal (hKernelIdeal := hKernelIdeal) (hPre_operands_finite_KernelIdeal := hPre_operands_finite_KernelIdeal)
    ∧ quiescent_ReferenceIdeal (hReferenceIdeal := hReferenceIdeal)
    ∧ quiescent_ReferenceIdeal_pre_operands_finite_ReferenceIdeal (hReferenceIdeal := hReferenceIdeal) (hPre_operands_finite_ReferenceIdeal := hPre_operands_finite_ReferenceIdeal)
    ∧ preserves_Kernel_KernelIdeal
    ∧ algebraic_KernelIdeal_ReferenceIdeal_pre_operands_finite_KernelIdeal (hKernelIdeal := hKernelIdeal) (hReferenceIdeal := hReferenceIdeal) (hPre_operands_finite_KernelIdeal := hPre_operands_finite_KernelIdeal)
-- ==== Pre_operands_finite_KernelIdeal.lean ====
abbrev S1024x1024 : Shape := ⟨2, ![1024, 1024]⟩
abbrev S8x1024x128 : Shape := ⟨3, ![8, 1024, 128]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x1024x128 : S_.BroadcastsInDim S8x1024x128 (![] : Fin 0 → Fin S8x1024x128.rank)
  reducesTo_S8x1024x128_S_d0_1_2 : S8x1024x128.ReducesTo [0, 1, 2] S_

variable [Facts]

def fn {F : FTy → Type} [FloatOps F] (main_arg0 : FVec F S1024x1024 .bf16) (main_arg1 : FVec F S1024x1024 .bf16) (main_arg2 : FVec F S8x1024x128 .bf16) (main_arg3 : FVec F S8x1024x128 .bf16) (main_arg4 : FVec F S1024x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8x1024x128 .f32 := (extf .f32 · bitsLt_bf16_f32) main_arg2
  let main_v12 : FVec F S8x1024x128 .f32 := Host.absf main_v11
  let main_cst_2 : FVec F S_ .f32 := constant S_ .f32 0x7F800000#32
  let main_v13 : FVec F S8x1024x128 .f32 := broadcastInDim S8x1024x128 ![] bcast_S_S8x1024x128 main_cst_2
  let main_v14 : IVec S8x1024x128 1 := cmpf .olt main_v12 main_v13
  let main_c_3 : IVec S_ 1 := constantI S_ 1 1#1
  let main_v15 : IVec S_ 1 := (fun x v => Host.reduce IntOp.andi x v reducesTo_S8x1024x128_S_d0_1_2 h_S_) main_v14 main_c_3
  let main_v16 : IVec S_ 1 := andi main_v10 main_v15
  main_v16
-- ==== Pre_operands_finite_ReferenceIdeal.lean ====
abbrev S1024x1024 : Shape := ⟨2, ![1024, 1024]⟩
abbrev S1024x32768 : Shape := ⟨2, ![1024, 32768]⟩
abbrev S256x1024x128 : Shape := ⟨3, ![256, 1024, 128]⟩
abbrev S32768x1024 : Shape := ⟨2, ![32768, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S256x1024x128 : S_.BroadcastsInDim S256x1024x128 (![] : Fin 0 → Fin S256x1024x128.rank)
  reducesTo_S256x1024x128_S_d0_1_2 : S256x1024x128.ReducesTo [0, 1, 2] S_

variable [Facts]

def fn {F : FTy → Type} [FloatOps F] (main_arg0 : FVec F S1024x1024 .bf16) (main_arg1 : FVec F S1024x32768 .bf16) (main_arg2 : FVec F S256x1024x128 .bf16) (main_arg3 : FVec F S256x1024x128 .bf16) (main_arg4 : FVec F S32768x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x32768 .f32 := (extf .f32 · bitsLt_bf16_f32) main_arg1
  let main_v6 : FVec F S1024x32768 .f32 := Host.absf main_v5
  let main_cst_0 : FVec F S_ .f32 := constant S_ .f32 0x7F800000#32
  let main_v7 : FVec F S1024x32768 .f32 := broadcastInDim S1024x32768 ![] bcast_S_S1024x32768 main_cst_0
  let main_v8 : IVec S1024x32768 1 := cmpf .olt main_v6 main_v7
  let main_c_1 : IVec S_ 1 := constantI S_ 1 1#1
  let main_v9 : IVec S_ 1 := (fun x v => Host.reduce IntOp.andi x v reducesTo_S1024x32768_S_d0_1 h_S_) main_v8 main_c_1
  let main_v10 : IVec S_ 1 := andi main_v4 main_v9
  let main_v11 : FVec F S256x1024x128 .f32 := (extf .f32 · bitsLt_bf16_f32) main_arg2
  let main_v12 : FVec F S256x1024x128 .f32 := Host.absf main_v11
  let main_cst_2 : FVec F S_ .f32 := constant S_ .f32 0x7F800000#32
  let main_v13 : FVec F S256x1024x128 .f32 := broadcastInDim S256x1024x128 ![] bcast_S_S256x1024x128 main_cst_2
  let main_v14 : IVec S256x1024x128 1 := cmpf .olt main_v12 main_v13
  let main_c_3 : IVec S_ 1 := constantI S_ 1 1#1
  let main_v15 : IVec S_ 1 := (fun x v => Host.reduce IntOp.andi x v reducesTo_S256x1024x128_S_d0_1_2 h_S_) main_v14 main_c_3
  let main_v16 : IVec S_ 1 := andi main_v10 main_v15
  main_v16
-- ==== Kernel.lean ====
abbrev S1024x1024 : Shape := ⟨2, ![1024, 1024]⟩
abbrev S8x1024x128 : Shape := ⟨3, ![8, 1024, 128]⟩
abbrev S32x32x1024 : Shape := ⟨3, ![32, 32, 1024]⟩
abbrev S32 : Shape := ⟨1, ![32]⟩
abbrev S_ : Shape := ⟨0, ![]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S8x1024x128, .bf16⟩
  | .hbm, ⟨3, _⟩ => ⟨S8x1024x128, .bf16⟩
  | .hbm, ⟨4, _⟩ => ⟨S1024x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S32x32x1024, .bf16⟩
  | _, _ => ⟨S1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_202 : BitVec 32 := 0#32
  let v294 : BitVec 1 := Scalar.cmpi .ne v2 c0_i32_202
  let v295 : BitVec 32 := Scalar.extui v294
  let c0_i32_204 : BitVec 32 := 0#32
  let v296 : BitVec 1 := Scalar.cmpi .ne v295 c0_i32_204
  v296

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev33 : Nat :=
  let c0_i32_1166 : BitVec 32 := 0#32
  let c0_i32_1164 : BitVec 32 := 0#32
  let c1_i32_1165 : BitVec 32 := 1#32
  let v1451 : BitVec 32 := Scalar.muli c0_i32_1164 c1_i32_1165
  let v1452 : BitVec 32 := Scalar.addi c0_i32_1166 v1451
  v1452.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_205 : BitVec 32 := 1#32
  let v297 : BitVec 1 := Scalar.cmpi .ne v2 c1_i32_205
  let v298 : BitVec 32 := Scalar.extui v297
  let c0_i32_207 : BitVec 32 := 0#32
  let v299 : BitVec 1 := Scalar.cmpi .ne v298 c0_i32_207
  v299

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev34 : Nat :=
  let c0_i32_1166 : BitVec 32 := 0#32
  let c1_i32_1164 : BitVec 32 := 1#32
  let c1_i32_1165 : BitVec 32 := 1#32
  let v1451 : BitVec 32 := Scalar.muli c1_i32_1164 c1_i32_1165
  let v1452 : BitVec 32 := Scalar.addi c0_i32_1166 v1451
  v1452.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_208 : BitVec 32 := 2#32
  let v300 : BitVec 1 := Scalar.cmpi .ne v2 c2_i32_208
  let v301 : BitVec 32 := Scalar.extui v300
  let c0_i32_210 : BitVec 32 := 0#32
  let v302 : BitVec 1 := Scalar.cmpi .ne v301 c0_i32_210
  v302

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev35 : Nat :=
  let c0_i32_1166 : BitVec 32 := 0#32
  let c2_i32_1164 : BitVec 32 := 2#32
  let c1_i32_1165 : BitVec 32 := 1#32
  let v1451 : BitVec 32 := Scalar.muli c2_i32_1164 c1_i32_1165
  let v1452 : BitVec 32 := Scalar.addi c0_i32_1166 v1451
  v1452.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_211 : BitVec 32 := 3#32
  let v303 : BitVec 1 := Scalar.cmpi .ne v2 c3_i32_211
  let v304 : BitVec 32 := Scalar.extui v303
  let c0_i32_213 : BitVec 32 := 0#32
  let v305 : BitVec 1 := Scalar.cmpi .ne v304 c0_i32_213
  v305

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev36 : Nat :=
  let c0_i32_1166 : BitVec 32 := 0#32
  let c3_i32_1164 : BitVec 32 := 3#32
  let c1_i32_1165 : BitVec 32 := 1#32
  let v1451 : BitVec 32 := Scalar.muli c3_i32_1164 c1_i32_1165
  let v1452 : BitVec 32 := Scalar.addi c0_i32_1166 v1451
  v1452.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_214 : BitVec 32 := 4#32
  let v306 : BitVec 1 := Scalar.cmpi .ne v2 c4_i32_214
  let v307 : BitVec 32 := Scalar.extui v306
  let c0_i32_216 : BitVec 32 := 0#32
  let v308 : BitVec 1 := Scalar.cmpi .ne v307 c0_i32_216
  v308

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev37 : Nat :=
  let c0_i32_1166 : BitVec 32 := 0#32
  let c4_i32_1164 : BitVec 32 := 4#32
  let c1_i32_1165 : BitVec 32 := 1#32
  let v1451 : BitVec 32 := Scalar.muli c4_i32_1164 c1_i32_1165
  let v1452 : BitVec 32 := Scalar.addi c0_i32_1166 v1451
  v1452.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_217 : BitVec 32 := 5#32
  let v309 : BitVec 1 := Scalar.cmpi .ne v2 c5_i32_217
  let v310 : BitVec 32 := Scalar.extui v309
  let c0_i32_219 : BitVec 32 := 0#32
  let v311 : BitVec 1 := Scalar.cmpi .ne v310 c0_i32_219
  v311

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev38 : Nat :=
  let c0_i32_1166 : BitVec 32 := 0#32
  let c5_i32_1164 : BitVec 32 := 5#32
  let c1_i32_1165 : BitVec 32 := 1#32
  let v1451 : BitVec 32 := Scalar.muli c5_i32_1164 c1_i32_1165
  let v1452 : BitVec 32 := Scalar.addi c0_i32_1166 v1451
  v1452.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_220 : BitVec 32 := 6#32
  let v312 : BitVec 1 := Scalar.cmpi .ne v2 c6_i32_220
  let v313 : BitVec 32 := Scalar.extui v312
  let c0_i32_222 : BitVec 32 := 0#32
  let v314 : BitVec 1 := Scalar.cmpi .ne v313 c0_i32_222
  v314

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev39 : Nat :=
  let c0_i32_1166 : BitVec 32 := 0#32
  let c6_i32_1164 : BitVec 32 := 6#32
  let c1_i32_1165 : BitVec 32 := 1#32
  let v1451 : BitVec 32 := Scalar.muli c6_i32_1164 c1_i32_1165
  let v1452 : BitVec 32 := Scalar.addi c0_i32_1166 v1451
  v1452.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_223 : BitVec 32 := 7#32
  let v315 : BitVec 1 := Scalar.cmpi .ne v2 c7_i32_223
  let v316 : BitVec 32 := Scalar.extui v315
  let c0_i32_225 : BitVec 32 := 0#32
  let v317 : BitVec 1 := Scalar.cmpi .ne v316 c0_i32_225
  v317

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev40 : Nat :=
  let c0_i32_1166 : BitVec 32 := 0#32
  let c7_i32_1164 : BitVec 32 := 7#32
  let c1_i32_1165 : BitVec 32 := 1#32
  let v1451 : BitVec 32 := Scalar.muli c7_i32_1164 c1_i32_1165
  let v1452 : BitVec 32 := Scalar.addi c0_i32_1166 v1451
  v1452.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_341 : BitVec 32 := 8#32
  let v539 : BitVec 1 := Scalar.cmpi .ne v2 c8_i32_341
  let v540 : BitVec 32 := Scalar.extui v539
  let c0_i32_343 : BitVec 32 := 0#32
  let v541 : BitVec 1 := Scalar.cmpi .ne v540 c0_i32_343
  v541

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev41 : Nat :=
  let c0_i32_1166 : BitVec 32 := 0#32
  let c8_i32_1164 : BitVec 32 := 8#32
  let c1_i32_1165 : BitVec 32 := 1#32
  let v1451 : BitVec 32 := Scalar.muli c8_i32_1164 c1_i32_1165
  let v1452 : BitVec 32 := Scalar.addi c0_i32_1166 v1451
  v1452.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_344 : BitVec 32 := 9#32
  let v542 : BitVec 1 := Scalar.cmpi .ne v2 c9_i32_344
  let v543 : BitVec 32 := Scalar.extui v542
  let c0_i32_346 : BitVec 32 := 0#32
  let v544 : BitVec 1 := Scalar.cmpi .ne v543 c0_i32_346
  v544

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev42 : Nat :=
  let c0_i32_1166 : BitVec 32 := 0#32
  let c9_i32_1164 : BitVec 32 := 9#32
  let c1_i32_1165 : BitVec 32 := 1#32
  let v1451 : BitVec 32 := Scalar.muli c9_i32_1164 c1_i32_1165
  let v1452 : BitVec 32 := Scalar.addi c0_i32_1166 v1451
  v1452.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_347 : BitVec 32 := 10#32
  let v545 : BitVec 1 := Scalar.cmpi .ne v2 c10_i32_347
  let v546 : BitVec 32 := Scalar.extui v545
  let c0_i32_349 : BitVec 32 := 0#32
  let v547 : BitVec 1 := Scalar.cmpi .ne v546 c0_i32_349
  v547

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev43 : Nat :=
  let c0_i32_1166 : BitVec 32 := 0#32
  let c10_i32_1164 : BitVec 32 := 10#32
  let c1_i32_1165 : BitVec 32 := 1#32
  let v1451 : BitVec 32 := Scalar.muli c10_i32_1164 c1_i32_1165
  let v1452 : BitVec 32 := Scalar.addi c0_i32_1166 v1451
  v1452.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_350 : BitVec 32 := 11#32
  let v548 : BitVec 1 := Scalar.cmpi .ne v2 c11_i32_350
  let v549 : BitVec 32 := Scalar.extui v548
  let c0_i32_352 : BitVec 32 := 0#32
  let v550 : BitVec 1 := Scalar.cmpi .ne v549 c0_i32_352
  v550

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev44 : Nat :=
  let c0_i32_1166 : BitVec 32 := 0#32
  let c11_i32_1164 : BitVec 32 := 11#32
  let c1_i32_1165 : BitVec 32 := 1#32
  let v1451 : BitVec 32 := Scalar.muli c11_i32_1164 c1_i32_1165
  let v1452 : BitVec 32 := Scalar.addi c0_i32_1166 v1451
  v1452.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_353 : BitVec 32 := 12#32
  let v551 : BitVec 1 := Scalar.cmpi .ne v2 c12_i32_353
  let v552 : BitVec 32 := Scalar.extui v551
  let c0_i32_355 : BitVec 32 := 0#32
  let v553 : BitVec 1 := Scalar.cmpi .ne v552 c0_i32_355
  v553

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev45 : Nat :=
  let c0_i32_1166 : BitVec 32 := 0#32
  let c12_i32_1164 : BitVec 32 := 12#32
  let c1_i32_1165 : BitVec 32 := 1#32
  let v1451 : BitVec 32 := Scalar.muli c12_i32_1164 c1_i32_1165
  let v1452 : BitVec 32 := Scalar.addi c0_i32_1166 v1451
  v1452.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_356 : BitVec 32 := 13#32
  let v554 : BitVec 1 := Scalar.cmpi .ne v2 c13_i32_356
  let v555 : BitVec 32 := Scalar.extui v554
  let c0_i32_358 : BitVec 32 := 0#32
  let v556 : BitVec 1 := Scalar.cmpi .ne v555 c0_i32_358
  v556

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev46 : Nat :=
  let c0_i32_1166 : BitVec 32 := 0#32
  let c13_i32_1164 : BitVec 32 := 13#32
  let c1_i32_1165 : BitVec 32 := 1#32
  let v1451 : BitVec 32 := Scalar.muli c13_i32_1164 c1_i32_1165
  let v1452 : BitVec 32 := Scalar.addi c0_i32_1166 v1451
  v1452.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_359 : BitVec 32 := 14#32
  let v557 : BitVec 1 := Scalar.cmpi .ne v2 c14_i32_359
  let v558 : BitVec 32 := Scalar.extui v557
  let c0_i32_361 : BitVec 32 := 0#32
  let v559 : BitVec 1 := Scalar.cmpi .ne v558 c0_i32_361
  v559

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev47 : Nat :=
  let c0_i32_1166 : BitVec 32 := 0#32
  let c14_i32_1164 : BitVec 32 := 14#32
  let c1_i32_1165 : BitVec 32 := 1#32
  let v1451 : BitVec 32 := Scalar.muli c14_i32_1164 c1_i32_1165
  let v1452 : BitVec 32 := Scalar.addi c0_i32_1166 v1451
  v1452.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_362 : BitVec 32 := 15#32
  let v560 : BitVec 1 := Scalar.cmpi .ne v2 c15_i32_362
  let v561 : BitVec 32 := Scalar.extui v560
  let c0_i32_364 : BitVec 32 := 0#32
  let v562 : BitVec 1 := Scalar.cmpi .ne v561 c0_i32_364
  v562

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev48 : Nat :=
  let c0_i32_1166 : BitVec 32 := 0#32
  let c15_i32_1164 : BitVec 32 := 15#32
  let c1_i32_1165 : BitVec 32 := 1#32
  let v1451 : BitVec 32 := Scalar.muli c15_i32_1164 c1_i32_1165
  let v1452 : BitVec 32 := Scalar.addi c0_i32_1166 v1451
  v1452.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_479 : BitVec 32 := 16#32
  let v784 : BitVec 1 := Scalar.cmpi .ne v2 c16_i32_479
  let v785 : BitVec 32 := Scalar.extui v784
  let c0_i32_481 : BitVec 32 := 0#32
  let v786 : BitVec 1 := Scalar.cmpi .ne v785 c0_i32_481
  v786

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev49 : Nat :=
  let c0_i32_1166 : BitVec 32 := 0#32
  let c16_i32_1164 : BitVec 32 := 16#32
  let c1_i32_1165 : BitVec 32 := 1#32
  let v1451 : BitVec 32 := Scalar.muli c16_i32_1164 c1_i32_1165
  let v1452 : BitVec 32 := Scalar.addi c0_i32_1166 v1451
  v1452.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_482 : BitVec 32 := 17#32
  let v787 : BitVec 1 := Scalar.cmpi .ne v2 c17_i32_482
  let v788 : BitVec 32 := Scalar.extui v787
  let c0_i32_484 : BitVec 32 := 0#32
  let v789 : BitVec 1 := Scalar.cmpi .ne v788 c0_i32_484
  v789

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev50 : Nat :=
  let c0_i32_1166 : BitVec 32 := 0#32
  let c17_i32_1164 : BitVec 32 := 17#32
  let c1_i32_1165 : BitVec 32 := 1#32
  let v1451 : BitVec 32 := Scalar.muli c17_i32_1164 c1_i32_1165
  let v1452 : BitVec 32 := Scalar.addi c0_i32_1166 v1451
  v1452.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_485 : BitVec 32 := 18#32
  let v790 : BitVec 1 := Scalar.cmpi .ne v2 c18_i32_485
  let v791 : BitVec 32 := Scalar.extui v790
  let c0_i32_487 : BitVec 32 := 0#32
  let v792 : BitVec 1 := Scalar.cmpi .ne v791 c0_i32_487
  v792

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev51 : Nat :=
  let c0_i32_1166 : BitVec 32 := 0#32
  let c18_i32_1164 : BitVec 32 := 18#32
  let c1_i32_1165 : BitVec 32 := 1#32
  let v1451 : BitVec 32 := Scalar.muli c18_i32_1164 c1_i32_1165
  let v1452 : BitVec 32 := Scalar.addi c0_i32_1166 v1451
  v1452.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_488 : BitVec 32 := 19#32
  let v793 : BitVec 1 := Scalar.cmpi .ne v2 c19_i32_488
  let v794 : BitVec 32 := Scalar.extui v793
  let c0_i32_490 : BitVec 32 := 0#32
  let v795 : BitVec 1 := Scalar.cmpi .ne v794 c0_i32_490
  v795

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev52 : Nat :=
  let c0_i32_1166 : BitVec 32 := 0#32
  let c19_i32_1164 : BitVec 32 := 19#32
  let c1_i32_1165 : BitVec 32 := 1#32
  let v1451 : BitVec 32 := Scalar.muli c19_i32_1164 c1_i32_1165
  let v1452 : BitVec 32 := Scalar.addi c0_i32_1166 v1451
  v1452.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_491 : BitVec 32 := 20#32
  let v796 : BitVec 1 := Scalar.cmpi .ne v2 c20_i32_491
  let v797 : BitVec 32 := Scalar.extui v796
  let c0_i32_493 : BitVec 32 := 0#32
  let v798 : BitVec 1 := Scalar.cmpi .ne v797 c0_i32_493
  v798

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev53 : Nat :=
  let c0_i32_1166 : BitVec 32 := 0#32
  let c20_i32_1164 : BitVec 32 := 20#32
  let c1_i32_1165 : BitVec 32 := 1#32
  let v1451 : BitVec 32 := Scalar.muli c20_i32_1164 c1_i32_1165
  let v1452 : BitVec 32 := Scalar.addi c0_i32_1166 v1451
  v1452.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_494 : BitVec 32 := 21#32
  let v799 : BitVec 1 := Scalar.cmpi .ne v2 c21_i32_494
  let v800 : BitVec 32 := Scalar.extui v799
  let c0_i32_496 : BitVec 32 := 0#32
  let v801 : BitVec 1 := Scalar.cmpi .ne v800 c0_i32_496
  v801

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev54 : Nat :=
  let c0_i32_1166 : BitVec 32 := 0#32
  let c21_i32_1164 : BitVec 32 := 21#32
  let c1_i32_1165 : BitVec 32 := 1#32
  let v1451 : BitVec 32 := Scalar.muli c21_i32_1164 c1_i32_1165
  let v1452 : BitVec 32 := Scalar.addi c0_i32_1166 v1451
  v1452.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_497 : BitVec 32 := 22#32
  let v802 : BitVec 1 := Scalar.cmpi .ne v2 c22_i32_497
  let v803 : BitVec 32 := Scalar.extui v802
  let c0_i32_499 : BitVec 32 := 0#32
  let v804 : BitVec 1 := Scalar.cmpi .ne v803 c0_i32_499
  v804

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev55 : Nat :=
  let c0_i32_1166 : BitVec 32 := 0#32
  let c22_i32_1164 : BitVec 32 := 22#32
  let c1_i32_1165 : BitVec 32 := 1#32
  let v1451 : BitVec 32 := Scalar.muli c22_i32_1164 c1_i32_1165
  let v1452 : BitVec 32 := Scalar.addi c0_i32_1166 v1451
  v1452.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_500 : BitVec 32 := 23#32
  let v805 : BitVec 1 := Scalar.cmpi .ne v2 c23_i32_500
  let v806 : BitVec 32 := Scalar.extui v805
  let c0_i32_502 : BitVec 32 := 0#32
  let v807 : BitVec 1 := Scalar.cmpi .ne v806 c0_i32_502
  v807

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev56 : Nat :=
  let c0_i32_1166 : BitVec 32 := 0#32
  let c23_i32_1164 : BitVec 32 := 23#32
  let c1_i32_1165 : BitVec 32 := 1#32
  let v1451 : BitVec 32 := Scalar.muli c23_i32_1164 c1_i32_1165
  let v1452 : BitVec 32 := Scalar.addi c0_i32_1166 v1451
  v1452.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_618 : BitVec 32 := 24#32
  let v1029 : BitVec 1 := Scalar.cmpi .ne v2 c24_i32_618
  let v1030 : BitVec 32 := Scalar.extui v1029
  let c0_i32_620 : BitVec 32 := 0#32
  let v1031 : BitVec 1 := Scalar.cmpi .ne v1030 c0_i32_620
  v1031

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev57 : Nat :=
  let c0_i32_1166 : BitVec 32 := 0#32
  let c24_i32_1164 : BitVec 32 := 24#32
  let c1_i32_1165 : BitVec 32 := 1#32
  let v1451 : BitVec 32 := Scalar.muli c24_i32_1164 c1_i32_1165
  let v1452 : BitVec 32 := Scalar.addi c0_i32_1166 v1451
  v1452.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_621 : BitVec 32 := 25#32
  let v1032 : BitVec 1 := Scalar.cmpi .ne v2 c25_i32_621
  let v1033 : BitVec 32 := Scalar.extui v1032
  let c0_i32_623 : BitVec 32 := 0#32
  let v1034 : BitVec 1 := Scalar.cmpi .ne v1033 c0_i32_623
  v1034

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev58 : Nat :=
  let c0_i32_1166 : BitVec 32 := 0#32
  let c25_i32_1164 : BitVec 32 := 25#32
  let c1_i32_1165 : BitVec 32 := 1#32
  let v1451 : BitVec 32 := Scalar.muli c25_i32_1164 c1_i32_1165
  let v1452 : BitVec 32 := Scalar.addi c0_i32_1166 v1451
  v1452.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_624 : BitVec 32 := 26#32
  let v1035 : BitVec 1 := Scalar.cmpi .ne v2 c26_i32_624
  let v1036 : BitVec 32 := Scalar.extui v1035
  let c0_i32_626 : BitVec 32 := 0#32
  let v1037 : BitVec 1 := Scalar.cmpi .ne v1036 c0_i32_626
  v1037

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev59 : Nat :=
  let c0_i32_1166 : BitVec 32 := 0#32
  let c26_i32_1164 : BitVec 32 := 26#32
  let c1_i32_1165 : BitVec 32 := 1#32
  let v1451 : BitVec 32 := Scalar.muli c26_i32_1164 c1_i32_1165
  let v1452 : BitVec 32 := Scalar.addi c0_i32_1166 v1451
  v1452.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_627 : BitVec 32 := 27#32
  let v1038 : BitVec 1 := Scalar.cmpi .ne v2 c27_i32_627
  let v1039 : BitVec 32 := Scalar.extui v1038
  let c0_i32_629 : BitVec 32 := 0#32
  let v1040 : BitVec 1 := Scalar.cmpi .ne v1039 c0_i32_629
  v1040

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev60 : Nat :=
  let c0_i32_1166 : BitVec 32 := 0#32
  let c27_i32_1164 : BitVec 32 := 27#32
  let c1_i32_1165 : BitVec 32 := 1#32
  let v1451 : BitVec 32 := Scalar.muli c27_i32_1164 c1_i32_1165
  let v1452 : BitVec 32 := Scalar.addi c0_i32_1166 v1451
  v1452.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_630 : BitVec 32 := 28#32
  let v1041 : BitVec 1 := Scalar.cmpi .ne v2 c28_i32_630
  let v1042 : BitVec 32 := Scalar.extui v1041
  let c0_i32_632 : BitVec 32 := 0#32
  let v1043 : BitVec 1 := Scalar.cmpi .ne v1042 c0_i32_632
  v1043

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev61 : Nat :=
  let c0_i32_1166 : BitVec 32 := 0#32
  let c28_i32_1164 : BitVec 32 := 28#32
  let c1_i32_1165 : BitVec 32 := 1#32
  let v1451 : BitVec 32 := Scalar.muli c28_i32_1164 c1_i32_1165
  let v1452 : BitVec 32 := Scalar.addi c0_i32_1166 v1451
  v1452.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_633 : BitVec 32 := 29#32
  let v1044 : BitVec 1 := Scalar.cmpi .ne v2 c29_i32_633
  let v1045 : BitVec 32 := Scalar.extui v1044
  let c0_i32_635 : BitVec 32 := 0#32
  let v1046 : BitVec 1 := Scalar.cmpi .ne v1045 c0_i32_635
  v1046

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev62 : Nat :=
  let c0_i32_1166 : BitVec 32 := 0#32
  let c29_i32_1164 : BitVec 32 := 29#32
  let c1_i32_1165 : BitVec 32 := 1#32
  let v1451 : BitVec 32 := Scalar.muli c29_i32_1164 c1_i32_1165
  let v1452 : BitVec 32 := Scalar.addi c0_i32_1166 v1451
  v1452.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_636 : BitVec 32 := 30#32
  let v1047 : BitVec 1 := Scalar.cmpi .ne v2 c30_i32_636
  let v1048 : BitVec 32 := Scalar.extui v1047
  let c0_i32_638 : BitVec 32 := 0#32
  let v1049 : BitVec 1 := Scalar.cmpi .ne v1048 c0_i32_638
  v1049

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev63 : Nat :=
  let c0_i32_1166 : BitVec 32 := 0#32
  let c30_i32_1164 : BitVec 32 := 30#32
  let c1_i32_1165 : BitVec 32 := 1#32
  let v1451 : BitVec 32 := Scalar.muli c30_i32_1164 c1_i32_1165
  let v1452 : BitVec 32 := Scalar.addi c0_i32_1166 v1451
  v1452.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_639 : BitVec 32 := 31#32
  let v1050 : BitVec 1 := Scalar.cmpi .ne v2 c31_i32_639
  let v1051 : BitVec 32 := Scalar.extui v1050
  let c0_i32_641 : BitVec 32 := 0#32
  let v1052 : BitVec 1 := Scalar.cmpi .ne v1051 c0_i32_641
  v1052

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_dev64 : Nat :=
  let c0_i32_1166 : BitVec 32 := 0#32
  let c31_i32_1164 : BitVec 32 := 31#32
  let c1_i32_1165 : BitVec 32 := 1#32
  let v1451 : BitVec 32 := Scalar.muli c31_i32_1164 c1_i32_1165
  let v1452 : BitVec 32 := Scalar.addi c0_i32_1166 v1451
  v1452.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_642 : BitVec 32 := 32#32
  let v1053 : BitVec 32 := Scalar.muli v2 c32_i32_642
  let v1054 : Index := Scalar.indexCast v1053
  let c0_643 : Index := 0#32
  ![v1054.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1056 : Index := Scalar.indexCast v2
  let c0_644 : Index := 0#32
  let c0_645 : Index := 0#32
  ![v1056.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_812 : BitVec 32 := 0#32
  let v1163 : BitVec 1 := Scalar.cmpi .ne v2 c0_i32_812
  let v1164 : BitVec 32 := Scalar.extui v1163
  let c0_i32_814 : BitVec 32 := 0#32
  let v1165 : BitVec 1 := Scalar.cmpi .ne v1164 c0_i32_814
  v1165

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev65 : Nat :=
  let c0_i32_1166 : BitVec 32 := 0#32
  let c0_i32_1164 : BitVec 32 := 0#32
  let c1_i32_1165 : BitVec 32 := 1#32
  let v1451 : BitVec 32 := Scalar.muli c0_i32_1164 c1_i32_1165
  let v1452 : BitVec 32 := Scalar.addi c0_i32_1166 v1451
  v1452.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_815 : BitVec 32 := 1#32
  let v1166 : BitVec 1 := Scalar.cmpi .ne v2 c1_i32_815
  let v1167 : BitVec 32 := Scalar.extui v1166
  let c0_i32_817 : BitVec 32 := 0#32
  let v1168 : BitVec 1 := Scalar.cmpi .ne v1167 c0_i32_817
  v1168

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev66 : Nat :=
  let c0_i32_1166 : BitVec 32 := 0#32
  let c1_i32_1164 : BitVec 32 := 1#32
  let c1_i32_1165 : BitVec 32 := 1#32
  let v1451 : BitVec 32 := Scalar.muli c1_i32_1164 c1_i32_1165
  let v1452 : BitVec 32 := Scalar.addi c0_i32_1166 v1451
  v1452.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_818 : BitVec 32 := 2#32
  let v1169 : BitVec 1 := Scalar.cmpi .ne v2 c2_i32_818
  let v1170 : BitVec 32 := Scalar.extui v1169
  let c0_i32_820 : BitVec 32 := 0#32
  let v1171 : BitVec 1 := Scalar.cmpi .ne v1170 c0_i32_820
  v1171

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev67 : Nat :=
  let c0_i32_1166 : BitVec 32 := 0#32
  let c2_i32_1164 : BitVec 32 := 2#32
  let c1_i32_1165 : BitVec 32 := 1#32
  let v1451 : BitVec 32 := Scalar.muli c2_i32_1164 c1_i32_1165
  let v1452 : BitVec 32 := Scalar.addi c0_i32_1166 v1451
  v1452.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_821 : BitVec 32 := 3#32
  let v1172 : BitVec 1 := Scalar.cmpi .ne v2 c3_i32_821
  let v1173 : BitVec 32 := Scalar.extui v1172
  let c0_i32_823 : BitVec 32 := 0#32
  let v1174 : BitVec 1 := Scalar.cmpi .ne v1173 c0_i32_823
  v1174

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev68 : Nat :=
  let c0_i32_1166 : BitVec 32 := 0#32
  let c3_i32_1164 : BitVec 32 := 3#32
  let c1_i32_1165 : BitVec 32 := 1#32
  let v1451 : BitVec 32 := Scalar.muli c3_i32_1164 c1_i32_1165
  let v1452 : BitVec 32 := Scalar.addi c0_i32_1166 v1451
  v1452.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_824 : BitVec 32 := 4#32
  let v1175 : BitVec 1 := Scalar.cmpi .ne v2 c4_i32_824
  let v1176 : BitVec 32 := Scalar.extui v1175
  let c0_i32_826 : BitVec 32 := 0#32
  let v1177 : BitVec 1 := Scalar.cmpi .ne v1176 c0_i32_826
  v1177

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev69 : Nat :=
  let c0_i32_1166 : BitVec 32 := 0#32
  let c4_i32_1164 : BitVec 32 := 4#32
  let c1_i32_1165 : BitVec 32 := 1#32
  let v1451 : BitVec 32 := Scalar.muli c4_i32_1164 c1_i32_1165
  let v1452 : BitVec 32 := Scalar.addi c0_i32_1166 v1451
  v1452.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_827 : BitVec 32 := 5#32
  let v1178 : BitVec 1 := Scalar.cmpi .ne v2 c5_i32_827
  let v1179 : BitVec 32 := Scalar.extui v1178
  let c0_i32_829 : BitVec 32 := 0#32
  let v1180 : BitVec 1 := Scalar.cmpi .ne v1179 c0_i32_829
  v1180

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev70 : Nat :=
  let c0_i32_1166 : BitVec 32 := 0#32
  let c5_i32_1164 : BitVec 32 := 5#32
  let c1_i32_1165 : BitVec 32 := 1#32
  let v1451 : BitVec 32 := Scalar.muli c5_i32_1164 c1_i32_1165
  let v1452 : BitVec 32 := Scalar.addi c0_i32_1166 v1451
  v1452.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_830 : BitVec 32 := 6#32
  let v1181 : BitVec 1 := Scalar.cmpi .ne v2 c6_i32_830
  let v1182 : BitVec 32 := Scalar.extui v1181
  let c0_i32_832 : BitVec 32 := 0#32
  let v1183 : BitVec 1 := Scalar.cmpi .ne v1182 c0_i32_832
  v1183

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev71 : Nat :=
  let c0_i32_1166 : BitVec 32 := 0#32
  let c6_i32_1164 : BitVec 32 := 6#32
  let c1_i32_1165 : BitVec 32 := 1#32
  let v1451 : BitVec 32 := Scalar.muli c6_i32_1164 c1_i32_1165
  let v1452 : BitVec 32 := Scalar.addi c0_i32_1166 v1451
  v1452.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_833 : BitVec 32 := 7#32
  let v1184 : BitVec 1 := Scalar.cmpi .ne v2 c7_i32_833
  let v1185 : BitVec 32 := Scalar.extui v1184
  let c0_i32_835 : BitVec 32 := 0#32
  let v1186 : BitVec 1 := Scalar.cmpi .ne v1185 c0_i32_835
  v1186

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev72 : Nat :=
  let c0_i32_1166 : BitVec 32 := 0#32
  let c7_i32_1164 : BitVec 32 := 7#32
  let c1_i32_1165 : BitVec 32 := 1#32
  let v1451 : BitVec 32 := Scalar.muli c7_i32_1164 c1_i32_1165
  let v1452 : BitVec 32 := Scalar.addi c0_i32_1166 v1451
  v1452.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_836 : BitVec 32 := 8#32
  let v1187 : BitVec 1 := Scalar.cmpi .ne v2 c8_i32_836
  let v1188 : BitVec 32 := Scalar.extui v1187
  let c0_i32_838 : BitVec 32 := 0#32
  let v1189 : BitVec 1 := Scalar.cmpi .ne v1188 c0_i32_838
  v1189

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev73 : Nat :=
  let c0_i32_1166 : BitVec 32 := 0#32
  let c8_i32_1164 : BitVec 32 := 8#32
  let c1_i32_1165 : BitVec 32 := 1#32
  let v1451 : BitVec 32 := Scalar.muli c8_i32_1164 c1_i32_1165
  let v1452 : BitVec 32 := Scalar.addi c0_i32_1166 v1451
  v1452.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_839 : BitVec 32 := 9#32
  let v1190 : BitVec 1 := Scalar.cmpi .ne v2 c9_i32_839
  let v1191 : BitVec 32 := Scalar.extui v1190
  let c0_i32_841 : BitVec 32 := 0#32
  let v1192 : BitVec 1 := Scalar.cmpi .ne v1191 c0_i32_841
  v1192

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev74 : Nat :=
  let c0_i32_1166 : BitVec 32 := 0#32
  let c9_i32_1164 : BitVec 32 := 9#32
  let c1_i32_1165 : BitVec 32 := 1#32
  let v1451 : BitVec 32 := Scalar.muli c9_i32_1164 c1_i32_1165
  let v1452 : BitVec 32 := Scalar.addi c0_i32_1166 v1451
  v1452.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_842 : BitVec 32 := 10#32
  let v1193 : BitVec 1 := Scalar.cmpi .ne v2 c10_i32_842
  let v1194 : BitVec 32 := Scalar.extui v1193
  let c0_i32_844 : BitVec 32 := 0#32
  let v1195 : BitVec 1 := Scalar.cmpi .ne v1194 c0_i32_844
  v1195

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev75 : Nat :=
  let c0_i32_1166 : BitVec 32 := 0#32
  let c10_i32_1164 : BitVec 32 := 10#32
  let c1_i32_1165 : BitVec 32 := 1#32
  let v1451 : BitVec 32 := Scalar.muli c10_i32_1164 c1_i32_1165
  let v1452 : BitVec 32 := Scalar.addi c0_i32_1166 v1451
  v1452.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_845 : BitVec 32 := 11#32
  let v1196 : BitVec 1 := Scalar.cmpi .ne v2 c11_i32_845
  let v1197 : BitVec 32 := Scalar.extui v1196
  let c0_i32_847 : BitVec 32 := 0#32
  let v1198 : BitVec 1 := Scalar.cmpi .ne v1197 c0_i32_847
  v1198

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev76 : Nat :=
  let c0_i32_1166 : BitVec 32 := 0#32
  let c11_i32_1164 : BitVec 32 := 11#32
  let c1_i32_1165 : BitVec 32 := 1#32
  let v1451 : BitVec 32 := Scalar.muli c11_i32_1164 c1_i32_1165
  let v1452 : BitVec 32 := Scalar.addi c0_i32_1166 v1451
  v1452.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_848 : BitVec 32 := 12#32
  let v1199 : BitVec 1 := Scalar.cmpi .ne v2 c12_i32_848
  let v1200 : BitVec 32 := Scalar.extui v1199
  let c0_i32_850 : BitVec 32 := 0#32
  let v1201 : BitVec 1 := Scalar.cmpi .ne v1200 c0_i32_850
  v1201

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev77 : Nat :=
  let c0_i32_1166 : BitVec 32 := 0#32
  let c12_i32_1164 : BitVec 32 := 12#32
  let c1_i32_1165 : BitVec 32 := 1#32
  let v1451 : BitVec 32 := Scalar.muli c12_i32_1164 c1_i32_1165
  let v1452 : BitVec 32 := Scalar.addi c0_i32_1166 v1451
  v1452.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_851 : BitVec 32 := 13#32
  let v1202 : BitVec 1 := Scalar.cmpi .ne v2 c13_i32_851
  let v1203 : BitVec 32 := Scalar.extui v1202
  let c0_i32_853 : BitVec 32 := 0#32
  let v1204 : BitVec 1 := Scalar.cmpi .ne v1203 c0_i32_853
  v1204

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev78 : Nat :=
  let c0_i32_1166 : BitVec 32 := 0#32
  let c13_i32_1164 : BitVec 32 := 13#32
  let c1_i32_1165 : BitVec 32 := 1#32
  let v1451 : BitVec 32 := Scalar.muli c13_i32_1164 c1_i32_1165
  let v1452 : BitVec 32 := Scalar.addi c0_i32_1166 v1451
  v1452.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_854 : BitVec 32 := 14#32
  let v1205 : BitVec 1 := Scalar.cmpi .ne v2 c14_i32_854
  let v1206 : BitVec 32 := Scalar.extui v1205
  let c0_i32_856 : BitVec 32 := 0#32
  let v1207 : BitVec 1 := Scalar.cmpi .ne v1206 c0_i32_856
  v1207

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev79 : Nat :=
  let c0_i32_1166 : BitVec 32 := 0#32
  let c14_i32_1164 : BitVec 32 := 14#32
  let c1_i32_1165 : BitVec 32 := 1#32
  let v1451 : BitVec 32 := Scalar.muli c14_i32_1164 c1_i32_1165
  let v1452 : BitVec 32 := Scalar.addi c0_i32_1166 v1451
  v1452.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_857 : BitVec 32 := 15#32
  let v1208 : BitVec 1 := Scalar.cmpi .ne v2 c15_i32_857
  let v1209 : BitVec 32 := Scalar.extui v1208
  let c0_i32_859 : BitVec 32 := 0#32
  let v1210 : BitVec 1 := Scalar.cmpi .ne v1209 c0_i32_859
  v1210

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev80 : Nat :=
  let c0_i32_1166 : BitVec 32 := 0#32
  let c15_i32_1164 : BitVec 32 := 15#32
  let c1_i32_1165 : BitVec 32 := 1#32
  let v1451 : BitVec 32 := Scalar.muli c15_i32_1164 c1_i32_1165
  let v1452 : BitVec 32 := Scalar.addi c0_i32_1166 v1451
  v1452.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_860 : BitVec 32 := 16#32
  let v1211 : BitVec 1 := Scalar.cmpi .ne v2 c16_i32_860
  let v1212 : BitVec 32 := Scalar.extui v1211
  let c0_i32_862 : BitVec 32 := 0#32
  let v1213 : BitVec 1 := Scalar.cmpi .ne v1212 c0_i32_862
  v1213

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev81 : Nat :=
  let c0_i32_1166 : BitVec 32 := 0#32
  let c16_i32_1164 : BitVec 32 := 16#32
  let c1_i32_1165 : BitVec 32 := 1#32
  let v1451 : BitVec 32 := Scalar.muli c16_i32_1164 c1_i32_1165
  let v1452 : BitVec 32 := Scalar.addi c0_i32_1166 v1451
  v1452.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_863 : BitVec 32 := 17#32
  let v1214 : BitVec 1 := Scalar.cmpi .ne v2 c17_i32_863
  let v1215 : BitVec 32 := Scalar.extui v1214
  let c0_i32_865 : BitVec 32 := 0#32
  let v1216 : BitVec 1 := Scalar.cmpi .ne v1215 c0_i32_865
  v1216

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev82 : Nat :=
  let c0_i32_1166 : BitVec 32 := 0#32
  let c17_i32_1164 : BitVec 32 := 17#32
  let c1_i32_1165 : BitVec 32 := 1#32
  let v1451 : BitVec 32 := Scalar.muli c17_i32_1164 c1_i32_1165
  let v1452 : BitVec 32 := Scalar.addi c0_i32_1166 v1451
  v1452.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_866 : BitVec 32 := 18#32
  let v1217 : BitVec 1 := Scalar.cmpi .ne v2 c18_i32_866
  let v1218 : BitVec 32 := Scalar.extui v1217
  let c0_i32_868 : BitVec 32 := 0#32
  let v1219 : BitVec 1 := Scalar.cmpi .ne v1218 c0_i32_868
  v1219

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev83 : Nat :=
  let c0_i32_1166 : BitVec 32 := 0#32
  let c18_i32_1164 : BitVec 32 := 18#32
  let c1_i32_1165 : BitVec 32 := 1#32
  let v1451 : BitVec 32 := Scalar.muli c18_i32_1164 c1_i32_1165
  let v1452 : BitVec 32 := Scalar.addi c0_i32_1166 v1451
  v1452.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_869 : BitVec 32 := 19#32
  let v1220 : BitVec 1 := Scalar.cmpi .ne v2 c19_i32_869
  let v1221 : BitVec 32 := Scalar.extui v1220
  let c0_i32_871 : BitVec 32 := 0#32
  let v1222 : BitVec 1 := Scalar.cmpi .ne v1221 c0_i32_871
  v1222

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev84 : Nat :=
  let c0_i32_1166 : BitVec 32 := 0#32
  let c19_i32_1164 : BitVec 32 := 19#32
  let c1_i32_1165 : BitVec 32 := 1#32
  let v1451 : BitVec 32 := Scalar.muli c19_i32_1164 c1_i32_1165
  let v1452 : BitVec 32 := Scalar.addi c0_i32_1166 v1451
  v1452.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_872 : BitVec 32 := 20#32
  let v1223 : BitVec 1 := Scalar.cmpi .ne v2 c20_i32_872
  let v1224 : BitVec 32 := Scalar.extui v1223
  let c0_i32_874 : BitVec 32 := 0#32
  let v1225 : BitVec 1 := Scalar.cmpi .ne v1224 c0_i32_874
  v1225

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev85 : Nat :=
  let c0_i32_1166 : BitVec 32 := 0#32
  let c20_i32_1164 : BitVec 32 := 20#32
  let c1_i32_1165 : BitVec 32 := 1#32
  let v1451 : BitVec 32 := Scalar.muli c20_i32_1164 c1_i32_1165
  let v1452 : BitVec 32 := Scalar.addi c0_i32_1166 v1451
  v1452.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_875 : BitVec 32 := 21#32
  let v1226 : BitVec 1 := Scalar.cmpi .ne v2 c21_i32_875
  let v1227 : BitVec 32 := Scalar.extui v1226
  let c0_i32_877 : BitVec 32 := 0#32
  let v1228 : BitVec 1 := Scalar.cmpi .ne v1227 c0_i32_877
  v1228

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev86 : Nat :=
  let c0_i32_1166 : BitVec 32 := 0#32
  let c21_i32_1164 : BitVec 32 := 21#32
  let c1_i32_1165 : BitVec 32 := 1#32
  let v1451 : BitVec 32 := Scalar.muli c21_i32_1164 c1_i32_1165
  let v1452 : BitVec 32 := Scalar.addi c0_i32_1166 v1451
  v1452.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_878 : BitVec 32 := 22#32
  let v1229 : BitVec 1 := Scalar.cmpi .ne v2 c22_i32_878
  let v1230 : BitVec 32 := Scalar.extui v1229
  let c0_i32_880 : BitVec 32 := 0#32
  let v1231 : BitVec 1 := Scalar.cmpi .ne v1230 c0_i32_880
  v1231

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev87 : Nat :=
  let c0_i32_1166 : BitVec 32 := 0#32
  let c22_i32_1164 : BitVec 32 := 22#32
  let c1_i32_1165 : BitVec 32 := 1#32
  let v1451 : BitVec 32 := Scalar.muli c22_i32_1164 c1_i32_1165
  let v1452 : BitVec 32 := Scalar.addi c0_i32_1166 v1451
  v1452.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_881 : BitVec 32 := 23#32
  let v1232 : BitVec 1 := Scalar.cmpi .ne v2 c23_i32_881
  let v1233 : BitVec 32 := Scalar.extui v1232
  let c0_i32_883 : BitVec 32 := 0#32
  let v1234 : BitVec 1 := Scalar.cmpi .ne v1233 c0_i32_883
  v1234

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev88 : Nat :=
  let c0_i32_1166 : BitVec 32 := 0#32
  let c23_i32_1164 : BitVec 32 := 23#32
  let c1_i32_1165 : BitVec 32 := 1#32
  let v1451 : BitVec 32 := Scalar.muli c23_i32_1164 c1_i32_1165
  let v1452 : BitVec 32 := Scalar.addi c0_i32_1166 v1451
  v1452.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_884 : BitVec 32 := 24#32
  let v1235 : BitVec 1 := Scalar.cmpi .ne v2 c24_i32_884
  let v1236 : BitVec 32 := Scalar.extui v1235
  let c0_i32_886 : BitVec 32 := 0#32
  let v1237 : BitVec 1 := Scalar.cmpi .ne v1236 c0_i32_886
  v1237

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev89 : Nat :=
  let c0_i32_1166 : BitVec 32 := 0#32
  let c24_i32_1164 : BitVec 32 := 24#32
  let c1_i32_1165 : BitVec 32 := 1#32
  let v1451 : BitVec 32 := Scalar.muli c24_i32_1164 c1_i32_1165
  let v1452 : BitVec 32 := Scalar.addi c0_i32_1166 v1451
  v1452.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_887 : BitVec 32 := 25#32
  let v1238 : BitVec 1 := Scalar.cmpi .ne v2 c25_i32_887
  let v1239 : BitVec 32 := Scalar.extui v1238
  let c0_i32_889 : BitVec 32 := 0#32
  let v1240 : BitVec 1 := Scalar.cmpi .ne v1239 c0_i32_889
  v1240

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev90 : Nat :=
  let c0_i32_1166 : BitVec 32 := 0#32
  let c25_i32_1164 : BitVec 32 := 25#32
  let c1_i32_1165 : BitVec 32 := 1#32
  let v1451 : BitVec 32 := Scalar.muli c25_i32_1164 c1_i32_1165
  let v1452 : BitVec 32 := Scalar.addi c0_i32_1166 v1451
  v1452.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_890 : BitVec 32 := 26#32
  let v1241 : BitVec 1 := Scalar.cmpi .ne v2 c26_i32_890
  let v1242 : BitVec 32 := Scalar.extui v1241
  let c0_i32_892 : BitVec 32 := 0#32
  let v1243 : BitVec 1 := Scalar.cmpi .ne v1242 c0_i32_892
  v1243

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev91 : Nat :=
  let c0_i32_1166 : BitVec 32 := 0#32
  let c26_i32_1164 : BitVec 32 := 26#32
  let c1_i32_1165 : BitVec 32 := 1#32
  let v1451 : BitVec 32 := Scalar.muli c26_i32_1164 c1_i32_1165
  let v1452 : BitVec 32 := Scalar.addi c0_i32_1166 v1451
  v1452.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_893 : BitVec 32 := 27#32
  let v1244 : BitVec 1 := Scalar.cmpi .ne v2 c27_i32_893
  let v1245 : BitVec 32 := Scalar.extui v1244
  let c0_i32_895 : BitVec 32 := 0#32
  let v1246 : BitVec 1 := Scalar.cmpi .ne v1245 c0_i32_895
  v1246

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev92 : Nat :=
  let c0_i32_1166 : BitVec 32 := 0#32
  let c27_i32_1164 : BitVec 32 := 27#32
  let c1_i32_1165 : BitVec 32 := 1#32
  let v1451 : BitVec 32 := Scalar.muli c27_i32_1164 c1_i32_1165
  let v1452 : BitVec 32 := Scalar.addi c0_i32_1166 v1451
  v1452.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_896 : BitVec 32 := 28#32
  let v1247 : BitVec 1 := Scalar.cmpi .ne v2 c28_i32_896
  let v1248 : BitVec 32 := Scalar.extui v1247
  let c0_i32_898 : BitVec 32 := 0#32
  let v1249 : BitVec 1 := Scalar.cmpi .ne v1248 c0_i32_898
  v1249

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev93 : Nat :=
  let c0_i32_1166 : BitVec 32 := 0#32
  let c28_i32_1164 : BitVec 32 := 28#32
  let c1_i32_1165 : BitVec 32 := 1#32
  let v1451 : BitVec 32 := Scalar.muli c28_i32_1164 c1_i32_1165
  let v1452 : BitVec 32 := Scalar.addi c0_i32_1166 v1451
  v1452.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_899 : BitVec 32 := 29#32
  let v1250 : BitVec 1 := Scalar.cmpi .ne v2 c29_i32_899
  let v1251 : BitVec 32 := Scalar.extui v1250
  let c0_i32_901 : BitVec 32 := 0#32
  let v1252 : BitVec 1 := Scalar.cmpi .ne v1251 c0_i32_901
  v1252

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev94 : Nat :=
  let c0_i32_1166 : BitVec 32 := 0#32
  let c29_i32_1164 : BitVec 32 := 29#32
  let c1_i32_1165 : BitVec 32 := 1#32
  let v1451 : BitVec 32 := Scalar.muli c29_i32_1164 c1_i32_1165
  let v1452 : BitVec 32 := Scalar.addi c0_i32_1166 v1451
  v1452.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_902 : BitVec 32 := 30#32
  let v1253 : BitVec 1 := Scalar.cmpi .ne v2 c30_i32_902
  let v1254 : BitVec 32 := Scalar.extui v1253
  let c0_i32_904 : BitVec 32 := 0#32
  let v1255 : BitVec 1 := Scalar.cmpi .ne v1254 c0_i32_904
  v1255

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev95 : Nat :=
  let c0_i32_1166 : BitVec 32 := 0#32
  let c30_i32_1164 : BitVec 32 := 30#32
  let c1_i32_1165 : BitVec 32 := 1#32
  let v1451 : BitVec 32 := Scalar.muli c30_i32_1164 c1_i32_1165
  let v1452 : BitVec 32 := Scalar.addi c0_i32_1166 v1451
  v1452.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_905 : BitVec 32 := 31#32
  let v1256 : BitVec 1 := Scalar.cmpi .ne v2 c31_i32_905
  let v1257 : BitVec 32 := Scalar.extui v1256
  let c0_i32_907 : BitVec 32 := 0#32
  let v1258 : BitVec 1 := Scalar.cmpi .ne v1257 c0_i32_907
  v1258

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1167 : BitVec 32 := 0#32
  ![v1159.toNat, 0]
def k0_dev96 : Nat :=
  let c0_i32_1166 : BitVec 32 := 0#32
  let c31_i32_1164 : BitVec 32 := 31#32
  let c1_i32_1165 : BitVec 32 := 1#32
  let v1451 : BitVec 32 := Scalar.muli c31_i32_1164 c1_i32_1165
  let v1452 : BitVec 32 := Scalar.addi c0_i32_1166 v1451
  v1452.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_908 : BitVec 32 := 0#32
  let v1259 : BitVec 1 := Scalar.cmpi .ne v2 c0_i32_908
  let v1260 : BitVec 32 := Scalar.extui v1259
  let c0_i32_911 : BitVec 32 := 0#32
  let v1261 : BitVec 1 := Scalar.cmpi .ne v1260 c0_i32_911
  v1261

def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_912 : BitVec 32 := 1#32
  let v1262 : BitVec 1 := Scalar.cmpi .ne v2 c1_i32_912
  let v1263 : BitVec 32 := Scalar.extui v1262
  let c0_i32_915 : BitVec 32 := 0#32
  let v1264 : BitVec 1 := Scalar.cmpi .ne v1263 c0_i32_915
  v1264

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_916 : BitVec 32 := 2#32
  let v1265 : BitVec 1 := Scalar.cmpi .ne v2 c2_i32_916
  let v1266 : BitVec 32 := Scalar.extui v1265
  let c0_i32_919 : BitVec 32 := 0#32
  let v1267 : BitVec 1 := Scalar.cmpi .ne v1266 c0_i32_919
  v1267

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_920 : BitVec 32 := 3#32
  let v1268 : BitVec 1 := Scalar.cmpi .ne v2 c3_i32_920
  let v1269 : BitVec 32 := Scalar.extui v1268
  let c0_i32_923 : BitVec 32 := 0#32
  let v1270 : BitVec 1 := Scalar.cmpi .ne v1269 c0_i32_923
  v1270

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_924 : BitVec 32 := 4#32
  let v1271 : BitVec 1 := Scalar.cmpi .ne v2 c4_i32_924
  let v1272 : BitVec 32 := Scalar.extui v1271
  let c0_i32_927 : BitVec 32 := 0#32
  let v1273 : BitVec 1 := Scalar.cmpi .ne v1272 c0_i32_927
  v1273

def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_928 : BitVec 32 := 5#32
  let v1274 : BitVec 1 := Scalar.cmpi .ne v2 c5_i32_928
  let v1275 : BitVec 32 := Scalar.extui v1274
  let c0_i32_931 : BitVec 32 := 0#32
  let v1276 : BitVec 1 := Scalar.cmpi .ne v1275 c0_i32_931
  v1276

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_932 : BitVec 32 := 6#32
  let v1277 : BitVec 1 := Scalar.cmpi .ne v2 c6_i32_932
  let v1278 : BitVec 32 := Scalar.extui v1277
  let c0_i32_935 : BitVec 32 := 0#32
  let v1279 : BitVec 1 := Scalar.cmpi .ne v1278 c0_i32_935
  v1279

def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_936 : BitVec 32 := 7#32
  let v1280 : BitVec 1 := Scalar.cmpi .ne v2 c7_i32_936
  let v1281 : BitVec 32 := Scalar.extui v1280
  let c0_i32_939 : BitVec 32 := 0#32
  let v1282 : BitVec 1 := Scalar.cmpi .ne v1281 c0_i32_939
  v1282

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_940 : BitVec 32 := 8#32
  let v1283 : BitVec 1 := Scalar.cmpi .ne v2 c8_i32_940
  let v1284 : BitVec 32 := Scalar.extui v1283
  let c0_i32_943 : BitVec 32 := 0#32
  let v1285 : BitVec 1 := Scalar.cmpi .ne v1284 c0_i32_943
  v1285

def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_944 : BitVec 32 := 9#32
  let v1286 : BitVec 1 := Scalar.cmpi .ne v2 c9_i32_944
  let v1287 : BitVec 32 := Scalar.extui v1286
  let c0_i32_947 : BitVec 32 := 0#32
  let v1288 : BitVec 1 := Scalar.cmpi .ne v1287 c0_i32_947
  v1288

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_948 : BitVec 32 := 10#32
  let v1289 : BitVec 1 := Scalar.cmpi .ne v2 c10_i32_948
  let v1290 : BitVec 32 := Scalar.extui v1289
  let c0_i32_951 : BitVec 32 := 0#32
  let v1291 : BitVec 1 := Scalar.cmpi .ne v1290 c0_i32_951
  v1291

def k0_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_952 : BitVec 32 := 11#32
  let v1292 : BitVec 1 := Scalar.cmpi .ne v2 c11_i32_952
  let v1293 : BitVec 32 := Scalar.extui v1292
  let c0_i32_955 : BitVec 32 := 0#32
  let v1294 : BitVec 1 := Scalar.cmpi .ne v1293 c0_i32_955
  v1294

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_956 : BitVec 32 := 12#32
  let v1295 : BitVec 1 := Scalar.cmpi .ne v2 c12_i32_956
  let v1296 : BitVec 32 := Scalar.extui v1295
  let c0_i32_959 : BitVec 32 := 0#32
  let v1297 : BitVec 1 := Scalar.cmpi .ne v1296 c0_i32_959
  v1297

def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_960 : BitVec 32 := 13#32
  let v1298 : BitVec 1 := Scalar.cmpi .ne v2 c13_i32_960
  let v1299 : BitVec 32 := Scalar.extui v1298
  let c0_i32_963 : BitVec 32 := 0#32
  let v1300 : BitVec 1 := Scalar.cmpi .ne v1299 c0_i32_963
  v1300

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_964 : BitVec 32 := 14#32
  let v1301 : BitVec 1 := Scalar.cmpi .ne v2 c14_i32_964
  let v1302 : BitVec 32 := Scalar.extui v1301
  let c0_i32_967 : BitVec 32 := 0#32
  let v1303 : BitVec 1 := Scalar.cmpi .ne v1302 c0_i32_967
  v1303

def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_968 : BitVec 32 := 15#32
  let v1304 : BitVec 1 := Scalar.cmpi .ne v2 c15_i32_968
  let v1305 : BitVec 32 := Scalar.extui v1304
  let c0_i32_971 : BitVec 32 := 0#32
  let v1306 : BitVec 1 := Scalar.cmpi .ne v1305 c0_i32_971
  v1306

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_972 : BitVec 32 := 16#32
  let v1307 : BitVec 1 := Scalar.cmpi .ne v2 c16_i32_972
  let v1308 : BitVec 32 := Scalar.extui v1307
  let c0_i32_975 : BitVec 32 := 0#32
  let v1309 : BitVec 1 := Scalar.cmpi .ne v1308 c0_i32_975
  v1309

def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_976 : BitVec 32 := 17#32
  let v1310 : BitVec 1 := Scalar.cmpi .ne v2 c17_i32_976
  let v1311 : BitVec 32 := Scalar.extui v1310
  let c0_i32_979 : BitVec 32 := 0#32
  let v1312 : BitVec 1 := Scalar.cmpi .ne v1311 c0_i32_979
  v1312

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_980 : BitVec 32 := 18#32
  let v1313 : BitVec 1 := Scalar.cmpi .ne v2 c18_i32_980
  let v1314 : BitVec 32 := Scalar.extui v1313
  let c0_i32_983 : BitVec 32 := 0#32
  let v1315 : BitVec 1 := Scalar.cmpi .ne v1314 c0_i32_983
  v1315

def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_984 : BitVec 32 := 19#32
  let v1316 : BitVec 1 := Scalar.cmpi .ne v2 c19_i32_984
  let v1317 : BitVec 32 := Scalar.extui v1316
  let c0_i32_987 : BitVec 32 := 0#32
  let v1318 : BitVec 1 := Scalar.cmpi .ne v1317 c0_i32_987
  v1318

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_988 : BitVec 32 := 20#32
  let v1319 : BitVec 1 := Scalar.cmpi .ne v2 c20_i32_988
  let v1320 : BitVec 32 := Scalar.extui v1319
  let c0_i32_991 : BitVec 32 := 0#32
  let v1321 : BitVec 1 := Scalar.cmpi .ne v1320 c0_i32_991
  v1321

def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_992 : BitVec 32 := 21#32
  let v1322 : BitVec 1 := Scalar.cmpi .ne v2 c21_i32_992
  let v1323 : BitVec 32 := Scalar.extui v1322
  let c0_i32_995 : BitVec 32 := 0#32
  let v1324 : BitVec 1 := Scalar.cmpi .ne v1323 c0_i32_995
  v1324

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_996 : BitVec 32 := 22#32
  let v1325 : BitVec 1 := Scalar.cmpi .ne v2 c22_i32_996
  let v1326 : BitVec 32 := Scalar.extui v1325
  let c0_i32_999 : BitVec 32 := 0#32
  let v1327 : BitVec 1 := Scalar.cmpi .ne v1326 c0_i32_999
  v1327

def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1000 : BitVec 32 := 23#32
  let v1328 : BitVec 1 := Scalar.cmpi .ne v2 c23_i32_1000
  let v1329 : BitVec 32 := Scalar.extui v1328
  let c0_i32_1003 : BitVec 32 := 0#32
  let v1330 : BitVec 1 := Scalar.cmpi .ne v1329 c0_i32_1003
  v1330

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1004 : BitVec 32 := 24#32
  let v1331 : BitVec 1 := Scalar.cmpi .ne v2 c24_i32_1004
  let v1332 : BitVec 32 := Scalar.extui v1331
  let c0_i32_1007 : BitVec 32 := 0#32
  let v1333 : BitVec 1 := Scalar.cmpi .ne v1332 c0_i32_1007
  v1333

def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1169 : BitVec 32 := 0#32
  ![v1159.toNat, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1008 : BitVec 32 := 25#32
  let v1334 : BitVec 1 := Scalar.cmpi .ne v2 c25_i32_1008
  let v1335 : BitVec 32 := Scalar.extui v1334
  let c0_i32_1011 : BitVec 32 := 0#32
  let v1336 : BitVec 1 := Scalar.cmpi .ne v1335 c0_i32_1011
  v1336

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1012 : BitVec 32 := 26#32
  let v1337 : BitVec 1 := Scalar.cmpi .ne v2 c26_i32_1012
  let v1338 : BitVec 32 := Scalar.extui v1337
  let c0_i32_1015 : BitVec 32 := 0#32
  let v1339 : BitVec 1 := Scalar.cmpi .ne v1338 c0_i32_1015
  v1339

def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1016 : BitVec 32 := 27#32
  let v1340 : BitVec 1 := Scalar.cmpi .ne v2 c27_i32_1016
  let v1341 : BitVec 32 := Scalar.extui v1340
  let c0_i32_1019 : BitVec 32 := 0#32
  let v1342 : BitVec 1 := Scalar.cmpi .ne v1341 c0_i32_1019
  v1342

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1020 : BitVec 32 := 28#32
  let v1343 : BitVec 1 := Scalar.cmpi .ne v2 c28_i32_1020
  let v1344 : BitVec 32 := Scalar.extui v1343
  let c0_i32_1023 : BitVec 32 := 0#32
  let v1345 : BitVec 1 := Scalar.cmpi .ne v1344 c0_i32_1023
  v1345

def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1024 : BitVec 32 := 29#32
  let v1346 : BitVec 1 := Scalar.cmpi .ne v2 c29_i32_1024
  let v1347 : BitVec 32 := Scalar.extui v1346
  let c0_i32_1027 : BitVec 32 := 0#32
  let v1348 : BitVec 1 := Scalar.cmpi .ne v1347 c0_i32_1027
  v1348

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1028 : BitVec 32 := 30#32
  let v1349 : BitVec 1 := Scalar.cmpi .ne v2 c30_i32_1028
  let v1350 : BitVec 32 := Scalar.extui v1349
  let c0_i32_1031 : BitVec 32 := 0#32
  let v1351 : BitVec 1 := Scalar.cmpi .ne v1350 c0_i32_1031
  v1351

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1032 : BitVec 32 := 31#32
  let v1352 : BitVec 1 := Scalar.cmpi .ne v2 c31_i32_1032
  let v1353 : BitVec 32 := Scalar.extui v1352
  let c0_i32_1035 : BitVec 32 := 0#32
  let v1354 : BitVec 1 := Scalar.cmpi .ne v1353 c0_i32_1035
  v1354

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1168 : BitVec 32 := 0#32
  ![v1159.toNat, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1036 : BitVec 32 := 0#32
  let v1355 : BitVec 1 := Scalar.cmpi .ne v2 c0_i32_1036
  let v1356 : BitVec 32 := Scalar.extui v1355
  let c0_i32_1039 : BitVec 32 := 0#32
  let v1357 : BitVec 1 := Scalar.cmpi .ne v1356 c0_i32_1039
  v1357

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1040 : BitVec 32 := 1#32
  let v1358 : BitVec 1 := Scalar.cmpi .ne v2 c1_i32_1040
  let v1359 : BitVec 32 := Scalar.extui v1358
  let c0_i32_1043 : BitVec 32 := 0#32
  let v1360 : BitVec 1 := Scalar.cmpi .ne v1359 c0_i32_1043
  v1360

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1044 : BitVec 32 := 2#32
  let v1361 : BitVec 1 := Scalar.cmpi .ne v2 c2_i32_1044
  let v1362 : BitVec 32 := Scalar.extui v1361
  let c0_i32_1047 : BitVec 32 := 0#32
  let v1363 : BitVec 1 := Scalar.cmpi .ne v1362 c0_i32_1047
  v1363

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1048 : BitVec 32 := 3#32
  let v1364 : BitVec 1 := Scalar.cmpi .ne v2 c3_i32_1048
  let v1365 : BitVec 32 := Scalar.extui v1364
  let c0_i32_1051 : BitVec 32 := 0#32
  let v1366 : BitVec 1 := Scalar.cmpi .ne v1365 c0_i32_1051
  v1366

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1052 : BitVec 32 := 4#32
  let v1367 : BitVec 1 := Scalar.cmpi .ne v2 c4_i32_1052
  let v1368 : BitVec 32 := Scalar.extui v1367
  let c0_i32_1055 : BitVec 32 := 0#32
  let v1369 : BitVec 1 := Scalar.cmpi .ne v1368 c0_i32_1055
  v1369

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1056 : BitVec 32 := 5#32
  let v1370 : BitVec 1 := Scalar.cmpi .ne v2 c5_i32_1056
  let v1371 : BitVec 32 := Scalar.extui v1370
  let c0_i32_1059 : BitVec 32 := 0#32
  let v1372 : BitVec 1 := Scalar.cmpi .ne v1371 c0_i32_1059
  v1372

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1060 : BitVec 32 := 6#32
  let v1373 : BitVec 1 := Scalar.cmpi .ne v2 c6_i32_1060
  let v1374 : BitVec 32 := Scalar.extui v1373
  let c0_i32_1063 : BitVec 32 := 0#32
  let v1375 : BitVec 1 := Scalar.cmpi .ne v1374 c0_i32_1063
  v1375

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1064 : BitVec 32 := 7#32
  let v1376 : BitVec 1 := Scalar.cmpi .ne v2 c7_i32_1064
  let v1377 : BitVec 32 := Scalar.extui v1376
  let c0_i32_1067 : BitVec 32 := 0#32
  let v1378 : BitVec 1 := Scalar.cmpi .ne v1377 c0_i32_1067
  v1378

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1068 : BitVec 32 := 8#32
  let v1379 : BitVec 1 := Scalar.cmpi .ne v2 c8_i32_1068
  let v1380 : BitVec 32 := Scalar.extui v1379
  let c0_i32_1071 : BitVec 32 := 0#32
  let v1381 : BitVec 1 := Scalar.cmpi .ne v1380 c0_i32_1071
  v1381

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1072 : BitVec 32 := 9#32
  let v1382 : BitVec 1 := Scalar.cmpi .ne v2 c9_i32_1072
  let v1383 : BitVec 32 := Scalar.extui v1382
  let c0_i32_1075 : BitVec 32 := 0#32
  let v1384 : BitVec 1 := Scalar.cmpi .ne v1383 c0_i32_1075
  v1384

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1076 : BitVec 32 := 10#32
  let v1385 : BitVec 1 := Scalar.cmpi .ne v2 c10_i32_1076
  let v1386 : BitVec 32 := Scalar.extui v1385
  let c0_i32_1079 : BitVec 32 := 0#32
  let v1387 : BitVec 1 := Scalar.cmpi .ne v1386 c0_i32_1079
  v1387

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1080 : BitVec 32 := 11#32
  let v1388 : BitVec 1 := Scalar.cmpi .ne v2 c11_i32_1080
  let v1389 : BitVec 32 := Scalar.extui v1388
  let c0_i32_1083 : BitVec 32 := 0#32
  let v1390 : BitVec 1 := Scalar.cmpi .ne v1389 c0_i32_1083
  v1390

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1084 : BitVec 32 := 12#32
  let v1391 : BitVec 1 := Scalar.cmpi .ne v2 c12_i32_1084
  let v1392 : BitVec 32 := Scalar.extui v1391
  let c0_i32_1087 : BitVec 32 := 0#32
  let v1393 : BitVec 1 := Scalar.cmpi .ne v1392 c0_i32_1087
  v1393

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1088 : BitVec 32 := 13#32
  let v1394 : BitVec 1 := Scalar.cmpi .ne v2 c13_i32_1088
  let v1395 : BitVec 32 := Scalar.extui v1394
  let c0_i32_1091 : BitVec 32 := 0#32
  let v1396 : BitVec 1 := Scalar.cmpi .ne v1395 c0_i32_1091
  v1396

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1092 : BitVec 32 := 14#32
  let v1397 : BitVec 1 := Scalar.cmpi .ne v2 c14_i32_1092
  let v1398 : BitVec 32 := Scalar.extui v1397
  let c0_i32_1095 : BitVec 32 := 0#32
  let v1399 : BitVec 1 := Scalar.cmpi .ne v1398 c0_i32_1095
  v1399

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1096 : BitVec 32 := 15#32
  let v1400 : BitVec 1 := Scalar.cmpi .ne v2 c15_i32_1096
  let v1401 : BitVec 32 := Scalar.extui v1400
  let c0_i32_1099 : BitVec 32 := 0#32
  let v1402 : BitVec 1 := Scalar.cmpi .ne v1401 c0_i32_1099
  v1402

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off194 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1100 : BitVec 32 := 16#32
  let v1403 : BitVec 1 := Scalar.cmpi .ne v2 c16_i32_1100
  let v1404 : BitVec 32 := Scalar.extui v1403
  let c0_i32_1103 : BitVec 32 := 0#32
  let v1405 : BitVec 1 := Scalar.cmpi .ne v1404 c0_i32_1103
  v1405

def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off196 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1104 : BitVec 32 := 17#32
  let v1406 : BitVec 1 := Scalar.cmpi .ne v2 c17_i32_1104
  let v1407 : BitVec 32 := Scalar.extui v1406
  let c0_i32_1107 : BitVec 32 := 0#32
  let v1408 : BitVec 1 := Scalar.cmpi .ne v1407 c0_i32_1107
  v1408

def k0_off197 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off198 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1108 : BitVec 32 := 18#32
  let v1409 : BitVec 1 := Scalar.cmpi .ne v2 c18_i32_1108
  let v1410 : BitVec 32 := Scalar.extui v1409
  let c0_i32_1111 : BitVec 32 := 0#32
  let v1411 : BitVec 1 := Scalar.cmpi .ne v1410 c0_i32_1111
  v1411

def k0_off199 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off200 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1112 : BitVec 32 := 19#32
  let v1412 : BitVec 1 := Scalar.cmpi .ne v2 c19_i32_1112
  let v1413 : BitVec 32 := Scalar.extui v1412
  let c0_i32_1115 : BitVec 32 := 0#32
  let v1414 : BitVec 1 := Scalar.cmpi .ne v1413 c0_i32_1115
  v1414

def k0_off201 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off202 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1116 : BitVec 32 := 20#32
  let v1415 : BitVec 1 := Scalar.cmpi .ne v2 c20_i32_1116
  let v1416 : BitVec 32 := Scalar.extui v1415
  let c0_i32_1119 : BitVec 32 := 0#32
  let v1417 : BitVec 1 := Scalar.cmpi .ne v1416 c0_i32_1119
  v1417

def k0_off203 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off204 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1120 : BitVec 32 := 21#32
  let v1418 : BitVec 1 := Scalar.cmpi .ne v2 c21_i32_1120
  let v1419 : BitVec 32 := Scalar.extui v1418
  let c0_i32_1123 : BitVec 32 := 0#32
  let v1420 : BitVec 1 := Scalar.cmpi .ne v1419 c0_i32_1123
  v1420

def k0_off205 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off206 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1124 : BitVec 32 := 22#32
  let v1421 : BitVec 1 := Scalar.cmpi .ne v2 c22_i32_1124
  let v1422 : BitVec 32 := Scalar.extui v1421
  let c0_i32_1127 : BitVec 32 := 0#32
  let v1423 : BitVec 1 := Scalar.cmpi .ne v1422 c0_i32_1127
  v1423

def k0_off207 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off208 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1128 : BitVec 32 := 23#32
  let v1424 : BitVec 1 := Scalar.cmpi .ne v2 c23_i32_1128
  let v1425 : BitVec 32 := Scalar.extui v1424
  let c0_i32_1131 : BitVec 32 := 0#32
  let v1426 : BitVec 1 := Scalar.cmpi .ne v1425 c0_i32_1131
  v1426

def k0_off209 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off210 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1132 : BitVec 32 := 24#32
  let v1427 : BitVec 1 := Scalar.cmpi .ne v2 c24_i32_1132
  let v1428 : BitVec 32 := Scalar.extui v1427
  let c0_i32_1135 : BitVec 32 := 0#32
  let v1429 : BitVec 1 := Scalar.cmpi .ne v1428 c0_i32_1135
  v1429

def k0_off211 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1168 : BitVec 32 := 0#32
  let c0_i32_1169 : BitVec 32 := 0#32
  ![v2.toNat, 0, 0]
def k0_off212 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1172 : BitVec 32 := 0#32
  ![v1159.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1136 : BitVec 32 := 25#32
  let v1430 : BitVec 1 := Scalar.cmpi .ne v2 c25_i32_1136
  let v1431 : BitVec 32 := Scalar.extui v1430
  let c0_i32_1139 : BitVec 32 := 0#32
  let v1432 : BitVec 1 := Scalar.cmpi .ne v1431 c0_i32_1139
  v1432

def k0_off213 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off214 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1140 : BitVec 32 := 26#32
  let v1433 : BitVec 1 := Scalar.cmpi .ne v2 c26_i32_1140
  let v1434 : BitVec 32 := Scalar.extui v1433
  let c0_i32_1143 : BitVec 32 := 0#32
  let v1435 : BitVec 1 := Scalar.cmpi .ne v1434 c0_i32_1143
  v1435

def k0_off215 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off216 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1144 : BitVec 32 := 27#32
  let v1436 : BitVec 1 := Scalar.cmpi .ne v2 c27_i32_1144
  let v1437 : BitVec 32 := Scalar.extui v1436
  let c0_i32_1147 : BitVec 32 := 0#32
  let v1438 : BitVec 1 := Scalar.cmpi .ne v1437 c0_i32_1147
  v1438

def k0_off217 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off218 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1148 : BitVec 32 := 28#32
  let v1439 : BitVec 1 := Scalar.cmpi .ne v2 c28_i32_1148
  let v1440 : BitVec 32 := Scalar.extui v1439
  let c0_i32_1151 : BitVec 32 := 0#32
  let v1441 : BitVec 1 := Scalar.cmpi .ne v1440 c0_i32_1151
  v1441

def k0_off219 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off220 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1152 : BitVec 32 := 29#32
  let v1442 : BitVec 1 := Scalar.cmpi .ne v2 c29_i32_1152
  let v1443 : BitVec 32 := Scalar.extui v1442
  let c0_i32_1155 : BitVec 32 := 0#32
  let v1444 : BitVec 1 := Scalar.cmpi .ne v1443 c0_i32_1155
  v1444

def k0_off221 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off222 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1156 : BitVec 32 := 30#32
  let v1445 : BitVec 1 := Scalar.cmpi .ne v2 c30_i32_1156
  let v1446 : BitVec 32 := Scalar.extui v1445
  let c0_i32_1159 : BitVec 32 := 0#32
  let v1447 : BitVec 1 := Scalar.cmpi .ne v1446 c0_i32_1159
  v1447

def k0_off223 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off224 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1160 : BitVec 32 := 31#32
  let v1448 : BitVec 1 := Scalar.cmpi .ne v2 c31_i32_1160
  let v1449 : BitVec 32 := Scalar.extui v1448
  let c0_i32_1163 : BitVec 32 := 0#32
  let v1450 : BitVec 1 := Scalar.cmpi .ne v1449 c0_i32_1163
  v1450

def k0_off225 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let c0_i32_1168 : BitVec 32 := 0#32
  ![v2.toNat, 0, 0]
def k0_off226 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_810 : BitVec 32 := 32#32
  let v1159 : BitVec 32 := Scalar.muli v2 c32_i32_810
  let c0_i32_1171 : BitVec 32 := 0#32
  ![v1159.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x32768 : Shape := ⟨2, ![1024, 32768]⟩
abbrev S256x1024x128 : Shape := ⟨3, ![256, 1024, 128]⟩
abbrev S32768x1024 : Shape := ⟨2, ![32768, 1024]⟩
abbrev S1024x256x128 : Shape := ⟨3, ![1024, 256, 128]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S256x1024x1024 : Shape := ⟨3, ![256, 1024, 1024]⟩
abbrev S1x1024x1024 : Shape := ⟨3, ![1, 1024, 1024]⟩
abbrev S256x1024 : Shape := ⟨2, ![256, 1024]⟩
abbrev S256x1024x1 : Shape := ⟨3, ![256, 1024, 1]⟩
abbrev S1x1024x1 : Shape := ⟨3, ![1, 1024, 1]⟩
abbrev S256x128x1024 : Shape := ⟨3, ![256, 128, 1024]⟩

abbrev nBuf : Space → Nat
  | .hbm => 63
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x32768, .bf16⟩
  | .hbm, ⟨2, _⟩ => ⟨S256x1024x128, .bf16⟩
  | .hbm, ⟨3, _⟩ => ⟨S256x1024x128, .bf16⟩
  | .hbm, ⟨4, _⟩ => ⟨S32768x1024, .bf16⟩
  | .hbm, ⟨5, _⟩ => ⟨S1024x1024, .f32⟩
  | .hbm, ⟨6, _⟩ => ⟨S1024x32768, .f32⟩
  | .hbm, ⟨7, _⟩ => ⟨S256x1024x128, .f32⟩
  | .hbm, ⟨8, _⟩ => ⟨S256x1024x128, .f32⟩
  | .hbm, ⟨9, _⟩ => ⟨S32768x1024, .f32⟩
  | .hbm, ⟨10, _⟩ => ⟨S1024x32768, .f32⟩
  | .hbm, ⟨11, _⟩ => ⟨S1024x256x128, .f32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S1x1024, .i32⟩
  | .hbm, ⟨16, _⟩ => ⟨S1024x1024, .i32⟩
  | .hbm, ⟨17, _⟩ => ⟨S1024x1024, .i32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i1⟩
  | .hbm, ⟨23, _⟩ => ⟨S256x1024x1024, .f32⟩
  | .hbm, ⟨24, _⟩ => ⟨S_, .f32⟩
  | .hbm, ⟨25, _⟩ => ⟨S256x1024x1024, .f32⟩
  | .hbm, ⟨26, _⟩ => ⟨S256x1024x1024, .f32⟩
  | .hbm, ⟨27, _⟩ => ⟨S1x1024x1024, .i1⟩
  | .hbm, ⟨28, _⟩ => ⟨S_, .f32⟩
  | .hbm, ⟨29, _⟩ => ⟨S_, .f32⟩
  | .hbm, ⟨30, _⟩ => ⟨S256x1024x1024, .i1⟩
  | .hbm, ⟨31, _⟩ => ⟨S256x1024x1024, .f32⟩
  | .hbm, ⟨32, _⟩ => ⟨S256x1024x1024, .f32⟩
  | .hbm, ⟨33, _⟩ => ⟨S_, .f32⟩
  | .hbm, ⟨34, _⟩ => ⟨S256x1024, .f32⟩
  | .hbm, ⟨35, _⟩ => ⟨S256x1024x1, .f32⟩
  | .hbm, ⟨36, _⟩ => ⟨S256x1024x1024, .f32⟩
  | .hbm, ⟨37, _⟩ => ⟨S256x1024x1024, .f32⟩
  | .hbm, ⟨38, _⟩ => ⟨S256x1024x1024, .f32⟩
  | .hbm, ⟨39, _⟩ => ⟨S_, .i1⟩
  | .hbm, ⟨40, _⟩ => ⟨S1024, .i1⟩
  | .hbm, ⟨41, _⟩ => ⟨S1x1024x1, .i1⟩
  | .hbm, ⟨42, _⟩ => ⟨S_, .f32⟩
  | .hbm, ⟨43, _⟩ => ⟨S256x1024, .f32⟩
  | .hbm, ⟨44, _⟩ => ⟨S256x1024x1, .f32⟩
  | .hbm, ⟨45, _⟩ => ⟨S_, .f32⟩
  | .hbm, ⟨46, _⟩ => ⟨S_, .f32⟩
  | .hbm, ⟨47, _⟩ => ⟨S256x1024x1, .i1⟩
  | .hbm, ⟨48, _⟩ => ⟨S256x1024x1, .f32⟩
  | .hbm, ⟨49, _⟩ => ⟨S256x1024x1, .f32⟩
  | .hbm, ⟨50, _⟩ => ⟨S256x1024x1024, .f32⟩
  | .hbm, ⟨51, _⟩ => ⟨S256x1024x1024, .f32⟩
  | .hbm, ⟨52, _⟩ => ⟨S1x1024x1, .i1⟩
  | .hbm, ⟨53, _⟩ => ⟨S_, .f32⟩
  | .hbm, ⟨54, _⟩ => ⟨S_, .f32⟩
  | .hbm, ⟨55, _⟩ => ⟨S256x1024x1024, .i1⟩
  | .hbm, ⟨56, _⟩ => ⟨S256x1024x1024, .f32⟩
  | .hbm, ⟨57, _⟩ => ⟨S256x1024x1024, .f32⟩
  | .hbm, ⟨58, _⟩ => ⟨S256x128x1024, .f32⟩
  | .hbm, ⟨59, _⟩ => ⟨S1024x256x128, .f32⟩
  | .hbm, ⟨60, _⟩ => ⟨S1024x32768, .f32⟩
  | .hbm, ⟨61, _⟩ => ⟨S1024x1024, .f32⟩
  | .hbm, ⟨62, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.KernelIdeal.Contents.lean ====
/-
  What the kernel's buffers hold on each device: one head's attention output for one block of 256 rows, the context rows
  of a block, the partial product with the device's rows of `Wo`, what the reduce-scatter gathers in its receive buffer,
  the rows a device sums, and the array the all-gather assembles.
-/
module

public import proofs.«01_k».proof.Proof.Gen.KernelIdeal
public import proofs.«01_k».proof.Proof.Gen.KernelIdeal.Skeleton
public import Idealize.ShloMosaic.Lib.ValueIdxCore

@[expose] public section

noncomputable section

namespace Cert.KernelIdeal.Exchange

open Cert.KernelIdeal Cert.KernelIdeal.Gen
open Idealize.ShloMosaic Idealize.ShloMosaic.ValueIdx

variable {F : FTy → Type} [FloatOps F] [Named F]

/-- The five operands of the call, device by device. -/
structure Ins (F : FTy → Type) where
  /-- the activations, the same rows and columns on every device -/
  x : Dev nD → Vec F S1024x1024 .bf16
  /-- the device's columns of the query projection -/
  wq : Dev nD → Vec F S1024x1024 .bf16
  /-- the keys of the device's heads -/
  k : Dev nD → Vec F S8x1024x128 .bf16
  /-- the values of the device's heads -/
  v : Dev nD → Vec F S8x1024x128 .bf16
  /-- the device's rows of the output projection -/
  wo : Dev nD → Vec F S1024x1024 .bf16

/-- The first column of the band that a block of 256 rows reads. -/
def bandStart : Fin 4 → ℕ := fun | 0 => 0 | 1 => 128 | 2 => 384 | 3 => 512

theorem bandStart_le (rb : Fin 4) : bandStart rb + 512 ≤ 1024 := by revert rb; decide

/-- The additive mask of a block of rows: zero inside the band, the named constant outside. -/
def bias : Fin 4 → FVec F S256x512 .f32
  | 0 => k0_pay3
  | 1 => k0_pay21 k0_pay20 (Scalar.ofBits .f32 0x00000000#32)
  | 2 => k0_pay39
  | 3 => k0_pay57

theorem window_inb (h : Fin 8) (rb : Fin 4) :
    ∀ a, (![h.val, bandStart rb, 0] : Fin 3 → ℕ) a + S1x512x128.size a ≤ S8x1024x128.size a := by
  revert h rb; decide

/-- The 512 rows of head `h` of a key or value array that row block `rb` reads. -/
def window (kv : Vec F S8x1024x128 .bf16) (rb : Fin 4) (h : Fin 8) : Vec F S1x512x128 .bf16 :=
  fun i => kv ((Rect.unit (s := S8x1024x128) ![h.val, bandStart rb, 0] S1x512x128.size (window_inb h rb)).emb i)

theorem head_slices (rb : Fin 4) (h : Fin 8) : S1024x1024.Slices ![256 * rb.val, 128 * h.val] S256x128 := by
  revert rb h; decide

/-- One head's attention output for 256 rows of queries against 512 keys and values under the mask `b`. -/
def attend (q : FVec F S256x128 .f32) (b : FVec F S256x512 .f32) (kk vv : Vec F S1x512x128 .bf16) : FVec F S256x128 .bf16 :=
  let s : FVec F S256x512 .f32 := addf (mulf (matmul dot_S256x128_S512x128_S256x512_1_1_0_0_n_n none (truncf .bf16 q bitsLt_bf16_f32)
      (shapeCast S512x128 kk shapeCasts_S1x512x128_S512x128) (constant S256x512 .f32 0x00000000#32))
    (broadcast S256x512 (Scalar.ofBits .f32 0x3DB504F3#32))) b
  let e : FVec F S256x512 .f32 := exp (subf s (broadcastTo S256x512 (shapeCast S256x1
    (multiReduction .maximumf [1] S256 s 0xFF800000#32 reduces_S256x512_S256 (.inl rfl) rfl) shapeCasts_S256_S256x1) broadcasts_S256x1_S256x512))
  let p : FVec F S256x512 .f32 := divf e (broadcastTo S256x512 (shapeCast S256x1
    (multiReduction .add [1] S256 e 0x00000000#32 reduces_S256x512_S256 (.inl rfl) rfl) shapeCasts_S256_S256x1) broadcasts_S256x1_S256x512)
  shapeCast S256x128 (truncf .bf16 (matmul dot_S256x512_S512x128_S256x128_1_0_0_1_n_n none (truncf .bf16 p bitsLt_bf16_f32)
    (shapeCast S512x128 vv shapeCasts_S1x512x128_S512x128) (constant S256x128 .f32 0x00000000#32)) bitsLt_bf16_f32) shapeCasts_S256x128_S256x128

variable (A : Ins F)

/-- The projected queries of device `c`. -/
def queries (c : Dev nD) : FVec F S1024x1024 .f32 := k0_pay2 (k0_pay1 (A.x c)) (A.wq c)

/-- Head `h` of device `c`, row block `rb`. -/
def head (c : Dev nD) (rb : Fin 4) (h : Fin 8) : FVec F S256x128 .bf16 :=
  attend (extractStridedSlice S256x128 ![256 * rb.val, 128 * h.val] (queries A c) (head_slices rb h)) (bias rb)
    (window (A.k c) rb h) (window (A.v c) rb h)

/-- The context rows of block `rb`: the eight heads side by side. -/
def ctx (c : Dev nD) (rb : Fin 4) : Vec F S256x1024 .bf16 := fun i =>
  head A c rb ⟨(i 1).val / 128, by have := idx2_lt1 i; omega⟩ (ix2 (i 0) ⟨(i 1).val % 128, Nat.mod_lt _ (by decide)⟩)

/-- The partial product of block `rb` with the device's rows of the output projection. -/
def partBlk (c : Dev nD) (rb : Fin 4) : FVec F S256x1024 .bf16 := k0_pay19 (ctx A c rb) (A.wo c)

/-- The device's whole partial product. -/
def partC (c : Dev nD) : Vec F S1024x1024 .bf16 := fun i =>
  partBlk A c ⟨(i 0).val / 256, by have := idx2_lt0 i; omega⟩ (ix2 ⟨(i 0).val % 256, Nat.mod_lt _ (by decide)⟩ (i 1))

/-- What device `c`'s receive buffer holds once every slot has arrived: slot `s` the rows `32 c … 32 c + 31` of device
    `s`'s partial product. -/
def recvC (c : Dev nD) : Vec F S32x32x1024 .bf16 := fun i =>
  partC A (i 0) (ix2 ⟨32 * c.val + (i 1).val, by have h1 : (i 1).val < 32 := (i 1).isLt; have h2 : c.val < 32 := c.isLt; omega⟩ (i 2))

/-- The 32 rows device `c` sums over the devices. -/
def outRows (c : Dev nD) : FVec F S32x1024 .bf16 := k0_pay75 (k0_pay74 (recvC A c))

/-- The array every device ends with: rows `32 c … 32 c + 31` from device `c`. -/
def outC : Vec F S1024x1024 .bf16 := fun i =>
  outRows A ⟨(i 0).val / 32, by have := idx2_lt0 i; show _ < 32; omega⟩ (ix2 ⟨(i 0).val % 32, Nat.mod_lt _ (by decide)⟩ (i 1))

end Cert.KernelIdeal.Exchange

end
-- ==== Proof.KernelIdeal.Views.lean ====
/-
  The parts of the buffers that the kernel's transfers name: the 32 rows of one device in an array of 1024 rows, the slot
  of one device in the receive buffer, and the one semaphore of an array of 32 — the element sets of the views the body
  slices, and how a transfer between two of them moves its contents.
-/
module

public import proofs.«01_k».proof.Proof.KernelIdeal.Contents
public import Idealize.ShloMosaic.Lib.ValueLayout

@[expose] public section

noncomputable section

namespace Cert.KernelIdeal.Exchange

open Cert.KernelIdeal Cert.KernelIdeal.Gen
open Idealize.ShloMosaic Idealize.ShloMosaic.ValueIdx

variable {F : FTy → Type} [FloatOps F] [Named F]

/-! ## Index sets -/

/-- The 32 rows of device `t` in an array of 1024 rows. -/
def rows (t : Dev nD) : Finset S1024x1024.Idx := Finset.univ.filter fun i => (i 0).val / 32 = t.val

/-- The slot of device `s` in the receive buffer. -/
def slot (s : Dev nD) : Finset S32x32x1024.Idx := Finset.univ.filter fun i => (i 0).val = s.val

theorem mem_rows {t : Dev nD} {i : S1024x1024.Idx} : i ∈ rows t ↔ (i 0).val / 32 = t.val := by
  unfold rows; rw [Finset.mem_filter]; exact ⟨fun h => h.2, fun h => ⟨Finset.mem_univ _, h⟩⟩

theorem mem_slot {s : Dev nD} {i : S32x32x1024.Idx} : i ∈ slot s ↔ (i 0).val = s.val := by
  unfold slot; rw [Finset.mem_filter]; exact ⟨fun h => h.2, fun h => ⟨Finset.mem_univ _, h⟩⟩

theorem rows_disjoint {a b : Dev nD} (h : a ≠ b) : Disjoint (rows a) (rows b) :=
  Finset.disjoint_left.mpr fun i ha hb => h (Fin.ext ((mem_rows.mp ha).symm.trans (mem_rows.mp hb)))

theorem slot_disjoint {a b : Dev nD} (h : a ≠ b) : Disjoint (slot a) (slot b) :=
  Finset.disjoint_left.mpr fun i ha hb => h (Fin.ext ((mem_slot.mp ha).symm.trans (mem_slot.mp hb)))

theorem biUnion_rows : (Finset.univ : Finset (Dev nD)).biUnion rows = Finset.univ := by
  ext i
  rw [Finset.mem_biUnion]
  refine ⟨fun _ => Finset.mem_univ _, fun _ => ⟨⟨(i 0).val / 32, ?_⟩, Finset.mem_univ _, mem_rows.mpr rfl⟩⟩
  have := idx2_lt0 i; show _ < 32; omega

theorem biUnion_slot : (Finset.univ : Finset (Dev nD)).biUnion slot = Finset.univ := by
  ext i
  rw [Finset.mem_biUnion]
  exact ⟨fun _ => Finset.mem_univ _, fun _ => ⟨⟨(i 0).val, (i 0).isLt⟩, Finset.mem_univ _, mem_slot.mpr rfl⟩⟩

/-! ## The rectangles the body slices -/

theorem set_rowRect {off : Fin 2 → ℕ} {inb} (t : Dev nD) (h : off = ![32 * t.val, 0]) :
    (Rect.unit (s := S1024x1024) off S32x1024.size inb).set = rows t := by
  subst h
  ext i
  rw [Rect.mem_set_unit, mem_rows]
  have h1 := idx2_lt1 i
  refine ⟨fun hh => ?_, fun hh a => ?_⟩
  · have := hh 0; have e : 32 * t.val ≤ (i 0).val ∧ (i 0).val < 32 * t.val + 32 := this
    omega
  · match a with
    | ⟨0, _⟩ => show 32 * t.val ≤ (i 0).val ∧ (i 0).val < 32 * t.val + 32; omega
    | ⟨1, _⟩ => show 0 ≤ (i 1).val ∧ (i 1).val < 0 + 1024; omega

theorem set_slotRect {off : Fin 3 → ℕ} {inb} (s : Dev nD) (h : off = ![s.val, 0, 0]) :
    (Rect.unit (s := S32x32x1024) off S1x32x1024.size inb).set = slot s := by
  subst h
  ext i
  rw [Rect.mem_set_unit, mem_slot]
  refine ⟨fun hh => ?_, fun hh a => ?_⟩
  · have e : s.val ≤ (i 0).val ∧ (i 0).val < s.val + 1 := hh 0
    omega
  · have h1 : (i 1).val < 32 := (i 1).isLt
    have h2 : (i 2).val < 1024 := (i 2).isLt
    match a with
    | ⟨0, _⟩ => show s.val ≤ (i 0).val ∧ (i 0).val < s.val + 1; omega
    | ⟨1, _⟩ => show 0 ≤ (i 1).val ∧ (i 1).val < 0 + 32; omega
    | ⟨2, _⟩ => show 0 ≤ (i 2).val ∧ (i 2).val < 0 + 1024; omega

/-! ## The views of the transfers -/

/-- 32 rows of the partial products. -/
abbrev partV (off : Fin 2 → ℕ) (inb : ∀ a, off a + S32x1024.size a ≤ S1024x1024.size a) : Memref sig .tc .vmem S32x1024 .bf16 :=
  (Memref.whole cc0_scratch1).slice (Rect.unit (s := S1024x1024) off S32x1024.size inb) (fun _ => rfl)

/-- 32 rows of the result. -/
abbrev outV (off : Fin 2 → ℕ) (inb : ∀ a, off a + S32x1024.size a ≤ S1024x1024.size a) : Memref sig .tc .vmem S32x1024 .bf16 :=
  (Memref.whole cc0_stg5_0).slice (Rect.unit (s := S1024x1024) off S32x1024.size inb) (fun _ => rfl)

/-- One slot of the receive buffer, its leading axis dropped. -/
abbrev slotV (off : Fin 3 → ℕ) (inb : ∀ a, off a + S1x32x1024.size a ≤ S32x32x1024.size a) : Memref sig .tc .vmem S32x1024 .bf16 :=
  ((Memref.whole cc0_scratch2).slice (Rect.unit (s := S32x32x1024) off S1x32x1024.size inb) (fun _ => rfl)).squeeze S32x1024
    squeezes_S1x32x1024_S32x1024

theorem set_partV {off : Fin 2 → ℕ} {inb} (t : Dev nD) (h : off = ![32 * t.val, 0]) : (partV off inb).view.set = rows t :=
  (View.set_slice_whole cc0_scratch1 _).trans (set_rowRect t h)

theorem set_outV {off : Fin 2 → ℕ} {inb} (t : Dev nD) (h : off = ![32 * t.val, 0]) : (outV off inb).view.set = rows t :=
  (View.set_slice_whole cc0_stg5_0 _).trans (set_rowRect t h)

theorem set_slotV {off : Fin 3 → ℕ} {inb} (s : Dev nD) (h : off = ![s.val, 0, 0]) : (slotV off inb).view.set = slot s :=
  (View.set_reshape _ _).trans ((View.set_slice_whole cc0_scratch2 _).trans (set_slotRect s h))

/-- The credit of one transfer of 32 rows. -/
abbrev N : ℕ := (partV ![0, 0] inb_S1024x1024_S32x1024_0_0).view.dmaCredit

theorem N_pos : 0 < N := View.dmaCredit_pos _ (by decide)

theorem credit_partV {off : Fin 2 → ℕ} {inb} : (partV off inb).view.dmaCredit = N := rfl
theorem credit_outV {off : Fin 2 → ℕ} {inb} : (outV off inb).view.dmaCredit = N := rfl
theorem credit_slotV {off : Fin 3 → ℕ} {inb} : (slotV off inb).view.dmaCredit = N := rfl

/-! ## What a transfer moves -/

theorem emb_partV (t : Dev nD) {inb} (x : S32x1024.Idx) :
    (partV ![32 * t.val, 0] inb).view.emb x = ix2 ⟨32 * t.val + (x 0).val, by have := idx2_lt0 x; have : t.val < 32 := t.isLt; omega⟩ (x 1) := by
  funext a
  refine Fin.ext ?_
  match a with
  | ⟨0, _⟩ => show 32 * t.val + 1 * (x 0).val = 32 * t.val + (x 0).val; omega
  | ⟨1, _⟩ => show 0 + 1 * (x 1).val = (x 1).val; omega

theorem emb_outV (t : Dev nD) {inb} (x : S32x1024.Idx) :
    (outV ![32 * t.val, 0] inb).view.emb x = ix2 ⟨32 * t.val + (x 0).val, by have := idx2_lt0 x; have : t.val < 32 := t.isLt; omega⟩ (x 1) := by
  funext a
  refine Fin.ext ?_
  match a with
  | ⟨0, _⟩ => show 32 * t.val + 1 * (x 0).val = 32 * t.val + (x 0).val; omega
  | ⟨1, _⟩ => show 0 + 1 * (x 1).val = (x 1).val; omega

theorem emb_slotV (s : Dev nD) {inb} (x : S32x1024.Idx) : (slotV ![s.val, 0, 0] inb).view.emb x = ix3 s (x 0) (x 1) := by
  have h : (slotV ![s.val, 0, 0] inb).view.emb x
      = (Rect.unit (s := S32x32x1024) ![s.val, 0, 0] S1x32x1024.size inb).emb
          (Shape.reshapeEquiv squeezes_S1x32x1024_S32x1024.numel_eq x) := rfl
  have e : Shape.reshapeEquiv squeezes_S1x32x1024_S32x1024.numel_eq x = ix3 (⟨0, Nat.one_pos⟩ : Fin 1) (x 0) (x 1) :=
    (congrArg _ (eq_ix2 x)).trans (reshapeEquiv_ix2_1ab _ (x 0) (x 1))
  rw [h, e]
  funext a
  refine Fin.ext ?_
  match a with
  | ⟨0, _⟩ => show s.val + 1 * 0 = s.val; omega
  | ⟨1, _⟩ => show 0 + 1 * (x 0).val = (x 0).val; omega
  | ⟨2, _⟩ => show 0 + 1 * (x 1).val = (x 1).val; omega

variable (A : Ins F)

/-- What arrives in slot `c` of device `t` from device `c`'s rows of device `t`. -/
theorem write_slotV (c t : Dev nD) {inb inb'} (fd : (slotV ![c.val, 0, 0] inb).view.ty.Contents (Elt F)) :
    ∀ i ∈ slot c, (slotV ![c.val, 0, 0] inb).view.write (Elt F) fd
      ((partV ![32 * t.val, 0] inb').view.read (Elt F) (partC A c)) Finset.univ i = recvC A t i := by
  intro i hi
  have hi0 : (i 0).val = c.val := mem_slot.mp hi
  have e : i = (slotV ![c.val, 0, 0] inb).view.emb (ix2 (i 1) (i 2)) := by
    rw [emb_slotV]
    refine (eq_ix3 i).trans ?_
    rw [show i 0 = c from Fin.ext hi0]
    rfl
  rw [e, View.write_emb_of_mem _ _ (Finset.mem_univ _), View.read_apply, emb_partV, emb_slotV]
  rfl

/-- What arrives in the rows of device `c` in any device's result. -/
theorem write_outV (c : Dev nD) {inb inb'} (fd : (outV ![32 * c.val, 0] inb).view.ty.Contents (Elt F)) :
    ∀ i ∈ rows c, (outV ![32 * c.val, 0] inb).view.write (Elt F) fd
      ((outV ![32 * c.val, 0] inb').view.read (Elt F) (outC A)) Finset.univ i = outC A i := by
  intro i hi
  have hi0 : (i 0).val / 32 = c.val := mem_rows.mp hi
  have e : i = (outV ![32 * c.val, 0] inb).view.emb (ix2 ⟨(i 0).val % 32, Nat.mod_lt _ (by decide)⟩ (i 1)) := by
    rw [emb_outV]
    refine (eq_ix2 i).trans ?_
    congr 1
    exact Fin.ext (by show (i 0).val = 32 * c.val + (i 0).val % 32; omega)
  rw [e, View.write_emb_of_mem _ _ (Finset.mem_univ _), View.read_apply]
  rfl

/-! ## The semaphores -/

/-- Semaphore `i` of array `a`: sends of the reduce-scatter, its receives, sends of the all-gather, its receives. -/
abbrev dsem (a : Fin 4) (i : Dev nD) : DmaSem sig := ⟨6 + 32 * a.val + i.val, by
  have h1 := a.isLt; have h2 : i.val < 32 := i.isLt; show _ < 134; omega⟩

/-- The four arrays. -/
abbrev semArr : Fin 4 → DmaSems sig S32 := fun | 0 => cc0_scratch3 | 1 => cc0_scratch4 | 2 => cc0_scratch5 | 3 => cc0_scratch6

theorem sem_slice {S : DmaSems sig S32} (a : Fin 4) (hS : S = semArr a) {off : Fin 1 → ℕ} {inb} (t : Dev nD) (h : off = ![t.val]) :
    ((S.slice (Rect.unit (s := S32) off S1.size inb)).squeeze S_ squeezes_S1_S_).sem = dsem a t := by
  subst hS h
  revert a t
  decide

end Cert.KernelIdeal.Exchange

end
-- ==== Proof.KernelIdeal.Schedule.lean ====
/-
  The protocol between the devices: the cells (a barrier semaphore per device and four arrays of 32 transfer semaphores),
  who pays each cell and what the payment hands over, what a device owes at each stage of the body, and the order of the
  cells that makes every wait safe.
-/
module

public import proofs.«01_k».proof.Proof.KernelIdeal.Views
public import proofs.«01_k».proof.Proof.Gen.KernelIdeal.Launch
public import Idealize.ShloMosaic.Lib.Tactic
public import Idealize.ShloMosaic.Lib.ShareLeaves

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the staging protocol's part and the exchange's, whose duties are named by a device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore of the entry handshake. -/
abbrev barS : Sem sig := (SemArray.scalar (sig.barrier 0 rfl) : Sems sig S_).sem

abbrev barCell (c : Dev nD) : GSem nD τ sig := ((c : Thread nD τ), .reg barS)
/-- Transfer semaphore `i` of array `a` on device `c`. -/
abbrev xfer (c : Dev nD) (a : Fin 4) (i : Dev nD) : GSem nD τ sig := ((c : Thread nD τ), .dma (dsem a i))

/-- The index of a device's own cells: the barrier, or one of the four arrays and a position in it. -/
abbrev CellIx : Type := Option (Fin 4 × Dev nD)
abbrev csem : CellIx → SemLoc sig := fun k => match k with | none => .reg barS | some (a, i) => .dma (dsem a i)
abbrev kcell (ck : Dev nD × CellIx) : GSem nD τ sig := ((ck.1 : Thread nD τ), csem ck.2)

/-- Which array and position a transfer semaphore is; none for the staging copies' semaphores. -/
def role (q : DmaSem sig) : Option (Fin 4 × Dev nD) :=
  if h : 6 ≤ q.val then some (⟨(q.val - 6) / 32, by have h2 : q.val < 134 := q.isLt; omega⟩, ⟨(q.val - 6) % 32, Nat.mod_lt _ (by decide)⟩) else none

theorem role_dsem (a : Fin 4) (i : Dev nD) : role (dsem a i) = some (a, i) := by
  have hi : i.val < 32 := i.isLt
  have ha := a.isLt
  unfold role
  rw [dif_pos (by show 6 ≤ 6 + 32 * a.val + i.val; omega)]
  congr 1
  refine Prod.ext (Fin.ext ?_) (Fin.ext ?_)
  · show (6 + 32 * a.val + i.val - 6) / 32 = a.val; omega
  · show (6 + 32 * a.val + i.val - 6) % 32 = i.val; omega

/-! ## What the buffers hold, in pieces -/

/-- Rows of the partial products. -/
def partPts (c : Dev nD) (S : Finset S1024x1024.Idx) (f : Buf (Elt F) ((c : Thread nD τ).loc cc0_scratch1)) : sProp 𝕄 :=
  ((c : Thread nD τ).loc cc0_scratch1) ↦[S]{fullShare} f
/-- A slot of the receive buffer. -/
def slotPts (c s : Dev nD) (f : Buf (Elt F) ((c : Thread nD τ).loc cc0_scratch2)) : sProp 𝕄 :=
  ((c : Thread nD τ).loc cc0_scratch2) ↦[slot s]{fullShare} f
/-- The rows of one device in the result. -/
def outPts (c t : Dev nD) (q : PosShare TreeShare) (f : Buf (Elt F) ((c : Thread nD τ).loc cc0_stg5_0)) : sProp 𝕄 :=
  ((c : Thread nD τ).loc cc0_stg5_0) ↦[rows t]{q} f
/-- The share of its own rows that device `c` lends to the copy for device `t`. -/
abbrev leafShare (t : Dev nD) : PosShare TreeShare := ShareLeaves.leaf 5 fullShare t

/-- The places of device `c` that device `p` writes: its slot of the receive buffer and its rows of the result. -/
def give (c p : Dev nD) : sProp 𝕄 := iprop((∃ f, slotPts c p f) ∗ ∃ f, outPts c p fullShare f)

omit [FloatOps F] [Named F] in
instance partPts_storable (c : Dev nD) (S) (f) : BI.Storable (upEmb : UEmb _ 𝕄) (partPts (F := F) c S f) := by unfold partPts; infer_instance
omit [FloatOps F] [Named F] in
instance slotPts_storable (c s : Dev nD) (f) : BI.Storable (upEmb : UEmb _ 𝕄) (slotPts (F := F) c s f) := by unfold slotPts; infer_instance
omit [FloatOps F] [Named F] in
instance outPts_storable (c t : Dev nD) (q) (f) : BI.Storable (upEmb : UEmb _ 𝕄) (outPts (F := F) c t q f) := by unfold outPts; infer_instance
omit [FloatOps F] [Named F] in
instance give_storable (c p : Dev nD) : BI.Storable (upEmb : UEmb _ 𝕄) (give (F := F) c p) := by unfold give; infer_instance

variable (A : Ins F)

/-- What arrival on transfer semaphore `i` of array `a` hands device `c`. -/
def xpay (c : Dev nD) (a : Fin 4) (i : Dev nD) : sProp 𝕄 := match a with
  | 0 => partPts c (rows i) (partC A c)
  | 1 => slotPts c i (recvC A c)
  | 2 => outPts c c (leafShare i) (outC A)
  | 3 => outPts c i fullShare (outC A)

instance xpay_storable (c : Dev nD) (a : Fin 4) (i : Dev nD) : BI.Storable (upEmb : UEmb _ 𝕄) (xpay (F := F) A c a i) := by
  unfold xpay; split <;> infer_instance

/-- What device `d`'s signal hands device `p`: device `d`'s places for `p`. -/
def barPay (p d : Dev nD) : sProp 𝕄 := if d = p then iprop(emp) else give d p

instance barPay_storable (p d : Dev nD) : BI.Storable (upEmb : UEmb _ 𝕄) (barPay (F := F) p d) := by
  unfold barPay; split <;> infer_instance

/-! ## The schedule -/

/-- One round: every device pays one unit to every barrier; a transfer semaphore is paid once, except those at a device's
    own position, which no copy names. -/
def sched : Rounds.Schedule (GSem nD τ sig) (Dev nD) 𝕄 where
  duties g r := if r = 0 ∧ g.1.2 = .tc then (match g.2 with
    | .reg s => if s = barS then Finset.univ else ∅
    | .dma q => match role q with
      | some (_, i) => if i = g.1.1 then ∅ else {0}
      | none => ∅) else ∅
  unitless _ := False
  amount g _ _ := match g.2 with | .reg _ => 1 | .dma _ => N
  payload g _ d := match g.2 with
    | .reg _ => barPay g.1.1 d
    | .dma q => match role q with | some (a, i) => xpay A g.1.1 a i | none => iprop(emp)
  amount_pos g _ _ _ := by
    cases g.2 with
    | reg _ => exact Nat.one_pos
    | dma _ => exact N_pos

instance sched_storable (g : GSem nD τ sig) (r : ℕ) (d : Dev nD) : BI.Storable (upEmb : UEmb _ 𝕄) ((sched (F := F) A).payload g r d) := by
  obtain ⟨t, s⟩ := g
  cases s with
  | reg s => show BI.Storable upEmb (barPay t.1 d); infer_instance
  | dma q =>
    show BI.Storable upEmb (match role q with | some (a, i) => xpay A t.1 a i | none => iprop(emp))
    split <;> infer_instance

section Facts
variable (c p i d : Dev nD) (a : Fin 4)

theorem duties_bar : (sched (F := F) A).duties (barCell c) 0 = Finset.univ := by
  dsimp only [sched]; rw [if_pos ⟨rfl, rfl⟩]; exact if_pos rfl

theorem duties_xfer (h : i ≠ c) : (sched (F := F) A).duties (xfer c a i) 0 = {0} := by
  dsimp only [sched]; rw [if_pos ⟨rfl, rfl⟩]
  simp only [role_dsem]
  exact if_neg h

theorem duties_own : (sched (F := F) A).duties (xfer c a c) 0 = ∅ := by
  dsimp only [sched]; rw [if_pos ⟨rfl, rfl⟩]
  simp only [role_dsem]
  exact if_pos trivial

theorem duties_later (g : GSem nD τ sig) : ∀ r, 1 ≤ r → (sched (F := F) A).duties g r = ∅ :=
  fun r hr => by dsimp only [sched]; rw [if_neg fun h => by omega]

/-- A device's own position is never paid. -/
theorem duties_own_all : ∀ r, 0 ≤ r → (sched (F := F) A).duties (xfer c a c) r = ∅ := fun r _ => by
  rcases Nat.eq_zero_or_pos r with h | h
  · subst h; exact duties_own A c a
  · exact duties_later A _ r h

theorem amount_bar : (sched (F := F) A).amount (barCell c) 0 d = 1 := rfl
theorem amount_xfer : (sched (F := F) A).amount (xfer c a i) 0 d = N := rfl

theorem expect_bar : (sched (F := F) A).expect (barCell c) 0 = 32 := by
  unfold Schedule.expect Schedule.amountOf
  rw [duties_bar, Finset.sum_congr rfl fun d _ => amount_bar A c d, Finset.sum_const, Finset.card_univ]
  rfl

theorem expect_xfer (h : i ≠ c) : (sched (F := F) A).expect (xfer c a i) 0 = N := by
  unfold Schedule.expect Schedule.amountOf; rw [duties_xfer A c i a h, Finset.sum_singleton, amount_xfer]

theorem payload_bar : (sched (F := F) A).payload (barCell p) 0 d = barPay p d := rfl

theorem payload_xfer : (sched (F := F) A).payload (xfer c a i) 0 d = xpay A c a i := by
  dsimp only [sched]; simp only [role_dsem]

theorem rest_bar : bigSep ((sched (F := F) A).duties (barCell c) 0 \ ∅) (fun d => (sched (F := F) A).payload (barCell c) 0 d)
    = bigSep Finset.univ fun d => barPay c d := by
  rw [Finset.sdiff_empty, duties_bar]; rfl

theorem rest_xfer (h : i ≠ c) : bigSep ((sched (F := F) A).duties (xfer c a i) 0 \ ∅) (fun d => (sched (F := F) A).payload (xfer c a i) 0 d)
    = xpay A c a i := by
  rw [Finset.sdiff_empty, duties_xfer A c i a h, bigSep_singleton, payload_xfer]

end Facts

/-! ## Counting through the devices: those from position `t` on, those before it -/

/-- The devices from position `t` on. -/
def ge (t : ℕ) : Finset (Dev nD) := Finset.univ.filter fun i => t ≤ i.val
/-- The devices before position `t`. -/
def lt (t : ℕ) : Finset (Dev nD) := Finset.univ.filter fun i => i.val < t

theorem ge_zero : ge 0 = Finset.univ := Finset.filter_true_of_mem fun _ _ => Nat.zero_le _
theorem ge_all : ge 32 = ∅ := Finset.filter_false_of_mem fun i _ => Nat.not_le.mpr i.isLt
theorem lt_zero : lt 0 = ∅ := Finset.filter_false_of_mem fun _ _ => Nat.not_lt_zero _
theorem lt_all : lt 32 = Finset.univ := Finset.filter_true_of_mem fun i _ => i.isLt

theorem ge_insert (t : ℕ) (h : t < 32) : ge t = insert (⟨t, h⟩ : Dev nD) (ge (t + 1)) := by
  ext i
  simp only [ge, Finset.mem_insert, Finset.mem_filter, Finset.mem_univ, true_and, Fin.ext_iff]
  omega
theorem not_mem_ge (t : ℕ) (h : t < 32) : (⟨t, h⟩ : Dev nD) ∉ ge (t + 1) := by
  simp only [ge, Finset.mem_filter, Finset.mem_univ, true_and]; omega
theorem lt_insert (t : ℕ) (h : t < 32) : lt (t + 1) = insert (⟨t, h⟩ : Dev nD) (lt t) := by
  ext i
  simp only [lt, Finset.mem_insert, Finset.mem_filter, Finset.mem_univ, true_and, Fin.ext_iff]
  omega
theorem not_mem_lt (t : ℕ) (h : t < 32) : (⟨t, h⟩ : Dev nD) ∉ lt t := by
  simp only [lt, Finset.mem_filter, Finset.mem_univ, true_and]; omega

omit [FloatOps F] [Named F] in
theorem sep_ge (t : ℕ) (h : t < 32) (Φ : Dev nD → sProp 𝕄) : bigSep (ge t) Φ = iprop(Φ ⟨t, h⟩ ∗ bigSep (ge (t + 1)) Φ) := by
  rw [ge_insert t h]; exact BI.bigSep_insert (not_mem_ge t h)
omit [FloatOps F] [Named F] in
theorem sep_lt (t : ℕ) (h : t < 32) (Φ : Dev nD → sProp 𝕄) : bigSep (lt (t + 1)) Φ = iprop(Φ ⟨t, h⟩ ∗ bigSep (lt t) Φ) := by
  rw [lt_insert t h]; exact BI.bigSep_insert (not_mem_lt t h)

/-! ## What a device owes -/

/-- The all-gather arrivals device `c` still owes its peers. -/
def owesAg (c : Dev nD) (t : ℕ) : CellTallies nD τ sig Unit := ∑ p ∈ ge t, if p = c then 0 else tallyAt (xfer p 3 c) () N
/-- The same with the reduce-scatter arrivals it still owes. -/
def owesRs (c : Dev nD) (t : ℕ) : CellTallies nD τ sig Unit := owesAg c 0 + ∑ p ∈ ge t, if p = c then 0 else tallyAt (xfer p 1 c) () N
/-- The same with the handshake signals it still owes. -/
def owesBar (c : Dev nD) (t : ℕ) : CellTallies nD τ sig Unit := owesRs c 0 + ∑ p ∈ ge t, tallyAt (barCell p) () 1

theorem sum_ge (t : ℕ) (h : t < 32) (f : Dev nD → CellTallies nD τ sig Unit) : ∑ p ∈ ge t, f p = (∑ p ∈ ge (t + 1), f p) + f ⟨t, h⟩ := by
  rw [ge_insert t h, Finset.sum_insert (not_mem_ge t h), add_comm]

theorem owesBar_step (c : Dev nD) (t : ℕ) (h : t < 32) : owesBar c t = owesBar c (t + 1) + tallyAt (barCell ⟨t, h⟩) () 1 := by
  unfold owesBar; rw [sum_ge t h, add_assoc]
theorem owesBar_all (c : Dev nD) : owesBar c 32 = owesRs c 0 := by unfold owesBar; rw [ge_all, Finset.sum_empty, add_zero]
theorem owesRs_step (c : Dev nD) (t : ℕ) (h : t < 32) (hc : (⟨t, h⟩ : Dev nD) ≠ c) :
    owesRs c t = owesRs c (t + 1) + tallyAt (xfer ⟨t, h⟩ 1 c) () N := by
  unfold owesRs; rw [sum_ge t h, if_neg hc, add_assoc]
theorem owesRs_skip (c : Dev nD) (t : ℕ) (h : t < 32) (hc : (⟨t, h⟩ : Dev nD) = c) : owesRs c t = owesRs c (t + 1) := by
  unfold owesRs; rw [sum_ge t h, if_pos hc, add_zero]
theorem owesRs_all (c : Dev nD) : owesRs c 32 = owesAg c 0 := by unfold owesRs; rw [ge_all, Finset.sum_empty, add_zero]
theorem owesAg_step (c : Dev nD) (t : ℕ) (h : t < 32) (hc : (⟨t, h⟩ : Dev nD) ≠ c) :
    owesAg c t = owesAg c (t + 1) + tallyAt (xfer ⟨t, h⟩ 3 c) () N := by
  unfold owesAg; rw [sum_ge t h, if_neg hc]
theorem owesAg_skip (c : Dev nD) (t : ℕ) (h : t < 32) (hc : (⟨t, h⟩ : Dev nD) = c) : owesAg c t = owesAg c (t + 1) := by
  unfold owesAg; rw [sum_ge t h, if_pos hc, add_zero]
theorem owesAg_all (c : Dev nD) : owesAg c 32 = 0 := by unfold owesAg; rw [ge_all, Finset.sum_empty]

/-! ## The order of the cells -/

def L (g : GSem nD τ sig) : Finset Unit := if g.1.2 = .tc then {()} else ∅

/-- Staging copies and sends lowest, then the barriers, then the reduce-scatter's arrivals, then the all-gather's. -/
def lv (g : GSem nD τ sig) (_ : Unit) : ℕ := match g.2 with
  | .reg _ => 1
  | .dma q => match role q with
    | some (a, _) => if a = 1 then 2 else if a = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_xfer (c : Dev nD) (a : Fin 4) (i : Dev nD) : lv (xfer c a i) () = if a = 1 then 2 else if a = 3 then 3 else 0 := by
  dsimp only [lv]; simp only [role_dsem]

theorem sum_pos {S : Finset (Dev nD)} {f : Dev nD → CellTallies nD τ sig Unit} {g : GSem nD τ sig} {u : Unit}
    (h : 0 < (∑ p ∈ S, f p) g u) : ∃ p, 0 < f p g u := by
  rw [Finset.sum_apply, Finsupp.finset_sum_apply] at h
  obtain ⟨p, -, hp⟩ := Finset.exists_ne_zero_of_sum_ne_zero (Nat.pos_iff_ne_zero.mp h)
  exact ⟨p, Nat.pos_of_ne_zero hp⟩

theorem tally_pos {g g' : GSem nD τ sig} {u u' : Unit} {k : ℕ} (h : 0 < (tallyAt g u k : CellTallies nD τ sig Unit) g' u') : g' = g := by
  rw [tallyAt_apply] at h
  by_contra hn
  rw [if_neg fun hh => hn hh.1] at h
  exact Nat.lt_irrefl 0 h

theorem xsum_pos {c : Dev nD} {a : Fin 4} {t : ℕ} {g : GSem nD τ sig} {u : Unit}
    (h : 0 < (∑ p ∈ ge t, if p = c then (0 : CellTallies nD τ sig Unit) else tallyAt (xfer p a c) () N) g u) : ∃ p, g = xfer p a c := by
  obtain ⟨p, hp⟩ := sum_pos h
  by_cases hc : p = c
  · rw [if_pos hc] at hp; exact absurd hp (Nat.lt_irrefl 0)
  · rw [if_neg hc] at hp; exact ⟨p, tally_pos hp⟩

theorem owesAg_pos {c : Dev nD} {t : ℕ} {g : GSem nD τ sig} {u : Unit} (h : 0 < owesAg c t g u) : ∃ p, g = xfer p 3 c := xsum_pos h

theorem owesRs_pos {c : Dev nD} {t : ℕ} {g : GSem nD τ sig} {u : Unit} (h : 0 < owesRs c t g u) :
    (∃ p, g = xfer p 3 c) ∨ ∃ p, g = xfer p 1 c := by
  unfold owesRs at h
  rw [Pi.add_apply, Finsupp.add_apply] at h
  rcases Nat.eq_zero_or_pos (owesAg c 0 g u) with h0 | h0
  · rw [h0, Nat.zero_add] at h; exact Or.inr (xsum_pos h)
  · exact Or.inl (owesAg_pos h0)

theorem owesBar_pos {c : Dev nD} {t : ℕ} {g : GSem nD τ sig} {u : Unit} (h : 0 < owesBar c t g u) :
    ((∃ p, g = xfer p 3 c) ∨ ∃ p, g = xfer p 1 c) ∨ ∃ p, g = barCell p := by
  unfold owesBar at h
  rw [Pi.add_apply, Finsupp.add_apply] at h
  rcases Nat.eq_zero_or_pos (owesRs c 0 g u) with h0 | h0
  · rw [h0, Nat.zero_add] at h
    obtain ⟨p, hp⟩ := sum_pos h
    exact Or.inr ⟨p, tally_pos hp⟩
  · exact Or.inl (owesRs_pos h0)

theorem mayWait_cut (c : Dev nD) (sm : SemLoc sig) (k : ℕ) (O : CellTallies nD τ sig Unit)
    (hs : lv ((c : Thread nD τ), sm) () ≤ k) (hO : ∀ g u, 0 < O g u → g.1.2 = .tc ∧ k < lv g u) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- The staging copies' waits, owing everything. -/
theorem mayWait_stage (c : Dev nD) (q : DmaSem sig) (hq : q.val < 6) (O : CellTallies nD τ sig Unit) (hO : O = owesBar c 0 ∨ O = 0) :
    (levAts L lv : sProp 𝕄) ⊢ MayWait (c : Thread nD τ) (.dma q) () O := by
  rcases hO with rfl | rfl
  · refine mayWait_cut c _ 0 _ (by dsimp only [lv]; unfold role; rw [dif_neg (by omega)]) fun g u hg => ?_
    cases u
    rcases owesBar_pos hg with (⟨p, rfl⟩ | ⟨p, rfl⟩) | ⟨p, rfl⟩
    · exact ⟨rfl, by rw [lv_xfer]; decide⟩
    · exact ⟨rfl, by rw [lv_xfer]; decide⟩
    · exact ⟨rfl, by rw [lv_bar]; decide⟩
  · rw [MayWait_zero]; iintro -; iempintro

/-- The barrier wait, owing both exchanges. -/
theorem mayWait_bar (c : Dev nD) : (levAts L lv : sProp 𝕄) ⊢ MayWait (c : Thread nD τ) (.reg barS) () (owesRs c 0) :=
  mayWait_cut c _ 1 _ (by show (1 : ℕ) ≤ 1; exact le_rfl) fun g u hg => by
    cases u
    rcases owesRs_pos hg with ⟨p, rfl⟩ | ⟨p, rfl⟩
    · exact ⟨rfl, by rw [lv_xfer]; decide⟩
    · exact ⟨rfl, by rw [lv_xfer]; decide⟩

/-- A reduce-scatter arrival's wait, owing the all-gather. -/
theorem mayWait_recv (c i : Dev nD) : (levAts L lv : sProp 𝕄) ⊢ MayWait (c : Thread nD τ) (.dma (dsem 1 i)) () (owesAg c 0) :=
  mayWait_cut c _ 2 _ (by rw [lv_xfer]; decide) fun g u hg => by
    cases u
    obtain ⟨p, rfl⟩ := owesAg_pos hg
    exact ⟨rfl, by rw [lv_xfer]; decide⟩

/-! ## What every device knows -/

/-- Every cell's protocol is in force and at its one round. -/
def records (K : Dev nD × CellIx → ℕ) : sProp 𝕄 :=
  iprop((bigSep Finset.univ fun ck : Dev nD × CellIx => cellInv ER (sched A) (K ck) (kcell ck))
    ∗ bigSep Finset.univ fun ck : Dev nD × CellIx => reached ER (kcell ck) 0)

/-- That, with the order of the cells. -/
def Env (K : Dev nD × CellIx → ℕ) : sProp 𝕄 := iprop(records A K ∗ levAts L lv)

instance records_persistent (K : Dev nD × CellIx → ℕ) : BI.Persistent (records A K) := by unfold records; infer_instance
instance Env_persistent (K : Dev nD × CellIx → ℕ) : BI.Persistent (Env A K) := by unfold Env; infer_instance

theorem env_lev (K : Dev nD × CellIx → ℕ) : Env A K ⊢ (levAts L lv : sProp 𝕄) := by
  unfold Env; iintro ⟨-, H⟩; iexact H
/-- From the order of the cells a wait may go ahead. -/
theorem env_mayWait (K : Dev nD × CellIx → ℕ) {c : Dev nD} {s : SemLoc sig} {O : CellTallies nD τ sig Unit}
    (hO : (levAts L lv : sProp 𝕄) ⊢ MayWait (c : Thread nD τ) s () O) : Env A K ⊢ (MayWait (c : Thread nD τ) s () O : sProp 𝕄) := by
  refine BIBase.Entails.trans ?_ hO
  unfold Env; iintro ⟨-, H⟩; iexact H
theorem inv_at (K : Dev nD × CellIx → ℕ) (ck : Dev nD × CellIx) :
    (bigSep Finset.univ fun ck : Dev nD × CellIx => (cellInv ER (sched A) (K ck) (kcell ck) : sProp 𝕄)) ⊢ cellInv ER (sched A) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)
theorem env_inv (K : Dev nD × CellIx → ℕ) (ck : Dev nD × CellIx) : Env A K ⊢ cellInv ER (sched A) (K ck) (kcell ck) := by
  unfold Env records; iintro ⟨⟨H, -⟩, -⟩; iapply (inv_at A K ck); iexact H
theorem env_reached (K : Dev nD × CellIx → ℕ) (ck : Dev nD × CellIx) : Env A K ⊢ reached ER (kcell ck) 0 := by
  unfold Env records; iintro ⟨⟨-, H⟩, -⟩; iapply (reached_at (F := F) ck); iexact H

/-- A device owes `O`, whatever it has waited for. -/
def owesE (c : Dev nD) (O : CellTallies nD τ sig Unit) : sProp 𝕄 := iprop(∃ W : Waits sig Unit, owes (c : Thread nD τ) O W)

end Cert.KernelIdeal.Exchange

end
-- ==== Proof.KernelIdeal.Copies.lean ====
/-
  One transfer and one wait of the exchange at a time: a copy of 32 rows to a peer, and the wait for one arrival.
-/
module

public import proofs.«01_k».proof.Proof.KernelIdeal.Schedule

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-- The kernel calls no other function. -/
abbrev 𝒱₀ : Variants := Variants.none

/-- The program logic's judgement on device `c`, for a body that runs to `Q`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The copies -/

/-- Device `c` sends device `t` its 32 rows of the partial product, into slot `c` of device `t`'s receive buffer. -/
theorem wp_rs_copy (t : Dev nD) (htc : t ≠ c) {n : Dev nD} (hn : n = t) {s1 s2 : DmaSem sig} (hs1 : s1 = dsem 0 t) (hs2 : s2 = dsem 1 c)
    {offS : Fin 2 → ℕ} (hS : offS = ![32 * t.val, 0]) {inbS} {offD : Fin 3 → ℕ} (hD : offD = ![c.val, 0, 0]) {inbD}
    {hsc : (slotV offD inbD : Memref sig (Dev.tc n : Thread nD τ).2.kind .vmem S32x1024 .bf16).view.ref.isScScratch = false}
    {hsrc : (partV offS inbS).view.WordExact} {hdst : (slotV offD inbD).view.WordExact}
    {hsem : DmaTarget.Typed .vmem (.dma s2) (.remote (Dev.tc n : Thread nD τ) (slotV offD inbD) (.dma s1) hsc)}
    {α : Type} {Q : α → sProp 𝕄} {k : PUnit → Prog (TpuEff nD τ sig (Elt F) Λ₀ .tc) α}
    (fd : Buf (Elt F) ((t : Thread nD τ).loc cc0_scratch2)) (O₀ O : CellTallies nD τ sig Unit)
    (hO : O₀ = O + tallyAt (xfer t 1 c) () N) (W : Waits sig Unit) :
    iprop(Env A K ∗ partPts c (rows t) (partC A c) ∗ slotPts t c fd ∗ owes (c : Thread nD τ) O₀ W
        ∗ dutyTok ER (xfer c 0 t) 0 0 ∗ dutyTok ER (xfer t 1 c) 0 0)
      ⊢ iprop(((cred (tallyAt (xfer c 0 t) () N) ∗ owes (c : Thread nD τ) O W) -∗ WP c (k ⟨⟩) Q)
          -∗ WP c (.op (.enqueueDma (partV offS inbS) (.remote (Dev.tc n : Thread nD τ) (slotV offD inbD) (.dma s1) hsc) (.dma s2) hsrc hdst hsem) k) Q) := by
  subst hn hs1 hs2 hS hD
  have h := Rounds.wp_send_pointsTo (c' := (n : Thread nD τ)) (src := partV ![32 * n.val, 0] inbS) (dst := (slotV ![c.val, 0, 0] inbD : Memref sig (Dev.tc n : Thread nD τ).2.kind .vmem S32x1024 .bf16))
    (hsc := hsc) (hsrc := hsrc) (hdst := hdst) (hsem := hsem) (k := k) (Q := Q) (q := fullShare) (fs := partC A c)
    (defs := defs₀ (F := F)) 𝒱₀ ER (sched A) (c : Thread nD τ) none (κ₁ := K (c, some (0, n))) (κ₂ := K (n, some (1, c)))
    (r₁ := 0) (r₂ := 0) (d₁ := 0) (d₂ := 0) (fd := fd)
    (by rw [duties_xfer A c n 0 htc]; exact Finset.mem_singleton_self _) (by rw [duties_xfer A n c 1 htc.symm]; exact Finset.mem_singleton_self _)
    () () N rfl (amount_xfer A c n 0 0) (amount_xfer A n c 0 1) O hO (W := W)
    (by rw [payload_xfer, set_partV n rfl]; exact BI.Entails.refl _)
    (by rw [payload_xfer, set_slotV c rfl]; exact Entails.of_eq (pointsTo_congr (write_slotV (inb := inbD) (inb' := inbS) A c n fd))) (Es := Set.univ) (Γ := .empty)
  rw [set_partV n rfl, set_slotV c rfl] at h
  iintro ⟨#HE, Hp, Hs, Ho, Ht1, Ht2⟩
  iapply h
  isplitr; · iapply (env_inv A K (c, some (0, n))); iexact HE
  isplitr; · iapply (env_inv A K (n, some (1, c))); iexact HE
  isplitl [Hp]; · iapply (show partPts c (rows n) (partC A c) ⊢ ((partV ![32 * n.val, 0] inbS).view.loc (c : Thread nD τ) ↦[rows n]{fullShare} partC A c) from Entails.refl _); iexact Hp
  isplitl [Hs]; · iapply (show slotPts n c fd ⊢ ((slotV ![c.val, 0, 0] inbD).view.loc (n : Thread nD τ) ↦[slot c]{fullShare} fd) from Entails.refl _); iexact Hs
  isplitl [Ho]; · iexact Ho
  isplitl [Ht1]; · iexact Ht1
  isplitr; · iapply (env_reached A K (c, some (0, n))); iexact HE
  isplitl [Ht2]; · iexact Ht2
  iapply (env_reached A K (n, some (1, c))); iexact HE

/-- Device `c` sends device `t` its rows of the result. -/
theorem wp_ag_copy (t : Dev nD) (htc : t ≠ c) {n : Dev nD} (hn : n = t) {s1 s2 : DmaSem sig} (hs1 : s1 = dsem 2 t) (hs2 : s2 = dsem 3 c)
    {off : Fin 2 → ℕ} (hS : off = ![32 * c.val, 0]) {inbS inbD}
    {hsc : (outV off inbD : Memref sig (Dev.tc n : Thread nD τ).2.kind .vmem S32x1024 .bf16).view.ref.isScScratch = false}
    {hsrc : (outV off inbS).view.WordExact} {hdst : (outV off inbD).view.WordExact}
    {hsem : DmaTarget.Typed .vmem (.dma s2) (.remote (Dev.tc n : Thread nD τ) (outV off inbD) (.dma s1) hsc)}
    {α : Type} {Q : α → sProp 𝕄} {k : PUnit → Prog (TpuEff nD τ sig (Elt F) Λ₀ .tc) α}
    (fd : Buf (Elt F) ((t : Thread nD τ).loc cc0_stg5_0)) (O₀ O : CellTallies nD τ sig Unit)
    (hO : O₀ = O + tallyAt (xfer t 3 c) () N) (W : Waits sig Unit) :
    iprop(Env A K ∗ outPts c c (leafShare t) (outC A) ∗ outPts t c fullShare fd ∗ owes (c : Thread nD τ) O₀ W
        ∗ dutyTok ER (xfer c 2 t) 0 0 ∗ dutyTok ER (xfer t 3 c) 0 0)
      ⊢ iprop(((cred (tallyAt (xfer c 2 t) () N) ∗ owes (c : Thread nD τ) O W) -∗ WP c (k ⟨⟩) Q)
          -∗ WP c (.op (.enqueueDma (outV off inbS) (.remote (Dev.tc n : Thread nD τ) (outV off inbD) (.dma s1) hsc) (.dma s2) hsrc hdst hsem) k) Q) := by
  subst hn hs1 hs2 hS
  have h := Rounds.wp_send_pointsTo (c' := (n : Thread nD τ)) (src := outV ![32 * c.val, 0] inbS) (dst := (outV ![32 * c.val, 0] inbD : Memref sig (Dev.tc n : Thread nD τ).2.kind .vmem S32x1024 .bf16))
    (hsc := hsc) (hsrc := hsrc) (hdst := hdst) (hsem := hsem) (k := k) (Q := Q) (q := leafShare n) (fs := outC A)
    (defs := defs₀ (F := F)) 𝒱₀ ER (sched A) (c : Thread nD τ) none (κ₁ := K (c, some (2, n))) (κ₂ := K (n, some (3, c)))
    (r₁ := 0) (r₂ := 0) (d₁ := 0) (d₂ := 0) (fd := fd)
    (by rw [duties_xfer A c n 2 htc]; exact Finset.mem_singleton_self _) (by rw [duties_xfer A n c 3 htc.symm]; exact Finset.mem_singleton_self _)
    () () N rfl (amount_xfer A c n 0 2) (amount_xfer A n c 0 3) O hO (W := W)
    (by rw [payload_xfer, set_outV c rfl]; exact BI.Entails.refl _)
    (by rw [payload_xfer, set_outV c rfl]; exact Entails.of_eq (pointsTo_congr (write_outV (inb := inbD) (inb' := inbS) A c fd))) (Es := Set.univ) (Γ := .empty)
  rw [set_outV c rfl] at h
  iintro ⟨#HE, Hp, Hs, Ho, Ht1, Ht2⟩
  iapply h
  isplitr; · iapply (env_inv A K (c, some (2, n))); iexact HE
  isplitr; · iapply (env_inv A K (n, some (3, c))); iexact HE
  isplitl [Hp]; · iapply (show outPts c c (leafShare n) (outC A) ⊢ ((outV ![32 * c.val, 0] inbS).view.loc (c : Thread nD τ) ↦[rows c]{leafShare n} outC A) from Entails.refl _); iexact Hp
  isplitl [Hs]; · iapply (show outPts n c fullShare fd ⊢ ((outV ![32 * c.val, 0] inbD).view.loc (n : Thread nD τ) ↦[rows c]{fullShare} fd) from Entails.refl _); iexact Hs
  isplitl [Ho]; · iexact Ho
  isplitl [Ht1]; · iexact Ht1
  isplitr; · iapply (env_reached A K (c, some (2, n))); iexact HE
  isplitl [Ht2]; · iexact Ht2
  iapply (env_reached A K (n, some (3, c))); iexact HE

/-! ## The waits -/

set_option maxRecDepth 4000 in
/-- A wait on one of the device's own transfer semaphores: what the arrival hands over, and the counter back at zero. -/
theorem wp_wait_xfer (a : Fin 4) (i : Dev nD) (hic : i ≠ c) {s : DmaSem sig} (hs : s = dsem a i)
    {sp sp' : Space} {sh sh' : Shape} {e e' : EltTy} {src : Memref sig .tc sp' sh' e'} {dst : Memref sig .tc sp sh e} (hN : dst.view.dmaCredit = N)
    {hsrc : src.view.WordExact} {hdst : dst.view.WordExact}
    {α : Type} {Q : α → sProp 𝕄} {k : PUnit → Prog (TpuEff nD τ sig (Elt F) Λ₀ .tc) α}
    (O : CellTallies nD τ sig Unit) (hO : (levAts L lv : sProp 𝕄) ⊢ MayWait (c : Thread nD τ) (.dma (dsem a i)) () O) :
    iprop(Env A K ∗ atPos ER (xfer c a i) 0 ∅ 0 ∗ cred (tallyAt (xfer c a i) () N) ∗ owesE c O)
      ⊢ iprop(((xpay A c a i ∗ semVal (xfer c a i) 0 ∗ owesE c O) -∗ WP c (k ⟨⟩) Q)
          -∗ WP c (.op (.waitDma2 s src dst hsrc hdst) k) Q) := by
  subst hs
  unfold owesE
  iintro ⟨#HE, Hat, Hc, ⟨%W, Ho⟩⟩ Hk
  iapply (Rounds.wp_wait_rest_token 𝒱₀ ER (sched A) (c : Thread nD τ) none (κ := K (c, some (a, i)))
      (wpE_waitDma2_eq 𝒱₀ (c : Thread nD τ) none Set.univ) (Set.mem_univ _) () (O := O) (W := W) (R := 0) (m := 0) (T := ∅)
      ((Nat.zero_add _).trans (hN.trans (expect_xfer A c i a hic).symm))) $$ [Hat Hc Ho]
  · isplitr; · iapply (env_inv A K (c, some (a, i))); iexact HE
    isplitl [Hc]; · rw [hN]; iexact Hc
    isplitl [Ho]; · iexact Ho
    isplitr; · iapply (env_mayWait A K hO); iexact HE
    iexact Hat
  iintro ⟨Ho, Hat, -, Hpay⟩
  ihave Hp := (Entails.of_eq (rest_xfer A c i a hic)) $$ Hpay
  imod (Rounds.cell_close ER (sched A) (Set.mem_univ (K (c, some (a, i)))) (fun h => h) (R := 0 + 1) (duties_later A (xfer c a i))) $$ [Hat] with Hz
  · isplitr; · iapply (env_inv A K (c, some (a, i))); iexact HE
    iexact Hat
  iapply Hk
  isplitl [Hp]; · iexact Hp
  isplitl [Hz]; · iexact Hz
  iexists _; iexact Ho

/-- The device's own position in an array is never paid: its counter is zero at once. -/
theorem close_own (a : Fin 4) : iprop(Env A K ∗ atPos ER (xfer c a c) 0 ∅ 0) ⊢ (|={Set.univ}=> semVal (xfer c a c) 0 : sProp 𝕄) := by
  iintro ⟨#HE, Hat⟩
  imod (Rounds.cell_close ER (sched A) (Set.mem_univ (K (c, some (a, c)))) (fun h => h) (R := 0) (duties_own_all A c a)) $$ [Hat] with Hz
  · isplitr; · iapply (env_inv A K (c, some (a, c))); iexact HE
    iexact Hat
  imodintro
  iexact Hz

end Cert.KernelIdeal.Exchange

end
-- ==== Proof.KernelIdeal.Steps.lean ====
/-
  The exchange, one position at a time: the handshake, the copies and the waits, each with what the device holds before and after.
-/
module

public import proofs.«01_k».proof.Proof.KernelIdeal.Copies

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-- The kernel's test whether position `t` is another device's. -/
abbrev isPeer (t : BitVec 32) (v2 : BitVec 32) : BitVec 1 := Scalar.cmpi .ne (Scalar.extui (Scalar.cmpi .ne v2 t) : BitVec 32) 0#32

/-- The device's own number as the kernel computes it. -/
abbrev self (c : Dev nD) : BitVec 32 := Scalar.remsi (Scalar.divsi (Dev.word c) 1#32) 32#32

theorem isPeer_iff : ∀ (t : Fin 32) (c : Dev nD), isPeer (BitVec.ofNat 32 t.val) (self c) = 1#1 ↔ (⟨t.val, t.isLt⟩ : Dev nD) ≠ c := by
  decide +kernel

/-- The devices from position `t` on and before position `hi`. -/
def mid (t hi : ℕ) : Finset (Dev nD) := Finset.univ.filter fun i => t ≤ i.val ∧ i.val < hi

theorem mid_self (t : ℕ) : mid t t = ∅ := Finset.filter_false_of_mem fun i _ => by omega
theorem mid_insert (t hi : ℕ) (h : t < 32) (hlt : t < hi) : mid t hi = insert (⟨t, h⟩ : Dev nD) (mid (t + 1) hi) := by
  ext i
  simp only [mid, Finset.mem_insert, Finset.mem_filter, Finset.mem_univ, true_and, Fin.ext_iff]
  omega
theorem not_mem_mid (t hi : ℕ) (h : t < 32) : (⟨t, h⟩ : Dev nD) ∉ mid (t + 1) hi := by
  simp only [mid, Finset.mem_filter, Finset.mem_univ, true_and]; omega
omit [FloatOps F] [Named F] in
theorem sep_mid (t hi : ℕ) (h : t < 32) (hlt : t < hi) (Φ : Dev nD → sProp 𝕄) :
    bigSep (mid t hi) Φ = iprop(Φ ⟨t, h⟩ ∗ bigSep (mid (t + 1) hi) Φ) := by
  rw [mid_insert t hi h hlt]; exact BI.bigSep_insert (not_mem_mid t hi h)

/-! ## The reduce-scatter's copies -/

/-- What the copy for device `p` needs besides the rows. -/
def rsNeed (p : Dev nD) : sProp 𝕄 :=
  if p = c then iprop(emp) else iprop(dutyTok ER (xfer c 0 p) 0 0 ∗ dutyTok ER (xfer p 1 c) 0 0 ∗ ∃ f, slotPts p c f)
/-- What is left of a copy once started; of the device's own rows, the rows. -/
def rsSent (p : Dev nD) : sProp 𝕄 :=
  if p = c then partPts c (rows c) (partC A c) else cred (tallyAt (xfer c 0 p) () N)
/-- The reduce-scatter's copies started before `t`, the rows computed before `hi`. -/
def RsSend (t hi : ℕ) : sProp 𝕄 :=
  iprop(Env A K ∗ owesE c (owesRs c t) ∗ bigSep (ge t) (rsNeed c) ∗ bigSep (mid t hi) (fun i => partPts c (rows i) (partC A c)) ∗ bigSep (lt t) (rsSent A c))

/-- Position `t` of the reduce-scatter's copies. -/
theorem wp_rsSend (t hi : ℕ) (ht : t < 32) (hlt : t < hi) {b : BitVec 1} (hb : b = 1#1 ↔ (⟨t, ht⟩ : Dev nD) ≠ c)
    {dv : ℕ} (hdv : dv = t) {hdl : b = 1#1 → dv < nD} {s1 : b = 1#1 → DmaSem sig} (hs1 : ∀ h, s1 h = dsem 0 ⟨t, ht⟩)
    {s2 : b = 1#1 → DmaSem sig} (hs2 : ∀ h, s2 h = dsem 1 c)
    {offS : Fin 2 → ℕ} (hS : offS = ![32 * t, 0]) {inbS : b = 1#1 → ∀ a, offS a + S32x1024.size a ≤ S1024x1024.size a}
    {offD : Fin 3 → ℕ} (hD : offD = ![c.val, 0, 0]) {inbD : b = 1#1 → ∀ a, offD a + S1x32x1024.size a ≤ S32x32x1024.size a}
    {hsc : ∀ h, (slotV offD (inbD h) : Memref sig (Dev.tc (⟨dv, hdl h⟩ : Dev nD) : Thread nD τ).2.kind .vmem S32x1024 .bf16).view.ref.isScScratch = false}
    {hsrc : ∀ h, (partV offS (inbS h)).view.WordExact} {hdst : ∀ h, (slotV offD (inbD h)).view.WordExact}
    {hsem : ∀ h, DmaTarget.Typed .vmem (.dma (s2 h)) (.remote (Dev.tc (⟨dv, hdl h⟩ : Dev nD) : Thread nD τ) (slotV offD (inbD h)) (.dma (s1 h)) (hsc h))}
    {α : Type} {Q : α → sProp 𝕄} {k : PUnit → Prog (TpuEff nD τ sig (Elt F) Λ₀ .tc) α} :
    RsSend A K c t hi ⊢ iprop((RsSend A K c (t + 1) hi -∗ WP c (k ⟨⟩) Q)
      -∗ WP c (dite (b = 1#1) (fun h => Prog.lift (.enqueueDma (partV offS (inbS h)) (.remote (Dev.tc (⟨dv, hdl h⟩ : Dev nD) : Thread nD τ) (slotV offD (inbD h)) (.dma (s1 h)) (hsc h)) (.dma (s2 h)) (hsrc h) (hdst h) (hsem h)) >>= fun _ => k ⟨⟩) (fun _ => k ⟨⟩)) Q) := by
  unfold RsSend owesE
  rw [sep_ge t ht, sep_mid t hi ht hlt, sep_lt t ht]
  by_cases h : b = 1#1
  · have hc := hb.mp h
    rw [dif_pos h]
    simp only [Prog.lift, Prog.bind_op, Prog.bind_ret]
    rw [show rsNeed (F := F) c ⟨t, ht⟩ = _ from if_neg hc, show rsSent A c ⟨t, ht⟩ = _ from if_neg hc]
    iintro ⟨#HE, ⟨%W, Ho⟩, ⟨⟨Ht1, Ht2, ⟨%f, Hs⟩⟩, Hg⟩, ⟨Hp, Hm⟩, Hl⟩ Hk
    iapply (wp_rs_copy A K c ⟨t, ht⟩ hc (n := ⟨dv, hdl h⟩) (Fin.ext hdv) (hs1 h) (hs2 h) hS hD f _ _ (owesRs_step c t ht hc) W) $$ [Ho Ht1 Ht2 Hs Hp]
    · isplitr; · iexact HE
      isplitl [Hp]; · iexact Hp
      isplitl [Hs]; · iexact Hs
      isplitl [Ho]; · iexact Ho
      isplitl [Ht1]; · iexact Ht1
      iexact Ht2
    iintro ⟨Hc, Ho⟩
    iapply Hk
    isplitr; · iexact HE
    isplitl [Ho]; · iexists _; iexact Ho
    isplitl [Hg]; · iexact Hg
    isplitl [Hm]; · iexact Hm
    isplitl [Hc]; · iexact Hc
    iexact Hl
  · have hc : (⟨t, ht⟩ : Dev nD) = c := not_not.mp fun hn => h (hb.mpr hn)
    rw [dif_neg h, owesRs_skip c t ht hc]
    rw [show rsNeed (F := F) c ⟨t, ht⟩ = _ from if_pos hc, show rsSent A c ⟨t, ht⟩ = _ from if_pos hc, hc]
    iintro ⟨#HE, ⟨%W, Ho⟩, ⟨-, Hg⟩, ⟨Hp, Hm⟩, Hl⟩ Hk
    iapply Hk
    isplitr; · iexact HE
    isplitl [Ho]; · iexists _; iexact Ho
    isplitl [Hg]; · iexact Hg
    isplitl [Hm]; · iexact Hm
    isplitl [Hp]; · iexact Hp
    iexact Hl

/-! ## The all-gather's copies -/

/-- What the copy for device `p` needs, and the share of the own rows it is lent. -/
def agNeed (p : Dev nD) : sProp 𝕄 :=
  iprop((if p = c then iprop(emp) else iprop(dutyTok ER (xfer c 2 p) 0 0 ∗ dutyTok ER (xfer p 3 c) 0 0 ∗ ∃ f, outPts p c fullShare f))
    ∗ outPts c c (leafShare p) (outC A))
/-- What is left of a copy once started. -/
def agSent (p : Dev nD) : sProp 𝕄 :=
  if p = c then outPts c c (leafShare c) (outC A) else cred (tallyAt (xfer c 2 p) () N)
/-- The all-gather's copies started before `t`. -/
def AgSend (t : ℕ) : sProp 𝕄 :=
  iprop(Env A K ∗ owesE c (owesAg c t) ∗ bigSep (ge t) (agNeed A c) ∗ bigSep (lt t) (agSent A c))

/-- Position `t` of the all-gather's copies. -/
theorem wp_agSend (t : ℕ) (ht : t < 32) {b : BitVec 1} (hb : b = 1#1 ↔ (⟨t, ht⟩ : Dev nD) ≠ c)
    {dv : ℕ} (hdv : dv = t) {hdl : b = 1#1 → dv < nD} {s1 : b = 1#1 → DmaSem sig} (hs1 : ∀ h, s1 h = dsem 2 ⟨t, ht⟩)
    {s2 : b = 1#1 → DmaSem sig} (hs2 : ∀ h, s2 h = dsem 3 c)
    {off : Fin 2 → ℕ} (hS : off = ![32 * c.val, 0]) {inbS : b = 1#1 → ∀ a, off a + S32x1024.size a ≤ S1024x1024.size a}
    {inbD : b = 1#1 → ∀ a, off a + S32x1024.size a ≤ S1024x1024.size a}
    {hsc : ∀ h, (outV off (inbD h) : Memref sig (Dev.tc (⟨dv, hdl h⟩ : Dev nD) : Thread nD τ).2.kind .vmem S32x1024 .bf16).view.ref.isScScratch = false}
    {hsrc : ∀ h, (outV off (inbS h)).view.WordExact} {hdst : ∀ h, (outV off (inbD h)).view.WordExact}
    {hsem : ∀ h, DmaTarget.Typed .vmem (.dma (s2 h)) (.remote (Dev.tc (⟨dv, hdl h⟩ : Dev nD) : Thread nD τ) (outV off (inbD h)) (.dma (s1 h)) (hsc h))}
    {α : Type} {Q : α → sProp 𝕄} {k : PUnit → Prog (TpuEff nD τ sig (Elt F) Λ₀ .tc) α} :
    AgSend A K c t ⊢ iprop((AgSend A K c (t + 1) -∗ WP c (k ⟨⟩) Q)
      -∗ WP c (dite (b = 1#1) (fun h => Prog.lift (.enqueueDma (outV off (inbS h)) (.remote (Dev.tc (⟨dv, hdl h⟩ : Dev nD) : Thread nD τ) (outV off (inbD h)) (.dma (s1 h)) (hsc h)) (.dma (s2 h)) (hsrc h) (hdst h) (hsem h)) >>= fun _ => k ⟨⟩) (fun _ => k ⟨⟩)) Q) := by
  unfold AgSend owesE
  rw [sep_ge t ht, sep_lt t ht]
  by_cases h : b = 1#1
  · have hc := hb.mp h
    rw [dif_pos h]
    simp only [Prog.lift, Prog.bind_op, Prog.bind_ret]
    rw [show agNeed A c ⟨t, ht⟩ = _ from congrArg (fun P => iprop(P ∗ outPts c c (leafShare ⟨t, ht⟩) (outC A))) (if_neg hc), show agSent A c ⟨t, ht⟩ = _ from if_neg hc]
    iintro ⟨#HE, ⟨%W, Ho⟩, ⟨⟨⟨Ht1, Ht2, ⟨%f, Hs⟩⟩, Hp⟩, Hg⟩, Hl⟩ Hk
    iapply (wp_ag_copy A K c ⟨t, ht⟩ hc (n := ⟨dv, hdl h⟩) (Fin.ext hdv) (hs1 h) (hs2 h) hS f _ _ (owesAg_step c t ht hc) W) $$ [Ho Ht1 Ht2 Hs Hp]
    · isplitr; · iexact HE
      isplitl [Hp]; · iexact Hp
      isplitl [Hs]; · iexact Hs
      isplitl [Ho]; · iexact Ho
      isplitl [Ht1]; · iexact Ht1
      iexact Ht2
    iintro ⟨Hc, Ho⟩
    iapply Hk
    isplitr; · iexact HE
    isplitl [Ho]; · iexists _; iexact Ho
    isplitl [Hg]; · iexact Hg
    isplitl [Hc]; · iexact Hc
    iexact Hl
  · have hc : (⟨t, ht⟩ : Dev nD) = c := not_not.mp fun hn => h (hb.mpr hn)
    rw [dif_neg h, owesAg_skip c t ht hc]
    rw [show agNeed A c ⟨t, ht⟩ = _ from congrArg (fun P => iprop(P ∗ outPts c c (leafShare ⟨t, ht⟩) (outC A))) (if_pos hc), show agSent A c ⟨t, ht⟩ = _ from if_pos hc, hc]
    iintro ⟨#HE, ⟨%W, Ho⟩, ⟨⟨-, Hp⟩, Hg⟩, Hl⟩ Hk
    iapply Hk
    isplitr; · iexact HE
    isplitl [Ho]; · iexists _; iexact Ho
    isplitl [Hg]; · iexact Hg
    isplitl [Hp]; · iexact Hp
    iexact Hl

/-! ## The waits -/

/-- Array `a` of the device's transfer semaphores, those before `t` waited for and closed; `own` is what stands in for
    an arrival at the device's own position. -/
def Pos (a : Fin 4) (own : sProp 𝕄) (t : ℕ) : sProp 𝕄 :=
  iprop(bigSep (ge t) (fun p => iprop(atPos ER (xfer c a p) 0 ∅ 0 ∗ if p = c then own else cred (tallyAt (xfer c a p) () N)))
    ∗ bigSep (lt t) (fun p => iprop(semVal (xfer c a p) 0 ∗ if p = c then own else xpay A c a p)))

/-- The waits on one array, owing `O`. -/
def Waiting (a : Fin 4) (O : CellTallies nD τ sig Unit) (own : sProp 𝕄) (t : ℕ) : sProp 𝕄 :=
  iprop(Env A K ∗ owesE c O ∗ Pos A c a own t)

/-- The own position is passed over. -/
theorem pos_skip (a : Fin 4) (own : sProp 𝕄) (t : ℕ) (ht : t < 32) (hc : (⟨t, ht⟩ : Dev nD) = c) :
    iprop(Env A K ∗ Pos A c a own t) ⊢ (|={Set.univ}=> Pos A c a own (t + 1) : sProp 𝕄) := by
  unfold Pos
  rw [sep_ge t ht, sep_lt t ht, if_pos hc, if_pos hc, hc]
  iintro ⟨#HE, ⟨⟨Hat, Hown⟩, Hg⟩, Hl⟩
  imod (close_own A K c a) $$ [Hat] with Hz
  · isplitr; · iexact HE
    iexact Hat
  imodintro
  isplitl [Hg]; · iexact Hg
  isplitl [Hz Hown]
  · isplitl [Hz]; · iexact Hz
    iexact Hown
  iexact Hl

/-- A peer's position is waited for. -/
theorem wp_pos (a : Fin 4) (O : CellTallies nD τ sig Unit) (hO : ∀ i, (levAts L lv : sProp 𝕄) ⊢ MayWait (c : Thread nD τ) (.dma (dsem a i)) () O)
    (own : sProp 𝕄) (t : ℕ) (ht : t < 32) (hc : (⟨t, ht⟩ : Dev nD) ≠ c) {s : DmaSem sig} (hs : s = dsem a ⟨t, ht⟩)
    {sp sp' : Space} {sh sh' : Shape} {e e' : EltTy} {src : Memref sig .tc sp' sh' e'} {dst : Memref sig .tc sp sh e} (hN : dst.view.dmaCredit = N)
    {hsrc : src.view.WordExact} {hdst : dst.view.WordExact}
    {α : Type} {Q : α → sProp 𝕄} {k : PUnit → Prog (TpuEff nD τ sig (Elt F) Λ₀ .tc) α} :
    Waiting A K c a O own t ⊢ iprop((Waiting A K c a O own (t + 1) -∗ WP c (k ⟨⟩) Q) -∗ WP c (.op (.waitDma2 s src dst hsrc hdst) k) Q) := by
  unfold Waiting Pos
  rw [sep_ge t ht, sep_lt t ht, if_neg hc, if_neg hc]
  iintro ⟨#HE, Ho, ⟨⟨Hat, Hc⟩, Hg⟩, Hl⟩ Hk
  iapply (wp_wait_xfer A K c a ⟨t, ht⟩ hc hs hN O (hO _)) $$ [Hat Hc Ho]
  · isplitr; · iexact HE
    isplitl [Hat]; · iexact Hat
    isplitl [Hc]; · iexact Hc
    iexact Ho
  iintro ⟨Hp, Hz, Ho⟩
  iapply Hk
  isplitr; · iexact HE
  isplitl [Ho]; · iexact Ho
  isplitl [Hg]; · iexact Hg
  isplitl [Hz Hp]
  · isplitl [Hz]; · iexact Hz
    iexact Hp
  iexact Hl

/-- Position `t` of the waits on one array. -/
theorem wp_waiting (a : Fin 4) (O : CellTallies nD τ sig Unit) (hO : ∀ i, (levAts L lv : sProp 𝕄) ⊢ MayWait (c : Thread nD τ) (.dma (dsem a i)) () O)
    (own : sProp 𝕄) (t : ℕ) (ht : t < 32) {b : BitVec 1} (hb : b = 1#1 ↔ (⟨t, ht⟩ : Dev nD) ≠ c) {s : b = 1#1 → DmaSem sig} (hs : ∀ h, s h = dsem a ⟨t, ht⟩)
    {sp sp' : Space} {sh sh' : Shape} {e e' : EltTy} {src : b = 1#1 → Memref sig .tc sp' sh' e'} {dst : b = 1#1 → Memref sig .tc sp sh e} (hN : ∀ h, (dst h).view.dmaCredit = N)
    {hsrc : ∀ h, (src h).view.WordExact} {hdst : ∀ h, (dst h).view.WordExact}
    {α : Type} {Q : α → sProp 𝕄} {k : PUnit → Prog (TpuEff nD τ sig (Elt F) Λ₀ .tc) α} :
    Waiting A K c a O own t ⊢ iprop((Waiting A K c a O own (t + 1) -∗ WP c (k ⟨⟩) Q)
      -∗ WP c (dite (b = 1#1) (fun h => Prog.lift (.waitDma2 (s h) (src h) (dst h) (hsrc h) (hdst h)) >>= fun _ => k ⟨⟩) (fun _ => k ⟨⟩)) Q) := by
  by_cases h : b = 1#1
  · rw [dif_pos h]
    simp only [Prog.lift, Prog.bind_op, Prog.bind_ret]
    exact wp_pos A K c a O hO own t ht (hb.mp h) (hs h) (hN h) (k := fun _ => k ⟨⟩)
  · have hc : (⟨t, ht⟩ : Dev nD) = c := not_not.mp fun hn => h (hb.mpr hn)
    rw [dif_neg h]
    unfold Waiting
    iintro ⟨#HE, Ho, HP⟩ Hk
    imod (pos_skip A K c a own t ht hc) $$ [HP] with HP
    · isplitr; · iexact HE
      iexact HP
    iapply Hk
    isplitr; · iexact HE
    isplitl [Ho]; · iexact Ho
    iexact HP

/-- The waits for the device's own copies to have left, before `t`. -/
def Drain (t : ℕ) : sProp 𝕄 :=
  iprop(Env A K ∗ owesE c 0 ∗ Pos A c 0 (xpay A c 0 c) t ∗ Pos A c 2 (xpay A c 2 c) t)

omit [FloatOps F] [Named F] in
theorem mayWait_none {s : SemLoc sig} : (levAts L lv : sProp 𝕄) ⊢ MayWait (c : Thread nD τ) s () 0 := by
  rw [MayWait_zero]; iintro -; iempintro

/-- Position `t` of those waits. -/
theorem wp_drain (t : ℕ) (ht : t < 32) {b : BitVec 1} (hb : b = 1#1 ↔ (⟨t, ht⟩ : Dev nD) ≠ c)
    {s : b = 1#1 → DmaSem sig} (hs : ∀ h, s h = dsem 0 ⟨t, ht⟩) {s' : b = 1#1 → DmaSem sig} (hs' : ∀ h, s' h = dsem 2 ⟨t, ht⟩)
    {sp sp' : Space} {sh sh' : Shape} {e e' : EltTy} {src : b = 1#1 → Memref sig .tc sp' sh' e'} {dst : b = 1#1 → Memref sig .tc sp sh e} (hN : ∀ h, (dst h).view.dmaCredit = N)
    {hsrc : ∀ h, (src h).view.WordExact} {hdst : ∀ h, (dst h).view.WordExact}
    {sp₁ sp₁' : Space} {sh₁ sh₁' : Shape} {e₁ e₁' : EltTy} {src₁ : b = 1#1 → Memref sig .tc sp₁' sh₁' e₁'} {dst₁ : b = 1#1 → Memref sig .tc sp₁ sh₁ e₁} (hN₁ : ∀ h, (dst₁ h).view.dmaCredit = N)
    {hsrc₁ : ∀ h, (src₁ h).view.WordExact} {hdst₁ : ∀ h, (dst₁ h).view.WordExact}
    {α : Type} {Q : α → sProp 𝕄} {k : PUnit → Prog (TpuEff nD τ sig (Elt F) Λ₀ .tc) α} :
    Drain A K c t ⊢ iprop((Drain A K c (t + 1) -∗ WP c (k ⟨⟩) Q)
      -∗ WP c (dite (b = 1#1) (fun h => Prog.lift (.waitDma2 (s h) (src h) (dst h) (hsrc h) (hdst h)) >>= fun _ =>
          Prog.lift (.waitDma2 (s' h) (src₁ h) (dst₁ h) (hsrc₁ h) (hdst₁ h)) >>= fun _ => k ⟨⟩) (fun _ => k ⟨⟩)) Q) := by
  by_cases h : b = 1#1
  · rw [dif_pos h]
    simp only [Prog.lift, Prog.bind_op, Prog.bind_ret]
    unfold Drain
    iintro ⟨#HE, Ho, HP, HP'⟩ Hk
    iapply (wp_pos A K c 0 0 (fun _ => mayWait_none c) (xpay A c 0 c) t ht (hb.mp h) (hs h) (hN h)) $$ [Ho HP]
    · unfold Waiting
      isplitr; · iexact HE
      isplitl [Ho]; · iexact Ho
      iexact HP
    iintro H
    ihave H := (show Waiting A K c 0 0 (xpay A c 0 c) (t + 1) ⊢ iprop(Env A K ∗ owesE c 0 ∗ Pos A c 0 (xpay A c 0 c) (t + 1)) from Entails.refl _) $$ H
    icases H with ⟨-, Ho, HP⟩
    iapply (wp_pos A K c 2 0 (fun _ => mayWait_none c) (xpay A c 2 c) t ht (hb.mp h) (hs' h) (hN₁ h)) $$ [Ho HP']
    · unfold Waiting
      isplitr; · iexact HE
      isplitl [Ho]; · iexact Ho
      iexact HP'
    iintro H
    ihave H := (show Waiting A K c 2 0 (xpay A c 2 c) (t + 1) ⊢ iprop(Env A K ∗ owesE c 0 ∗ Pos A c 2 (xpay A c 2 c) (t + 1)) from Entails.refl _) $$ H
    icases H with ⟨-, Ho, HP'⟩
    iapply Hk
    isplitr; · iexact HE
    isplitl [Ho]; · iexact Ho
    isplitl [HP]; · iexact HP
    iexact HP'
  · have hc : (⟨t, ht⟩ : Dev nD) = c := not_not.mp fun hn => h (hb.mpr hn)
    rw [dif_neg h]
    unfold Drain
    iintro ⟨#HE, Ho, HP, HP'⟩ Hk
    imod (pos_skip A K c 0 _ t ht hc) $$ [HP] with HP
    · isplitr; · iexact HE
      iexact HP
    imod (pos_skip A K c 2 _ t ht hc) $$ [HP'] with HP'
    · isplitr; · iexact HE
      iexact HP'
    iapply Hk
    isplitr; · iexact HE
    isplitl [Ho]; · iexact Ho
    isplitl [HP]; · iexact HP
    iexact HP'

/-! ## The handshake -/

/-- What the signal to device `p` spends. -/
def sigNeed (p : Dev nD) : sProp 𝕄 := iprop(dutyTok ER (barCell p) 0 c ∗ give c p)
/-- What it leaves: the device's places for itself. -/
def sigSent (p : Dev nD) : sProp 𝕄 := if p = c then give c c else iprop(emp)
/-- The signals given before `t`. -/
def Sig (t : ℕ) : sProp 𝕄 := iprop(Env A K ∗ owesE c (owesBar c t) ∗ bigSep (ge t) (sigNeed c) ∗ bigSep (lt t) (sigSent c))

/-- Signal `t` of the handshake. -/
theorem wp_sig (t : ℕ) (ht : t < 32) {dv : ℕ} (hdv : dv = t) {hdl : dv < nD}
    {α : Type} {Q : α → sProp 𝕄} {k : PUnit → Prog (TpuEff nD τ sig (Elt F) Λ₀ .tc) α} :
    Sig A K c t ⊢ iprop((Sig A K c (t + 1) -∗ WP c (k ⟨⟩) Q) -∗ WP c (semSignalWord (⟨dv, hdl⟩ : Dev nD) barS 1#32 >>= k) Q) := by
  subst hdv
  unfold Sig owesE
  rw [sep_ge dv ht, sep_lt dv ht]
  simp only [semSignalWord, Prog.bind_op, Prog.bind_ret]
  unfold sigNeed
  iintro ⟨#HE, ⟨%W, Ho⟩, ⟨⟨Ht, Hgv⟩, Hg⟩, Hl⟩ Hk
  ihave Hx := (show give (F := F) c ⟨dv, ht⟩ ⊢ iprop(barPay ⟨dv, ht⟩ c ∗ sigSent c ⟨dv, ht⟩) from by
    unfold barPay sigSent
    by_cases hc : (⟨dv, ht⟩ : Dev nD) = c
    · rw [if_pos hc.symm, if_pos hc, hc]
      iintro H
      isplitr; · iempintro
      iexact H
    · rw [if_neg (Ne.symm hc), if_neg hc]
      iintro H
      isplitl [H]; · iexact H
      iempintro) $$ Hgv
  icases Hx with ⟨Hpay, Hsent⟩
  iapply (Rounds.wp_signal 𝒱₀ ER (sched A) (c : Thread nD τ) none (dst := ((⟨dv, ht⟩ : Dev nD) : Thread nD τ)) (κ := K (⟨dv, ht⟩, none))
      (d := c) (by rw [duties_bar]; exact Finset.mem_univ _) ((amount_bar A ⟨dv, ht⟩ c).trans (by decide)) () (owesBar c (dv + 1)) (owesBar_step c dv ht))
    $$ [Ho Ht Hpay]
  · isplitr; · iapply (env_inv A K (⟨dv, ht⟩, none)); iexact HE
    isplitl [Ho]; · iexact Ho
    isplitl [Ht]; · iexact Ht
    isplitl [Hpay]; · rw [payload_bar]; iexact Hpay
    iapply (env_reached A K (⟨dv, ht⟩, none)); iexact HE
  iintro Ho
  iapply Hk
  isplitr; · iexact HE
  isplitl [Ho]; · iexists _; iexact Ho
  isplitl [Hg]; · iexact Hg
  isplitl [Hsent]; · iexact Hsent
  iexact Hl

/-- The handshake's wait: every peer's places for this device. -/
theorem wp_bar {α : Type} {Q : α → sProp 𝕄} {k : PUnit → Prog (TpuEff nD τ sig (Elt F) Λ₀ .tc) α} :
    iprop(Sig A K c 32 ∗ atPos ER (barCell c) 0 ∅ 0 ∗ cred (tallyAt (barCell c) () 32))
      ⊢ iprop(((Env A K ∗ owesE c (owesRs c 0) ∗ bigSep Finset.univ (sigSent (F := F) c) ∗ bigSep Finset.univ (barPay (F := F) c) ∗ semVal (barCell c) 0) -∗ WP c (k ⟨⟩) Q)
        -∗ WP c (semWaitWord barS 32#32 >>= k) Q) := by
  unfold Sig owesE
  rw [owesBar_all, lt_all]
  simp only [semWaitWord, Prog.bind_op, Prog.bind_ret]
  iintro ⟨⟨#HE, ⟨%W, Ho⟩, -, Hl⟩, Hat, Hc⟩ Hk
  iapply (Rounds.wp_wait_rest_token 𝒱₀ ER (sched A) (c : Thread nD τ) none (κ := K (c, none))
      (wpE_semWait_eq 𝒱₀ (c : Thread nD τ) none Set.univ) (Set.mem_univ _) () (O := owesRs c 0) (W := W) (R := 0) (m := 0) (T := ∅)
      (by rw [expect_bar]; decide)) $$ [Hat Hc Ho]
  · isplitr; · iapply (env_inv A K (c, none)); iexact HE
    isplitl [Hc]; · iexact Hc
    isplitl [Ho]; · iexact Ho
    isplitr; · iapply (env_mayWait A K (mayWait_bar c)); iexact HE
    iexact Hat
  iintro ⟨Ho, Hat, -, Hpay⟩
  ihave Hp := (Entails.of_eq (rest_bar A c)) $$ Hpay
  imod (Rounds.cell_close ER (sched A) (Set.mem_univ (K (c, none))) (fun h => h) (R := 0 + 1) (duties_later A (barCell c))) $$ [Hat] with Hz
  · isplitr; · iapply (env_inv A K (c, none)); iexact HE
    iexact Hat
  iapply Hk
  isplitr; · iexact HE
  isplitl [Ho]; · iexists _; iexact Ho
  isplitl [Hl]; · iexact Hl
  isplitl [Hp]; · iexact Hp
  iexact Hz

end Cert.KernelIdeal.Exchange

end
-- ==== Proof.KernelIdeal.Attn.lean ====
/-
  The attention's loads and stores, one at a time: head by head into the context buffer, then 256 rows of the partial product.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-- The context buffer. -/
abbrev ctxM : Memref sig .tc .vmem S1024x1024 .bf16 := Memref.whole cc0_scratch0
/-- The partial product. -/
abbrev partM : Memref sig .tc .vmem S1024x1024 .bf16 := Memref.whole cc0_scratch1

/-- A head's place in the context buffer. -/
abbrev headR (off : Fin 2 → ℕ) (inb : ∀ a, off a + S256x128.size a ≤ S1024x1024.size a) : Rect S1024x1024 := Rect.unit (s := S1024x1024) off S256x128.size inb
/-- 256 rows. -/
abbrev blockR (off : Fin 2 → ℕ) (inb : ∀ a, off a + S256x1024.size a ≤ S1024x1024.size a) : Rect S1024x1024 := Rect.unit (s := S1024x1024) off S256x1024.size inb

/-- A head's place in the context buffer, as a view. -/
abbrev headA (off : Fin 2 → ℕ) (inb : ∀ a, off a + S256x128.size a ≤ S1024x1024.size a) : View sig .tc .vmem S256x128 .bf16 := ctxM.view.slice (headR off inb)
/-- 256 rows of the partial product. -/
abbrev blockA (off : Fin 2 → ℕ) (inb : ∀ a, off a + S256x1024.size a ≤ S1024x1024.size a) : View sig .tc .vmem S256x1024 .bf16 := partM.view.slice (blockR off inb)

/-- The rows from block `top` on. -/
def tail (top : ℕ) : Finset S1024x1024.Idx := Finset.univ.filter fun i => 256 * top ≤ (i 0).val

theorem mem_tail {top : ℕ} {i : S1024x1024.Idx} : i ∈ tail top ↔ 256 * top ≤ (i 0).val := by
  unfold tail; rw [Finset.mem_filter]; exact ⟨fun h => h.2, fun h => ⟨Finset.mem_univ _, h⟩⟩

theorem tail_zero : tail 0 = Finset.univ := Finset.filter_true_of_mem fun _ _ => Nat.zero_le _

/-- The context buffer holds the first `n` heads of row block `rb`. -/
def CtxInv (rb : Fin 4) (n : ℕ) (f : Vec F S1024x1024 .bf16) : Prop :=
  ∀ (h : Fin 8), h.val < n → ∀ (i : Fin 256) (j : Fin 128),
    f (ix2 ⟨256 * rb.val + i.val, by have := rb.isLt; have := i.isLt; omega⟩ ⟨128 * h.val + j.val, by have := h.isLt; have := j.isLt; omega⟩)
      = head A c rb h (ix2 i j)

/-- The attention's buffers: the keys, the values, the output projection, the context buffer with `n` heads of row block
    `rb`, and the rows of the partial product not computed yet, from block `top` on. -/
def Attn (top : ℕ) (rb : Fin 4) (n : ℕ) : sProp 𝕄 :=
  iprop(((c : Thread nD τ).loc cc0_stg2_0 ↦[Finset.univ]{fullShare} A.k c) ∗ ((c : Thread nD τ).loc cc0_stg3_0 ↦[Finset.univ]{fullShare} A.v c)
    ∗ ((c : Thread nD τ).loc cc0_stg4_0 ↦[Finset.univ]{fullShare} A.wo c)
    ∗ (∃ f : Vec F S1024x1024 .bf16, ⌜CtxInv A c rb n f⌝ ∗ ((c : Thread nD τ).loc cc0_scratch0 ↦[Finset.univ]{fullShare} f))
    ∗ ∃ f, partPts c (tail top) f)

/-- A new row block starts with no head written. -/
theorem attn_next (top : ℕ) (rb rb' : Fin 4) (n : ℕ) : Attn A c top rb n ⊢ Attn A c top rb' 0 := by
  unfold Attn
  iintro ⟨Hk, Hv, Hw, ⟨%f, -, Hc⟩, Ht⟩
  isplitl [Hk]; · iexact Hk
  isplitl [Hv]; · iexact Hv
  isplitl [Hw]; · iexact Hw
  isplitl [Hc]
  · iexists f
    isplitr
    · ipureintro; intro h hh; exact absurd hh (Nat.not_lt_zero _)
    iexact Hc
  iexact Ht

/-- Loading a head's keys. -/
theorem wp_key {α : Type} {Q : α → sProp 𝕄} {top : ℕ} {rb : Fin 4} {n : ℕ} (h : Fin 8) (rb' : Fin 4) {off : Fin 3 → ℕ} (ho : off = ![h.val, bandStart rb', 0]) {inb hl}
    {k : Vec F S1x512x128 .bf16 → Prog (TpuEff nD τ sig (Elt F) Λ₀ .tc) α} :
    Attn A c top rb n ⊢ iprop((Attn A c top rb n -∗ WP c (k (window (A.k c) rb' h)) Q)
      -∗ WP c (Prog.lift (.load (Memref.whole cc0_stg2_0) (Rect.unit (s := S8x1024x128) off S1x512x128.size inb).toLoadRect hl) >>= k) Q) := by
  subst ho
  simp only [Prog.lift, Prog.bind_op, Prog.bind_ret]
  unfold Attn
  iintro ⟨Hk, H⟩ Hq
  iapply (wp_load 𝒱₀ (c : Thread nD τ) none Set.univ (m := Memref.whole cc0_stg2_0) (S := Finset.univ) (f := A.k c) (Finset.subset_univ _)) $$ [Hk]
  · iexact Hk
  iintro Hk
  iapply Hq
  isplitl [Hk]; · iexact Hk
  iexact H

/-- Loading a head's values. -/
theorem wp_val {α : Type} {Q : α → sProp 𝕄} {top : ℕ} {rb : Fin 4} {n : ℕ} (h : Fin 8) (rb' : Fin 4) {off : Fin 3 → ℕ} (ho : off = ![h.val, bandStart rb', 0]) {inb hl}
    {k : Vec F S1x512x128 .bf16 → Prog (TpuEff nD τ sig (Elt F) Λ₀ .tc) α} :
    Attn A c top rb n ⊢ iprop((Attn A c top rb n -∗ WP c (k (window (A.v c) rb' h)) Q)
      -∗ WP c (Prog.lift (.load (Memref.whole cc0_stg3_0) (Rect.unit (s := S8x1024x128) off S1x512x128.size inb).toLoadRect hl) >>= k) Q) := by
  subst ho
  simp only [Prog.lift, Prog.bind_op, Prog.bind_ret]
  unfold Attn
  iintro ⟨Hk, Hv, H⟩ Hq
  iapply (wp_load 𝒱₀ (c : Thread nD τ) none Set.univ (m := Memref.whole cc0_stg3_0) (S := Finset.univ) (f := A.v c) (Finset.subset_univ _)) $$ [Hv]
  · iexact Hv
  iintro Hv
  iapply Hq
  isplitl [Hk]; · iexact Hk
  isplitl [Hv]; · iexact Hv
  iexact H

/-- Loading the output projection. -/
theorem wp_wo {α : Type} {Q : α → sProp 𝕄} {top : ℕ} {rb : Fin 4} {n : ℕ} {inb hl}
    {k : Vec F S1024x1024 .bf16 → Prog (TpuEff nD τ sig (Elt F) Λ₀ .tc) α} :
    Attn A c top rb n ⊢ iprop((Attn A c top rb n -∗ WP c (k (A.wo c)) Q)
      -∗ WP c (Prog.lift (.load (Memref.whole cc0_stg4_0) (Rect.unit (s := S1024x1024) ![0, 0] S1024x1024.size inb).toLoadRect hl) >>= k) Q) := by
  simp only [Prog.lift, Prog.bind_op, Prog.bind_ret]
  unfold Attn
  iintro ⟨Hk, Hv, Hw, H⟩ Hq
  iapply (wp_load 𝒱₀ (c : Thread nD τ) none Set.univ (m := Memref.whole cc0_stg4_0) (S := Finset.univ) (f := A.wo c) (Finset.subset_univ _)) $$ [Hw]
  · iexact Hw
  iintro Hw
  have e : (Memref.whole cc0_stg4_0 : Memref sig .tc .vmem S1024x1024 .bf16).view.readAt (Elt F) (Rect.unit (s := S1024x1024) ![0, 0] S1024x1024.size inb).toLoadRect (A.wo c) = A.wo c :=
    Memref.readAt_unit_zero (Elt F) cc0_stg4_0 (show (![0, 0] : Fin 2 → Nat) = fun _ => 0 from by funext a; revert a; decide) _ _
  rw [e]
  iapply Hq
  isplitl [Hk]; · iexact Hk
  isplitl [Hv]; · iexact Hv
  isplitl [Hw]; · iexact Hw
  iexact H

/-- A load of the context buffer whose value is not used. -/
theorem wp_peekCtx {α : Type} {Q : α → sProp 𝕄} {top : ℕ} {rb : Fin 4} {n : ℕ} {r : LoadRect S1024x1024} {hl} {k : Prog (TpuEff nD τ sig (Elt F) Λ₀ .tc) α} :
    Attn A c top rb n ⊢ iprop((Attn A c top rb n -∗ WP c k Q) -∗ WP c (Prog.lift (.load ctxM r hl) >>= fun _ => k) Q) := by
  simp only [Prog.lift, Prog.bind_op, Prog.bind_ret]
  unfold Attn
  iintro ⟨Hk, Hv, Hw, ⟨%f, %hf, Hc⟩, Ht⟩ Hq
  iapply (wp_load 𝒱₀ (c : Thread nD τ) none Set.univ (m := ctxM) (S := Finset.univ) (f := f) (Finset.subset_univ _)) $$ [Hc]
  · iexact Hc
  iintro Hc
  iapply Hq
  isplitl [Hk]; · iexact Hk
  isplitl [Hv]; · iexact Hv
  isplitl [Hw]; · iexact Hw
  isplitl [Hc]
  · iexists f
    isplitr; · ipureintro; exact hf
    iexact Hc
  iexact Ht

/-- Storing head `n` keeps the heads before it. -/
theorem ctxInv_write (rb : Fin 4) (n : ℕ) (hn : n < 8) {f : Vec F S1024x1024 .bf16} (hf : CtxInv A c rb n f) {off : Fin 2 → ℕ}
    (ho : off = ![256 * rb.val, 128 * n]) (inb : ∀ a, off a + S256x128.size a ≤ S1024x1024.size a) :
    CtxInv A c rb (n + 1) ((headA off inb).write (Elt F) f (head A c rb ⟨n, hn⟩) Finset.univ) := by
  intro h hh i j
  by_cases e : h.val = n
  · have e' : h = ⟨n, hn⟩ := Fin.ext e
    subst e'
    have hx : (ix2 ⟨256 * rb.val + i.val, by have := rb.isLt; have := i.isLt; omega⟩ ⟨128 * n + j.val, by have := j.isLt; omega⟩ : S1024x1024.Idx)
        = (headA off inb).emb (ix2 i j : S256x128.Idx) := by
      subst ho
      funext a
      refine Fin.ext ?_
      match a with
      | ⟨0, _⟩ => show 256 * rb.val + i.val = 256 * rb.val + 1 * i.val; omega
      | ⟨1, _⟩ => show 128 * n + j.val = 128 * n + 1 * j.val; omega
    show (headA off inb).write (Elt F) f _ Finset.univ (ix2 ⟨256 * rb.val + i.val, _⟩ ⟨128 * n + j.val, _⟩) = _
    rw [hx, View.write_emb_of_mem _ _ (Finset.mem_univ _)]
    rfl
  · rw [View.write_of_not_mem f (head A c rb ⟨n, hn⟩) Finset.univ (v := headA off inb) ?_]
    · exact hf h (by omega) i j
    intro hm
    rw [View.setOn_univ, show (headA off inb).set = (headR off inb).set from View.set_slice_whole cc0_scratch0 _, Rect.mem_set_unit] at hm
    subst ho
    have h1 : 128 * n ≤ 128 * h.val + j.val ∧ 128 * h.val + j.val < 128 * n + 128 := hm 1
    have := j.isLt
    omega

/-- Storing a head's output. -/
theorem wp_putHead {α : Type} {Q : α → sProp 𝕄} {top : ℕ} {rb : Fin 4} (n : ℕ) (hn : n < 8) {off : Fin 2 → ℕ} (ho : off = ![256 * rb.val, 128 * n]) {w : Vec F S256x128 .bf16}
    (hw : w = head A c rb ⟨n, hn⟩) {inb : ∀ a, off a + S256x128.size a ≤ S1024x1024.size a} {hx hm} {k : PUnit → Prog (TpuEff nD τ sig (Elt F) Λ₀ .tc) α} :
    Attn A c top rb n ⊢ iprop((Attn A c top rb (n + 1) -∗ WP c (k ⟨⟩) Q)
      -∗ WP c (Prog.lift (.store ctxM (headR off inb) w Finset.univ hx hm) >>= k) Q) := by
  subst hw
  simp only [Prog.lift, Prog.bind_op, Prog.bind_ret]
  unfold Attn
  iintro ⟨Hk, Hv, Hw, ⟨%f, %hf, Hc⟩, Ht⟩ Hq
  iapply (wp_store 𝒱₀ (c : Thread nD τ) none Set.univ (m := ctxM) (r := headR off inb) (S := Finset.univ) (f := f) (Finset.subset_univ _)) $$ [Hc]
  · iexact Hc
  iintro Hc
  iapply Hq
  isplitl [Hk]; · iexact Hk
  isplitl [Hv]; · iexact Hv
  isplitl [Hw]; · iexact Hw
  isplitl [Hc]
  · iexists _
    isplitr
    · ipureintro; exact ctxInv_write A c rb n hn hf ho inb
    iexact Hc
  iexact Ht

/-- Loading the eight heads of a row block. -/
theorem wp_getCtx {α : Type} {Q : α → sProp 𝕄} {top : ℕ} {rb : Fin 4} {off : Fin 2 → ℕ} (ho : off = ![256 * rb.val, 0]) {inb : ∀ a, off a + S256x1024.size a ≤ S1024x1024.size a} {hl}
    {k : Vec F S256x1024 .bf16 → Prog (TpuEff nD τ sig (Elt F) Λ₀ .tc) α} :
    Attn A c top rb 8 ⊢ iprop((Attn A c top rb 8 -∗ WP c (k (ctx A c rb)) Q)
      -∗ WP c (Prog.lift (.load ctxM (blockR off inb).toLoadRect hl) >>= k) Q) := by
  subst ho
  simp only [Prog.lift, Prog.bind_op, Prog.bind_ret]
  unfold Attn
  iintro ⟨Hk, Hv, Hw, ⟨%f, %hf, Hc⟩, Ht⟩ Hq
  iapply (wp_load 𝒱₀ (c : Thread nD τ) none Set.univ (m := ctxM) (S := Finset.univ) (f := f) (Finset.subset_univ _)) $$ [Hc]
  · iexact Hc
  iintro Hc
  have e : ctxM.view.readAt (Elt F) (blockR ![256 * rb.val, 0] inb).toLoadRect f = ctx A c rb := by
    funext i
    have h0 : (i 0).val < 256 := (i 0).isLt
    have h1 : (i 1).val < 1024 := (i 1).isLt
    refine Eq.trans ?_ (hf ⟨(i 1).val / 128, by omega⟩ (by show (i 1).val / 128 < 8; omega) (i 0) ⟨(i 1).val % 128, Nat.mod_lt _ (by decide)⟩)
    show f _ = f _
    congr 1
    funext a
    refine Fin.ext ?_
    match a with
    | ⟨0, _⟩ => show 256 * rb.val + 1 * (i 0).val = 256 * rb.val + (i 0).val; omega
    | ⟨1, _⟩ => show 0 + 1 * (i 1).val = 128 * ((i 1).val / 128) + (i 1).val % 128; omega
  rw [e]
  iapply Hq
  isplitl [Hk]; · iexact Hk
  isplitl [Hv]; · iexact Hv
  isplitl [Hw]; · iexact Hw
  isplitl [Hc]
  · iexists f
    isplitr; · ipureintro; exact hf
    iexact Hc
  iexact Ht

/-- The block of 256 rows lies in the rows not computed yet. -/
theorem block_sub (rb : Fin 4) {off : Fin 2 → ℕ} (ho : off = ![256 * rb.val, 0]) (inb : ∀ a, off a + S256x1024.size a ≤ S1024x1024.size a) :
    (blockA off inb).set ⊆ tail rb.val := by
  rw [show (blockA off inb).set = (blockR off inb).set from View.set_slice_whole cc0_scratch1 _]
  subst ho
  intro i hi
  rw [Rect.mem_set_unit] at hi
  have h0 : 256 * rb.val ≤ (i 0).val ∧ (i 0).val < 256 * rb.val + 256 := hi 0
  exact mem_tail.mpr h0.1

/-- A load of a block of the partial product whose value is not used. -/
theorem wp_peekPart {α : Type} {Q : α → sProp 𝕄} {rb : Fin 4} {n : ℕ} (top : ℕ) (ht : top = rb.val) {off : Fin 2 → ℕ} (ho : off = ![256 * rb.val, 0]) {inb : ∀ a, off a + S256x1024.size a ≤ S1024x1024.size a} {hl} {k : Prog (TpuEff nD τ sig (Elt F) Λ₀ .tc) α} :
    Attn A c top rb n ⊢ iprop((Attn A c top rb n -∗ WP c k Q)
      -∗ WP c (Prog.lift (.load partM (blockR off inb).toLoadRect hl) >>= fun _ => k) Q) := by
  subst ht
  simp only [Prog.lift, Prog.bind_op, Prog.bind_ret]
  unfold Attn partPts
  iintro ⟨Hk, Hv, Hw, Hc, ⟨%f, Ht⟩⟩ Hq
  iapply (wp_load_rect 𝒱₀ (c : Thread nD τ) none Set.univ (m := partM) (r := blockR off inb) (S := tail rb.val) (f := f) (block_sub rb ho inb)) $$ [Ht]
  · iexact Ht
  iintro Ht
  iapply Hq
  isplitl [Hk]; · iexact Hk
  isplitl [Hv]; · iexact Hv
  isplitl [Hw]; · iexact Hw
  isplitl [Hc]; · iexact Hc
  iexists f; iexact Ht

/-- What the store of a block leaves in its rows. -/
theorem write_block (rb : Fin 4) (f : Vec F S1024x1024 .bf16) {off : Fin 2 → ℕ} (ho : off = ![256 * rb.val, 0])
    (inb : ∀ a, off a + S256x1024.size a ≤ S1024x1024.size a) :
    ∀ i : S1024x1024.Idx, (i 0).val / 256 = rb.val →
      (blockA off inb).write (Elt F) f (partBlk A c rb) Finset.univ i = partC A c i := by
  intro i hi
  have h0 := idx2_lt0 i
  have hx : i = (blockA off inb).emb
      (ix2 ⟨(i 0).val % 256, Nat.mod_lt _ (by decide)⟩ (i 1) : S256x1024.Idx) := by
    subst ho
    funext a
    refine Fin.ext ?_
    match a with
    | ⟨0, _⟩ => show (i 0).val = 256 * rb.val + 1 * ((i 0).val % 256); omega
    | ⟨1, _⟩ => show (i 1).val = 0 + 1 * (i 1).val; omega
  have hr : (⟨(i 0).val / 256, by omega⟩ : Fin 4) = rb := Fin.ext hi
  have e : (blockA off inb).write (Elt F) f (partBlk A c rb) Finset.univ i
      = partBlk A c rb (ix2 ⟨(i 0).val % 256, Nat.mod_lt _ (by decide)⟩ (i 1)) :=
    (congrArg _ hx).trans (View.write_emb_of_mem _ _ (Finset.mem_univ _))
  rw [e]
  show partBlk A c rb _ = partBlk A c ⟨(i 0).val / 256, _⟩ _
  rw [hr]

/-- The rows of devices `8 rb … 8 rb + 7` are the block's. -/
theorem tail_split (rb : Fin 4) : tail rb.val = (mid (8 * rb.val) (8 * rb.val + 8)).biUnion rows ∪ tail (rb.val + 1) := by
  ext i
  have h0 := idx2_lt0 i
  rw [Finset.mem_union, Finset.mem_biUnion, mem_tail, mem_tail]
  constructor
  · intro h
    by_cases hh : 256 * (rb.val + 1) ≤ (i 0).val
    · exact Or.inr hh
    · refine Or.inl ⟨⟨(i 0).val / 32, by show _ < 32; omega⟩, ?_, mem_rows.mpr rfl⟩
      simp only [mid, Finset.mem_filter, Finset.mem_univ, true_and]; omega
  · rintro (⟨t, ht, hi⟩ | h)
    · simp only [mid, Finset.mem_filter, Finset.mem_univ, true_and] at ht
      have := mem_rows.mp hi
      omega
    · omega

theorem tail_disj (rb : Fin 4) : Disjoint ((mid (8 * rb.val) (8 * rb.val + 8)).biUnion rows) (tail (rb.val + 1)) := by
  rw [Finset.disjoint_left]
  intro i hi ht
  obtain ⟨t, ht', hi'⟩ := Finset.mem_biUnion.mp hi
  simp only [mid, Finset.mem_filter, Finset.mem_univ, true_and] at ht'
  have := mem_rows.mp hi'
  have := mem_tail.mp ht
  omega

/-- The chunks of 32 rows of a block. -/
def Chunks (rb : Fin 4) : sProp 𝕄 := bigSep (mid (8 * rb.val) (8 * rb.val + 8)) fun i => partPts c (rows i) (partC A c)

/-- A block stored, it splits into chunks of 32 rows. -/
theorem carve (rb : Fin 4) (f : Vec F S1024x1024 .bf16) (hf : ∀ i : S1024x1024.Idx, (i 0).val / 256 = rb.val → f i = partC A c i) :
    partPts c (tail rb.val) f ⊢ iprop(Chunks A c rb ∗ ∃ g, partPts c (tail (rb.val + 1)) g) := by
  unfold partPts Chunks
  rw [tail_split rb]
  refine BIBase.Entails.trans (pointsTo_union (tail_disj rb)).1 ?_
  rw [pointsTo_biUnion _ _ fun a _ b _ hab => rows_disjoint hab]
  iintro ⟨Hc, Ht⟩
  isplitl [Hc]
  · iapply (Entails.of_eq (bigSep_congr fun (i : Dev nD) (hi : i ∈ mid (8 * rb.val) (8 * rb.val + 8)) =>
      pointsTo_congr fun x hx => hf x (by
        simp only [mid, Finset.mem_filter, Finset.mem_univ, true_and] at hi
        have := mem_rows.mp hx
        omega)))
    iexact Hc
  iexists f; iexact Ht

/-- Storing a block of the partial product. -/
theorem wp_putPart {α : Type} {Q : α → sProp 𝕄} {rb : Fin 4} (top top' : ℕ) (ht : top = rb.val) (ht' : top' = rb.val + 1) {off : Fin 2 → ℕ} (ho : off = ![256 * rb.val, 0]) {w : Vec F S256x1024 .bf16} (hw : w = partBlk A c rb)
    {inb : ∀ a, off a + S256x1024.size a ≤ S1024x1024.size a} {hx hm} {k : PUnit → Prog (TpuEff nD τ sig (Elt F) Λ₀ .tc) α} :
    Attn A c top rb 8 ⊢ iprop(((Attn A c top' rb 8 ∗ Chunks A c rb) -∗ WP c (k ⟨⟩) Q)
      -∗ WP c (Prog.lift (.store partM (blockR off inb) w Finset.univ hx hm) >>= k) Q) := by
  subst hw ht ht'
  simp only [Prog.lift, Prog.bind_op, Prog.bind_ret]
  unfold Attn
  iintro ⟨Hk, Hv, Hw, Hc, ⟨%f, Ht⟩⟩ Hq
  iapply (wp_store 𝒱₀ (c : Thread nD τ) none Set.univ (m := partM) (r := blockR off inb) (S := tail rb.val) (f := f) (block_sub rb ho inb)) $$ [Ht]
  · unfold partPts; iexact Ht
  iintro Ht
  ihave Hx := (carve A c rb _ (write_block A c rb f ho inb)) $$ [Ht]
  · unfold partPts; iexact Ht
  icases Hx with ⟨Hch, Ht⟩
  iapply Hq
  isplitr [Hch]
  · isplitl [Hk]; · iexact Hk
    isplitl [Hv]; · iexact Hv
    isplitl [Hw]; · iexact Hw
    isplitl [Hc]; · iexact Hc
    iexact Ht
  iexact Hch

/-- The chunks of the block just stored join the copies' rows. -/
theorem rs_refill (rb : Fin 4) (t hi : ℕ) (ht : t = 8 * rb.val) (hh : hi = 8 * rb.val + 8) :
    iprop(RsSend A K c t t ∗ Chunks A c rb) ⊢ RsSend A K c t hi := by
  subst ht hh
  unfold RsSend Chunks
  iintro ⟨⟨HE, Ho, Hg, -, Hl⟩, Hc⟩
  isplitl [HE]; · iexact HE
  isplitl [Ho]; · iexact Ho
  isplitl [Hg]; · iexact Hg
  isplitl [Hc]; · iexact Hc
  iexact Hl

/-- The end of a part. -/
theorem wp_done {α : Type} {Q : α → sProp 𝕄} {r : α} : Q r ⊢ WP c (pure r) Q := by
  show Q r ⊢ WP c (Prog.ret r) Q
  unfold WP
  rw [wp_ret]
  iintro H
  imodintro
  iexact H

/-- The end of a part, its result written another way. -/
theorem wp_doneAs {α : Type} {Q : α → sProp 𝕄} {r r' : α} (h : r' = r) : Q r ⊢ WP c (pure r') Q := by
  subst h; exact wp_done c

/-- A part followed by the rest. -/
theorem wp_part {α β : Type} {P R : sProp 𝕄} {p : Prog (TpuEff nD τ sig (Elt F) Λ₀ .tc) α} {r : α}
    (h : ∀ Q : α → sProp 𝕄, P ⊢ iprop((R -∗ Q r) -∗ WP c p Q)) {Q : β → sProp 𝕄} {k : α → Prog (TpuEff nD τ sig (Elt F) Λ₀ .tc) β} :
    P ⊢ iprop((R -∗ WP c (k r) Q) -∗ WP c (p >>= k) Q) := by
  unfold WP
  rw [wp_bind]
  exact h fun a => WP c (k a) Q

/-- The activations, staged. -/
def xPts : sProp 𝕄 := (c : Thread nD τ).loc cc0_stg0_0 ↦[Finset.univ]{fullShare} A.x c
/-- The query projection, staged. -/
def wqPts : sProp 𝕄 := (c : Thread nD τ).loc cc0_stg1_0 ↦[Finset.univ]{fullShare} A.wq c

/-- Loading the activations. -/
theorem wp_x {α : Type} {Q : α → sProp 𝕄} {inb hl} {k : Vec F S1024x1024 .bf16 → Prog (TpuEff nD τ sig (Elt F) Λ₀ .tc) α} :
    xPts A c ⊢ iprop((xPts A c -∗ WP c (k (A.x c)) Q)
      -∗ WP c (Prog.lift (.load (Memref.whole cc0_stg0_0) (Rect.unit (s := S1024x1024) ![0, 0] S1024x1024.size inb).toLoadRect hl) >>= k) Q) := by
  simp only [Prog.lift, Prog.bind_op, Prog.bind_ret]
  unfold xPts
  iintro Hw Hq
  iapply (wp_load 𝒱₀ (c : Thread nD τ) none Set.univ (m := Memref.whole cc0_stg0_0) (S := Finset.univ) (f := A.x c) (Finset.subset_univ _)) $$ [Hw]
  · iexact Hw
  iintro Hw
  have e : (Memref.whole cc0_stg0_0 : Memref sig .tc .vmem S1024x1024 .bf16).view.readAt (Elt F) (Rect.unit (s := S1024x1024) ![0, 0] S1024x1024.size inb).toLoadRect (A.x c) = A.x c :=
    Memref.readAt_unit_zero (Elt F) cc0_stg0_0 (show (![0, 0] : Fin 2 → Nat) = fun _ => 0 from by funext a; revert a; decide) _ _
  rw [e]
  iapply Hq
  iexact Hw

/-- Loading the query projection. -/
theorem wp_wq {α : Type} {Q : α → sProp 𝕄} {inb hl} {k : Vec F S1024x1024 .bf16 → Prog (TpuEff nD τ sig (Elt F) Λ₀ .tc) α} :
    wqPts A c ⊢ iprop((wqPts A c -∗ WP c (k (A.wq c)) Q)
      -∗ WP c (Prog.lift (.load (Memref.whole cc0_stg1_0) (Rect.unit (s := S1024x1024) ![0, 0] S1024x1024.size inb).toLoadRect hl) >>= k) Q) := by
  simp only [Prog.lift, Prog.bind_op, Prog.bind_ret]
  unfold wqPts
  iintro Hw Hq
  iapply (wp_load 𝒱₀ (c : Thread nD τ) none Set.univ (m := Memref.whole cc0_stg1_0) (S := Finset.univ) (f := A.wq c) (Finset.subset_univ _)) $$ [Hw]
  · iexact Hw
  iintro Hw
  have e : (Memref.whole cc0_stg1_0 : Memref sig .tc .vmem S1024x1024 .bf16).view.readAt (Elt F) (Rect.unit (s := S1024x1024) ![0, 0] S1024x1024.size inb).toLoadRect (A.wq c) = A.wq c :=
    Memref.readAt_unit_zero (Elt F) cc0_stg1_0 (show (![0, 0] : Fin 2 → Nat) = fun _ => 0 from by funext a; revert a; decide) _ _
  rw [e]
  iapply Hq
  iexact Hw

/-- Position `t` of the waits for the reduce-scatter's arrivals. -/
theorem wp_recvWait (t : ℕ) (ht : t < 32) {b : BitVec 1} (hb : b = 1#1 ↔ (⟨t, ht⟩ : Dev nD) ≠ c) {s : b = 1#1 → DmaSem sig} (hs : ∀ h, s h = dsem 1 ⟨t, ht⟩)
    {offS : Fin 2 → ℕ} {inbS : b = 1#1 → ∀ a, offS a + S32x1024.size a ≤ S1024x1024.size a}
    {offD : Fin 3 → ℕ} {inbD : b = 1#1 → ∀ a, offD a + S1x32x1024.size a ≤ S32x32x1024.size a}
    {hsrc : ∀ h, (partV offS (inbS h)).view.WordExact} {hdst : ∀ h, (slotV offD (inbD h)).view.WordExact}
    {α : Type} {Q : α → sProp 𝕄} {k : PUnit → Prog (TpuEff nD τ sig (Elt F) Λ₀ .tc) α} :
    Waiting A K c 1 (owesAg c 0) (slotPts c c (recvC A c)) t ⊢ iprop((Waiting A K c 1 (owesAg c 0) (slotPts c c (recvC A c)) (t + 1) -∗ WP c (k ⟨⟩) Q)
      -∗ WP c (dite (b = 1#1) (fun h => Prog.lift (.waitDma2 (s h) (partV offS (inbS h)) (slotV offD (inbD h)) (hsrc h) (hdst h)) >>= fun _ => k ⟨⟩) (fun _ => k ⟨⟩)) Q) :=
  wp_waiting A K c 1 (owesAg c 0) (mayWait_recv c) (slotPts c c (recvC A c)) t ht hb hs (fun _ => credit_slotV)

/-- Position `t` of the waits for the all-gather's arrivals. -/
theorem wp_gatherWait (t : ℕ) (ht : t < 32) {b : BitVec 1} (hb : b = 1#1 ↔ (⟨t, ht⟩ : Dev nD) ≠ c) {s : b = 1#1 → DmaSem sig} (hs : ∀ h, s h = dsem 3 ⟨t, ht⟩)
    {offS : Fin 2 → ℕ} {inbS : b = 1#1 → ∀ a, offS a + S32x1024.size a ≤ S1024x1024.size a}
    {offD : Fin 2 → ℕ} {inbD : b = 1#1 → ∀ a, offD a + S32x1024.size a ≤ S1024x1024.size a}
    {hsrc : ∀ h, (outV offS (inbS h)).view.WordExact} {hdst : ∀ h, (outV offD (inbD h)).view.WordExact}
    {α : Type} {Q : α → sProp 𝕄} {k : PUnit → Prog (TpuEff nD τ sig (Elt F) Λ₀ .tc) α} :
    Waiting A K c 3 0 iprop(emp) t ⊢ iprop((Waiting A K c 3 0 iprop(emp) (t + 1) -∗ WP c (k ⟨⟩) Q)
      -∗ WP c (dite (b = 1#1) (fun h => Prog.lift (.waitDma2 (s h) (outV offS (inbS h)) (outV offD (inbD h)) (hsrc h) (hdst h)) >>= fun _ => k ⟨⟩) (fun _ => k ⟨⟩)) Q) :=
  wp_waiting A K c 3 0 (fun _ => mayWait_none c) iprop(emp) t ht hb hs (fun _ => credit_outV)

/-- Position `t` of the waits for the device's own copies to have left. -/
theorem wp_leftWait (t : ℕ) (ht : t < 32) {b : BitVec 1} (hb : b = 1#1 ↔ (⟨t, ht⟩ : Dev nD) ≠ c)
    {s : b = 1#1 → DmaSem sig} (hs : ∀ h, s h = dsem 0 ⟨t, ht⟩) {s' : b = 1#1 → DmaSem sig} (hs' : ∀ h, s' h = dsem 2 ⟨t, ht⟩)
    {offS : Fin 3 → ℕ} {inbS : b = 1#1 → ∀ a, offS a + S1x32x1024.size a ≤ S32x32x1024.size a}
    {offD : Fin 2 → ℕ} {inbD : b = 1#1 → ∀ a, offD a + S32x1024.size a ≤ S1024x1024.size a}
    {hsrc : ∀ h, (slotV offS (inbS h)).view.WordExact} {hdst : ∀ h, (partV offD (inbD h)).view.WordExact}
    {off : Fin 2 → ℕ} {inb inb' : b = 1#1 → ∀ a, off a + S32x1024.size a ≤ S1024x1024.size a}
    {hsrc₁ : ∀ h, (outV off (inb h)).view.WordExact} {hdst₁ : ∀ h, (outV off (inb' h)).view.WordExact}
    {α : Type} {Q : α → sProp 𝕄} {k : PUnit → Prog (TpuEff nD τ sig (Elt F) Λ₀ .tc) α} :
    Drain A K c t ⊢ iprop((Drain A K c (t + 1) -∗ WP c (k ⟨⟩) Q)
      -∗ WP c (dite (b = 1#1) (fun h => Prog.lift (.waitDma2 (s h) (slotV offS (inbS h)) (partV offD (inbD h)) (hsrc h) (hdst h)) >>= fun _ =>
          Prog.lift (.waitDma2 (s' h) (outV off (inb h)) (outV off (inb' h)) (hsrc₁ h) (hdst₁ h)) >>= fun _ => k ⟨⟩) (fun _ => k ⟨⟩)) Q) :=
  wp_drain A K c t ht hb hs hs' (fun _ => credit_partV) (fun _ => credit_outV)

end Cert.KernelIdeal.Exchange

end
-- ==== Proof.KernelIdeal.Own.lean ====
/-
  What the device holds between the stages of the exchange, and the loads and stores of its own rows.
-/
module

public import proofs.«01_k».proof.Proof.KernelIdeal.Attn
public import Idealize.ShloMosaic.Lib.Pipeline.Value

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-! ## Families over the devices -/

omit [FloatOps F] [Named F] in
theorem sep_at (Φ : Dev nD → sProp 𝕄) : bigSep Finset.univ Φ = iprop(Φ c ∗ bigSep (Finset.univ.erase c) Φ) := BI.bigSep_univ_at Φ c

/-- A family without the own position, and the own position's, make the family. -/
theorem fill_own (own : sProp 𝕄) (Φ : Dev nD → sProp 𝕄) :
    iprop(own ∗ bigSep Finset.univ fun p : Dev nD => if p = c then iprop(emp) else Φ p)
      ⊢ bigSep Finset.univ fun p : Dev nD => if p = c then own else Φ p := by
  rw [sep_at c (fun p : Dev nD => if p = c then iprop(emp) else Φ p), sep_at c (fun p : Dev nD => if p = c then own else Φ p), if_pos rfl, if_pos rfl]
  iintro ⟨Ho, -, H⟩
  isplitl [Ho]; · iexact Ho
  iapply (Entails.of_eq (bigSep_congr fun (p : Dev nD) (hp : p ∈ Finset.univ.erase c) =>
    (if_neg (Finset.ne_of_mem_erase hp)).trans (if_neg (Finset.ne_of_mem_erase hp)).symm))
  iexact H

omit [FloatOps F] [Named F] in
theorem sep_out (Φ Ψ : Dev nD → sProp 𝕄) : bigSep Finset.univ (fun i => iprop(Φ i ∗ Ψ i)) ⊢ iprop(bigSep Finset.univ Φ ∗ bigSep Finset.univ Ψ) :=
  Entails.of_eq (BI.bigSep_sep _ Φ Ψ)
omit [FloatOps F] [Named F] in
theorem sep_in (Φ Ψ : Dev nD → sProp 𝕄) : iprop(bigSep Finset.univ Φ ∗ bigSep Finset.univ Ψ) ⊢ bigSep Finset.univ (fun i => iprop(Φ i ∗ Ψ i)) :=
  Entails.of_eq (BI.bigSep_sep _ Φ Ψ).symm

/-- The device's own place in each of its transfer semaphores of array `a`. -/
def ats (a : Fin 4) : sProp 𝕄 := bigSep Finset.univ fun p : Dev nD => atPos ER (xfer c a p) 0 ∅ 0
/-- The credits for the arrivals on array `a`. -/
def creds (a : Fin 4) : sProp 𝕄 := bigSep Finset.univ fun p : Dev nD => if p = c then iprop(emp) else cred (tallyAt (xfer c a p) () N)
/-- Array `a` closed, every semaphore at zero. -/
def zeros (a : Fin 4) : sProp 𝕄 := bigSep Finset.univ fun p : Dev nD => semVal (xfer c a p) 0

/-- Before the first wait. -/
theorem pos_start (a : Fin 4) (own : sProp 𝕄) :
    iprop(ats c a ∗ bigSep Finset.univ fun p : Dev nD => if p = c then own else cred (tallyAt (xfer c a p) () N)) ⊢ Pos A c a own 0 := by
  unfold ats Pos
  rw [ge_zero, lt_zero, bigSep_empty]
  iintro ⟨H1, H2⟩
  isplitl
  · iapply (sep_in (F := F))
    isplitl [H1]; · iexact H1
    iexact H2
  iempintro

/-- After the last. -/
theorem pos_end (a : Fin 4) (own : sProp 𝕄) :
    Pos A c a own 32 ⊢ iprop(zeros c a ∗ bigSep Finset.univ fun p : Dev nD => if p = c then own else xpay A c a p) := by
  unfold zeros Pos
  rw [ge_all, lt_all]
  iintro ⟨-, H⟩
  iapply (sep_out (F := F)); iexact H

/-- When the own position stands for its own payment, every payment is there. -/
theorem pays_all (a : Fin 4) : (bigSep Finset.univ fun p : Dev nD => if p = c then xpay A c a c else xpay A c a p)
    ⊢ bigSep Finset.univ fun p : Dev nD => xpay A c a p :=
  Entails.of_eq (bigSep_congr fun (p : Dev nD) _ => by
    by_cases h : p = c
    · rw [if_pos h, h]
    · rw [if_neg h])

/-! ## The first part -/

/-- The device reads its own number. -/
theorem wp_dev {α : Type} {Q : α → sProp 𝕄} {k : Dev nD → Prog (TpuEff nD τ sig (Elt F) Λ₀ .tc) α} :
    WP c (k c) Q ⊢ WP c (Prog.lift .deviceId >>= k) Q := by
  simp only [Prog.lift, Prog.bind_op, Prog.bind_ret]
  unfold WP
  rw [wp_deviceId]

/-! ## After the handshake -/

/-- The device's place at its barrier and the credit for every signal. -/
def BarTok : sProp 𝕄 := iprop(atPos ER (barCell c) 0 ∅ 0 ∗ cred (tallyAt (barCell c) () 32))

/-- What the handshake leaves. -/
def BarDone : sProp 𝕄 :=
  iprop(Env A K ∗ owesE c (owesRs c 0) ∗ bigSep Finset.univ (sigSent (F := F) c) ∗ bigSep Finset.univ (barPay (F := F) c) ∗ semVal (barCell c) 0)

/-- The handshake's wait. -/
theorem wp_barWait {α : Type} {Q : α → sProp 𝕄} {k : PUnit → Prog (TpuEff nD τ sig (Elt F) Λ₀ .tc) α} :
    iprop(Sig A K c 32 ∗ BarTok c) ⊢ iprop((BarDone A K c -∗ WP c (k ⟨⟩) Q) -∗ WP c (semWaitWord barS 32#32 >>= k) Q) := wp_bar A K c

/-- What each of the all-gather's copies needs: the two places in the protocol and the peer's rows. -/
def AgPend : sProp 𝕄 := bigSep Finset.univ fun p : Dev nD =>
  if p = c then iprop(emp) else iprop(dutyTok ER (xfer c 2 p) 0 0 ∗ dutyTok ER (xfer p 3 c) 0 0 ∗ ∃ f, outPts p c fullShare f)

/-- The places in the protocol for the transfer to each peer, from array `a` to the peer's array `b`. -/
def toks (a b : Fin 4) : sProp 𝕄 := bigSep Finset.univ fun p : Dev nD =>
  if p = c then iprop(emp) else iprop(dutyTok ER (xfer c a p) 0 0 ∗ dutyTok ER (xfer p b c) 0 0)

/-- The signals leave the device's places for itself. -/
theorem sent_own : bigSep Finset.univ (sigSent (F := F) c) ⊢ give (F := F) c c := by
  rw [sep_at c]
  iintro ⟨H, -⟩
  iapply (Entails.of_eq (show sigSent (F := F) c c = give c c from if_pos rfl)); iexact H

/-- What peer `p` signalled and the places in the protocol make what the copies for it need. -/
theorem need_at (p : Dev nD) :
    iprop(barPay (F := F) c p ∗ (if p = c then iprop(emp) else iprop(dutyTok ER (xfer c 0 p) 0 0 ∗ dutyTok ER (xfer p 1 c) 0 0))
      ∗ (if p = c then iprop(emp) else iprop(dutyTok ER (xfer c 2 p) 0 0 ∗ dutyTok ER (xfer p 3 c) 0 0)))
    ⊢ iprop(rsNeed (F := F) c p ∗ if p = c then iprop(emp) else iprop(dutyTok ER (xfer c 2 p) 0 0 ∗ dutyTok ER (xfer p 3 c) 0 0 ∗ ∃ f, outPts p c fullShare f)) := by
  unfold barPay rsNeed give
  by_cases h : p = c
  · simp only [if_pos h]
    iintro -
    isplitl; · iempintro
    iempintro
  · simp only [if_neg h]
    iintro ⟨⟨Hs, Ho⟩, ⟨H1, H2⟩, ⟨H3, H4⟩⟩
    isplitl [Hs H1 H2]
    · isplitl [H1]; · iexact H1
      isplitl [H2]; · iexact H2
      iexact Hs
    isplitl [H3]; · iexact H3
    isplitl [H4]; · iexact H4
    iexact Ho

theorem need_all :
    bigSep Finset.univ (fun p : Dev nD => iprop(barPay (F := F) c p ∗ (if p = c then iprop(emp) else iprop(dutyTok ER (xfer c 0 p) 0 0 ∗ dutyTok ER (xfer p 1 c) 0 0))
      ∗ (if p = c then iprop(emp) else iprop(dutyTok ER (xfer c 2 p) 0 0 ∗ dutyTok ER (xfer p 3 c) 0 0))))
    ⊢ bigSep Finset.univ (fun p : Dev nD => iprop(rsNeed (F := F) c p ∗ if p = c then iprop(emp) else iprop(dutyTok ER (xfer c 2 p) 0 0 ∗ dutyTok ER (xfer p 3 c) 0 0 ∗ ∃ f, outPts p c fullShare f))) :=
  bigSep_mono fun p _ => need_at c p

/-- The handshake over, the exchange's first stage begins. -/
theorem bar_rs : iprop(BarDone A K c ∗ toks (F := F) c 0 1 ∗ toks (F := F) c 2 3)
    ⊢ iprop(RsSend A K c 0 0 ∗ AgPend (F := F) c ∗ give (F := F) c c ∗ semVal (barCell c) 0) := by
  unfold BarDone RsSend AgPend toks
  rw [ge_zero, lt_zero, mid_self, bigSep_empty, bigSep_empty]
  iintro ⟨⟨HE, Ho, Hs, Hp, Hz⟩, H1, H2⟩
  ihave Hy := (sep_in (F := F) _ _) $$ [H1 H2]
  · isplitl [H1]; · iexact H1
    iexact H2
  ihave Hy := (sep_in (F := F) (barPay (F := F) c) _) $$ [Hp Hy]
  · isplitl [Hp]; · iexact Hp
    iexact Hy
  ihave Hx := (need_all (F := F) c) $$ Hy
  ihave Hx := (sep_out (F := F) _ _) $$ Hx
  icases Hx with ⟨Hr, Ha⟩
  isplitl [HE Ho Hr]
  · isplitl [HE]; · iexact HE
    isplitl [Ho]; · iexact Ho
    isplitl [Hr]; · iexact Hr
    isplitl; · iempintro
    iempintro
  isplitl [Ha]; · iexact Ha
  isplitl [Hs]; · iapply (sent_own (F := F) c); iexact Hs
  iexact Hz

/-! ## Between the reduce-scatter's copies and its waits -/

/-- The device's own rows of its own partial product. -/
def ownPart : Vec F S32x1024 .bf16 := fun i =>
  partC A c (ix2 ⟨32 * c.val + (i 0).val, by have := idx2_lt0 i; have h2 : c.val < 32 := c.isLt; omega⟩ (i 1))

/-- 32 rows. -/
abbrev rowsR (off : Fin 2 → ℕ) (inb : ∀ a, off a + S32x1024.size a ≤ S1024x1024.size a) : Rect S1024x1024 := Rect.unit (s := S1024x1024) off S32x1024.size inb
/-- A slot. -/
abbrev slotR (off : Fin 3 → ℕ) (inb : ∀ a, off a + S1x32x1024.size a ≤ S32x32x1024.size a) : Rect S32x32x1024 := Rect.unit (s := S32x32x1024) off S1x32x1024.size inb
/-- The receive buffer. -/
abbrev recvM : Memref sig .tc .vmem S32x32x1024 .bf16 := Memref.whole cc0_scratch2
/-- The result. -/
abbrev outM : Memref sig .tc .vmem S1024x1024 .bf16 := Memref.whole cc0_stg5_0
/-- 32 rows of the partial product, as a view. -/
abbrev partA (off : Fin 2 → ℕ) (inb : ∀ a, off a + S32x1024.size a ≤ S1024x1024.size a) : View sig .tc .vmem S32x1024 .bf16 := partM.view.slice (rowsR off inb)
/-- 32 rows of the result, as a view. -/
abbrev outA (off : Fin 2 → ℕ) (inb : ∀ a, off a + S32x1024.size a ≤ S1024x1024.size a) : View sig .tc .vmem S32x1024 .bf16 := outM.view.slice (rowsR off inb)
/-- A slot of the receive buffer, as a view. -/
abbrev slotA (off : Fin 3 → ℕ) (inb : ∀ a, off a + S1x32x1024.size a ≤ S32x32x1024.size a) : View sig .tc .vmem S1x32x1024 .bf16 := recvM.view.slice (slotR off inb)

theorem set_partA {off : Fin 2 → ℕ} {inb} (h : off = ![32 * c.val, 0]) : (partA off inb).set = rows c :=
  (View.set_slice_whole cc0_scratch1 _).trans (set_rowRect c h)
theorem set_outA {off : Fin 2 → ℕ} {inb} (h : off = ![32 * c.val, 0]) : (outA off inb).set = rows c :=
  (View.set_slice_whole cc0_stg5_0 _).trans (set_rowRect c h)
theorem set_slotA {off : Fin 3 → ℕ} {inb} (h : off = ![c.val, 0, 0]) : (slotA off inb).set = slot c :=
  (View.set_slice_whole cc0_scratch2 _).trans (set_slotRect c h)

/-- Loading the own rows. -/
theorem wp_ownRow {α : Type} {Q : α → sProp 𝕄} {off : Fin 2 → ℕ} (ho : off = ![32 * c.val, 0]) {inb : ∀ a, off a + S32x1024.size a ≤ S1024x1024.size a} {hl}
    {k : Vec F S32x1024 .bf16 → Prog (TpuEff nD τ sig (Elt F) Λ₀ .tc) α} :
    RsSend A K c 32 32 ⊢ iprop((RsSend A K c 32 32 -∗ WP c (k (ownPart A c)) Q)
      -∗ WP c (Prog.lift (.load partM (rowsR off inb).toLoadRect hl) >>= k) Q) := by
  simp only [Prog.lift, Prog.bind_op, Prog.bind_ret]
  unfold RsSend
  rw [lt_all, sep_at c (rsSent A c), show rsSent A c c = partPts c (rows c) (partC A c) from if_pos rfl]
  unfold partPts
  iintro ⟨HE, Ho, Hg, Hm, ⟨Hp, Hl⟩⟩ Hq
  iapply (wp_load_rect 𝒱₀ (c : Thread nD τ) none Set.univ (m := partM) (r := rowsR off inb) (S := rows c) (f := partC A c) (set_partA c ho).subset) $$ [Hp]
  · iexact Hp
  iintro Hp
  have e : (partA off inb).read (Elt F) (partC A c) = ownPart A c := by
    subst ho
    funext i
    show partC A c _ = partC A c _
    congr 1
    funext a
    refine Fin.ext ?_
    match a with
    | ⟨0, _⟩ => show 32 * c.val + 1 * (i 0).val = 32 * c.val + (i 0).val; omega
    | ⟨1, _⟩ => show 0 + 1 * (i 1).val = (i 1).val; omega
  rw [show (partM.access (rowsR off inb)).read (Elt F) (partC A c) = ownPart A c from e]
  iapply Hq
  isplitl [HE]; · iexact HE
  isplitl [Ho]; · iexact Ho
  isplitl [Hg]; · iexact Hg
  isplitl [Hm]; · iexact Hm
  isplitl [Hp]; · iexact Hp
  iexact Hl

/-- The device's own slot, whatever it holds. -/
def OwnSlot : sProp 𝕄 := iprop(∃ f, slotPts (F := F) c c f)

/-- A load of the own slot whose value is not used. -/
theorem wp_peekSlot {α : Type} {Q : α → sProp 𝕄} {off : Fin 3 → ℕ} (ho : off = ![c.val, 0, 0]) {inb : ∀ a, off a + S1x32x1024.size a ≤ S32x32x1024.size a} {hl}
    {k : Prog (TpuEff nD τ sig (Elt F) Λ₀ .tc) α} :
    OwnSlot (F := F) c ⊢ iprop((OwnSlot (F := F) c -∗ WP c k Q) -∗ WP c (Prog.lift (.load recvM (slotR off inb).toLoadRect hl) >>= fun _ => k) Q) := by
  simp only [Prog.lift, Prog.bind_op, Prog.bind_ret]
  unfold OwnSlot slotPts
  iintro ⟨%f, Hs⟩ Hq
  iapply (wp_load_rect 𝒱₀ (c : Thread nD τ) none Set.univ (m := recvM) (r := slotR off inb) (S := slot c) (f := f) (set_slotA c ho).subset) $$ [Hs]
  · iexact Hs
  iintro Hs
  iapply Hq
  iexists f; iexact Hs

/-- Storing the own rows in the own slot. -/
theorem wp_putSlot {α : Type} {Q : α → sProp 𝕄} {off : Fin 3 → ℕ} (ho : off = ![c.val, 0, 0]) {inb : ∀ a, off a + S1x32x1024.size a ≤ S32x32x1024.size a} {hx hm}
    {k : PUnit → Prog (TpuEff nD τ sig (Elt F) Λ₀ .tc) α} :
    OwnSlot (F := F) c ⊢ iprop((slotPts c c (recvC A c) -∗ WP c (k ⟨⟩) Q)
      -∗ WP c (Prog.lift (.store recvM (slotR off inb) (k0_pay73 (ownPart A c)) Finset.univ hx hm) >>= k) Q) := by
  simp only [Prog.lift, Prog.bind_op, Prog.bind_ret]
  unfold OwnSlot slotPts
  iintro ⟨%f, Hs⟩ Hq
  iapply (wp_store 𝒱₀ (c : Thread nD τ) none Set.univ (m := recvM) (r := slotR off inb) (S := slot c) (f := f)
    (by rw [View.setOn_univ]; exact (set_slotA c ho).subset)) $$ [Hs]
  · iexact Hs
  iintro Hs
  iapply Hq
  have e : ∀ i ∈ slot c, (slotA off inb).write (Elt F) f (k0_pay73 (ownPart A c)) Finset.univ i = recvC A c i := by
    subst ho
    intro i hi
    have hi0 : (i 0).val = c.val := mem_slot.mp hi
    have hx : i = (slotA ![c.val, 0, 0] inb).emb (ix3 (⟨0, Nat.one_pos⟩ : Fin 1) (i 1) (i 2) : S1x32x1024.Idx) := by
      funext a
      refine Fin.ext ?_
      match a with
      | ⟨0, _⟩ => show (i 0).val = c.val + 1 * 0; omega
      | ⟨1, _⟩ => show (i 1).val = 0 + 1 * (i 1).val; omega
      | ⟨2, _⟩ => show (i 2).val = 0 + 1 * (i 2).val; omega
    have e1 : (slotA ![c.val, 0, 0] inb).write (Elt F) f (k0_pay73 (ownPart A c)) Finset.univ i
        = k0_pay73 (ownPart A c) (ix3 (⟨0, Nat.one_pos⟩ : Fin 1) (i 1) (i 2)) :=
      (congrArg _ hx).trans (View.write_emb_of_mem _ _ (Finset.mem_univ _))
    rw [e1]
    refine (shapeCast_addUnit_apply ![32, 1024] (ownPart A c) shapeCasts_S32x1024_S1x32x1024 (ix3 (⟨0, Nat.one_pos⟩ : Fin 1) (i 1) (i 2))).trans ?_
    show partC A c (ix2 _ _) = partC A (i 0) (ix2 _ _)
    rw [show i 0 = c from Fin.ext hi0]
    rfl
  iapply (Entails.of_eq (pointsTo_congr e)); iexact Hs

/-- What the waits for arrivals need besides the copies' end. -/
def RecvPend : sProp 𝕄 := iprop(ats (F := F) c 1 ∗ creds (F := F) c 1)
/-- What the reduce-scatter's copies leave until the end. -/
def RsDone : sProp 𝕄 := bigSep Finset.univ (rsSent A c)

/-- The waits for arrivals begin. -/
theorem rs_recv : iprop(RsSend A K c 32 32 ∗ slotPts c c (recvC A c) ∗ RecvPend (F := F) c)
    ⊢ iprop(Waiting A K c 1 (owesAg c 0) (slotPts c c (recvC A c)) 0 ∗ RsDone A c) := by
  unfold RsSend Waiting RecvPend RsDone creds
  rw [lt_all, owesRs_all]
  iintro ⟨⟨HE, Ho, -, -, Hl⟩, Hs, ⟨Ha, Hc⟩⟩
  isplitr [Hl]
  · isplitl [HE]; · iexact HE
    isplitl [Ho]; · iexact Ho
    iapply (pos_start A c 1)
    isplitl [Ha]; · iexact Ha
    iapply (fill_own (F := F) c (slotPts c c (recvC A c)) fun p => cred (tallyAt (xfer c 1 p) () N))
    isplitl [Hs]; · iexact Hs
    iexact Hc
  iexact Hl

/-- Every slot has arrived. -/
def RecvDone : sProp 𝕄 := iprop(Env A K ∗ owesE c (owesAg c 0) ∗ ((c : Thread nD τ).loc cc0_scratch2 ↦[Finset.univ]{fullShare} recvC A c) ∗ zeros (F := F) c 1)

theorem recv_done : Waiting A K c 1 (owesAg c 0) (slotPts c c (recvC A c)) 32 ⊢ RecvDone A K c := by
  unfold Waiting RecvDone
  iintro ⟨HE, Ho, Hp⟩
  ihave Hx := (pos_end A c 1 (slotPts c c (recvC A c))) $$ Hp
  icases Hx with ⟨Hz, Hs⟩
  isplitl [HE]; · iexact HE
  isplitl [Ho]; · iexact Ho
  isplitl [Hs]
  · rw [← biUnion_slot, pointsTo_biUnion _ _ fun a _ b _ hab => slot_disjoint hab]
    iapply (pays_all A c 1); iexact Hs
  iexact Hz

/-- Loading every slot. -/
theorem wp_getSlots {α : Type} {Q : α → sProp 𝕄} {inb hl} {k : Vec F S32x32x1024 .bf16 → Prog (TpuEff nD τ sig (Elt F) Λ₀ .tc) α} :
    Waiting A K c 1 (owesAg c 0) (slotPts c c (recvC A c)) 32 ⊢ iprop((RecvDone A K c -∗ WP c (k (recvC A c)) Q)
      -∗ WP c (Prog.lift (.load recvM (Rect.unit (s := S32x32x1024) ![0, 0, 0] S32x32x1024.size inb).toLoadRect hl) >>= k) Q) := by
  refine (recv_done A K c).trans ?_
  simp only [Prog.lift, Prog.bind_op, Prog.bind_ret]
  unfold RecvDone
  iintro ⟨HE, Ho, Hr, Hz⟩ Hq
  iapply (wp_load 𝒱₀ (c : Thread nD τ) none Set.univ (m := recvM) (S := Finset.univ) (f := recvC A c) (Finset.subset_univ _)) $$ [Hr]
  · iexact Hr
  iintro Hr
  have e : recvM.view.readAt (Elt F) (Rect.unit (s := S32x32x1024) ![0, 0, 0] S32x32x1024.size inb).toLoadRect (recvC A c) = recvC A c :=
    Memref.readAt_unit_zero (Elt F) cc0_scratch2 (show (![0, 0, 0] : Fin 3 → Nat) = fun _ => 0 from by funext a; revert a; decide) _ _
  rw [e]
  iapply Hq
  isplitl [HE]; · iexact HE
  isplitl [Ho]; · iexact Ho
  isplitl [Hr]; · iexact Hr
  iexact Hz

/-! ## Between the reduction and the all-gather -/

/-- The device's own rows of the result, whatever they hold. -/
def OwnRows : sProp 𝕄 := iprop(∃ f, outPts (F := F) c c fullShare f)

/-- A load of the own rows of the result whose value is not used. -/
theorem wp_peekOut {α : Type} {Q : α → sProp 𝕄} {off : Fin 2 → ℕ} (ho : off = ![32 * c.val, 0]) {inb : ∀ a, off a + S32x1024.size a ≤ S1024x1024.size a} {hl}
    {k : Prog (TpuEff nD τ sig (Elt F) Λ₀ .tc) α} :
    OwnRows (F := F) c ⊢ iprop((OwnRows (F := F) c -∗ WP c k Q) -∗ WP c (Prog.lift (.load outM (rowsR off inb).toLoadRect hl) >>= fun _ => k) Q) := by
  simp only [Prog.lift, Prog.bind_op, Prog.bind_ret]
  unfold OwnRows outPts
  iintro ⟨%f, Hs⟩ Hq
  iapply (wp_load_rect 𝒱₀ (c : Thread nD τ) none Set.univ (m := outM) (r := rowsR off inb) (S := rows c) (f := f) (set_outA c ho).subset) $$ [Hs]
  · iexact Hs
  iintro Hs
  iapply Hq
  iexists f; iexact Hs

/-- Storing the reduced rows. -/
theorem wp_putOut {α : Type} {Q : α → sProp 𝕄} {off : Fin 2 → ℕ} (ho : off = ![32 * c.val, 0]) {inb : ∀ a, off a + S32x1024.size a ≤ S1024x1024.size a} {hx hm}
    {k : PUnit → Prog (TpuEff nD τ sig (Elt F) Λ₀ .tc) α} :
    OwnRows (F := F) c ⊢ iprop((outPts c c fullShare (outC A) -∗ WP c (k ⟨⟩) Q)
      -∗ WP c (Prog.lift (.store outM (rowsR off inb) (k0_pay75 (k0_pay74 (recvC A c))) Finset.univ hx hm) >>= k) Q) := by
  simp only [Prog.lift, Prog.bind_op, Prog.bind_ret]
  unfold OwnRows outPts
  iintro ⟨%f, Hs⟩ Hq
  iapply (wp_store 𝒱₀ (c : Thread nD τ) none Set.univ (m := outM) (r := rowsR off inb) (S := rows c) (f := f)
    (by rw [View.setOn_univ]; exact (set_outA c ho).subset)) $$ [Hs]
  · iexact Hs
  iintro Hs
  iapply Hq
  have e : ∀ i ∈ rows c, (outA off inb).write (Elt F) f (outRows A c) Finset.univ i = outC A i := by
    subst ho
    intro i hi
    have hi0 : (i 0).val / 32 = c.val := mem_rows.mp hi
    have hx : i = (outA ![32 * c.val, 0] inb).emb (ix2 ⟨(i 0).val % 32, Nat.mod_lt _ (by decide)⟩ (i 1) : S32x1024.Idx) := by
      funext a
      refine Fin.ext ?_
      match a with
      | ⟨0, _⟩ => show (i 0).val = 32 * c.val + 1 * ((i 0).val % 32); omega
      | ⟨1, _⟩ => show (i 1).val = 0 + 1 * (i 1).val; omega
    have e1 : (outA ![32 * c.val, 0] inb).write (Elt F) f (outRows A c) Finset.univ i
        = outRows A c (ix2 ⟨(i 0).val % 32, Nat.mod_lt _ (by decide)⟩ (i 1)) :=
      (congrArg _ hx).trans (View.write_emb_of_mem _ _ (Finset.mem_univ _))
    rw [e1]
    have hc : (⟨(i 0).val / 32, by have := idx2_lt0 i; show _ < 32; omega⟩ : Dev nD) = c := Fin.ext hi0
    show _ = outRows A ⟨(i 0).val / 32, _⟩ _
    rw [hc]
  iapply (Entails.of_eq (pointsTo_congr e)); iexact Hs

/-- What the reduction leaves until the end. -/
def Recv2 : sProp 𝕄 := iprop(((c : Thread nD τ).loc cc0_scratch2 ↦[Finset.univ]{fullShare} recvC A c) ∗ zeros (F := F) c 1)

omit [FloatOps F] [Named F] in
/-- A whole share splits into its leaves. -/
theorem leaves_of {m n : ℕ} (h : m = 2 ^ n) {ℓ : Loc nD τ sig} (I : Finset (Idx ℓ)) (f : Buf (Elt F) ℓ) :
    (ℓ ↦[I]{fullShare} f : sProp 𝕄) = bigSep Finset.univ fun i : Fin m => ℓ ↦[I]{ShareLeaves.leaf n fullShare (Fin.cast h i)} f := by
  subst h
  exact ShareLeaves.pointsTo_leaves I f n fullShare

/-- The own rows, split into 32 shares, one for each device. -/
theorem leaves : outPts c c fullShare (outC A) = bigSep Finset.univ fun p : Dev nD => outPts c c (leafShare p) (outC A) := by
  unfold outPts
  refine (leaves_of (ℓ := (c : Thread nD τ).loc cc0_stg5_0) (m := 32) (n := 5) (by norm_num) (rows c) (outC A)).trans ?_
  exact bigSep_congr fun p _ => rfl

/-- The all-gather's copies begin. -/
theorem ag_begin : iprop(RecvDone A K c ∗ outPts c c fullShare (outC A) ∗ AgPend (F := F) c) ⊢ iprop(AgSend A K c 0 ∗ Recv2 A c) := by
  unfold RecvDone AgSend Recv2
  rw [ge_zero, lt_zero, bigSep_empty, leaves A c]
  iintro ⟨⟨HE, Ho, Hr, Hz⟩, Hs, Hp⟩
  isplitl [HE Ho Hs Hp]
  · isplitl [HE]; · iexact HE
    isplitl [Ho]; · iexact Ho
    isplitl [Hs Hp]
    · unfold agNeed AgPend
      iapply (sep_in (F := F))
      isplitl [Hp]; · iexact Hp
      iexact Hs
    iempintro
  isplitl [Hr]; · iexact Hr
  iexact Hz

/-! ## The all-gather's waits and the end -/

/-- What the all-gather's waits need besides the copies' end. -/
def GatherPend : sProp 𝕄 := iprop(ats (F := F) c 3 ∗ creds (F := F) c 3)
/-- What the all-gather's copies leave. -/
def AgDone : sProp 𝕄 := bigSep Finset.univ (agSent A c)

theorem ag_recv : iprop(AgSend A K c 32 ∗ GatherPend (F := F) c) ⊢ iprop(Waiting A K c 3 0 iprop(emp) 0 ∗ AgDone A c) := by
  unfold AgSend Waiting GatherPend AgDone creds
  rw [lt_all, owesAg_all]
  iintro ⟨⟨HE, Ho, -, Hl⟩, ⟨Ha, Hc⟩⟩
  isplitr [Hl]
  · isplitl [HE]; · iexact HE
    isplitl [Ho]; · iexact Ho
    iapply (pos_start A c 3)
    isplitl [Ha]; · iexact Ha
    iexact Hc
  iexact Hl

/-- What the waits for the own copies need besides. -/
def DrainPend : sProp 𝕄 := iprop(ats (F := F) c 0 ∗ ats (F := F) c 2 ∗ RsDone A c ∗ AgDone A c)
/-- The peers' rows of the result. -/
def PeerRows : sProp 𝕄 := iprop((bigSep Finset.univ fun p : Dev nD => if p = c then iprop(emp) else outPts c p fullShare (outC A)) ∗ zeros (F := F) c 3)

theorem drain_begin : iprop(Waiting A K c 3 0 iprop(emp) 32 ∗ DrainPend A c) ⊢ iprop(Drain A K c 0 ∗ PeerRows A c) := by
  unfold Waiting DrainPend Drain PeerRows
  iintro ⟨⟨HE, Ho, Hp⟩, Ha, Hb, Hr, Hg⟩
  ihave Hx := (pos_end A c 3 iprop(emp)) $$ Hp
  icases Hx with ⟨Hz, Hs⟩
  isplitl [HE Ho Ha Hb Hr Hg]
  · isplitl [HE]; · iexact HE
    isplitl [Ho]; · iexact Ho
    isplitl [Ha Hr]
    · iapply (pos_start A c 0)
      isplitl [Ha]; · iexact Ha
      iapply (show RsDone A c ⊢ bigSep Finset.univ fun p : Dev nD => if p = c then xpay A c 0 c else cred (tallyAt (xfer c 0 p) () N) from Entails.refl _); iexact Hr
    iapply (pos_start A c 2)
    isplitl [Hb]; · iexact Hb
    iapply (show AgDone A c ⊢ bigSep Finset.univ fun p : Dev nD => if p = c then xpay A c 2 c else cred (tallyAt (xfer c 2 p) () N) from Entails.refl _); iexact Hg
  isplitl [Hs]; · iexact Hs
  iexact Hz

/-- The exchange is over: the partial product and the result whole again, every transfer semaphore closed. -/
def Done : sProp 𝕄 :=
  iprop(owesE c 0 ∗ ((c : Thread nD τ).loc cc0_scratch1 ↦[Finset.univ]{fullShare} partC A c)
    ∗ ((c : Thread nD τ).loc cc0_stg5_0 ↦[Finset.univ]{fullShare} outC A) ∗ zeros (F := F) c 0 ∗ zeros (F := F) c 2 ∗ zeros (F := F) c 3)

theorem drain_done : iprop(Drain A K c 32 ∗ PeerRows A c) ⊢ Done A c := by
  unfold Drain PeerRows Done
  iintro ⟨⟨-, Ho, H0, H2⟩, ⟨Hp, Hz3⟩⟩
  ihave Hx := (pos_end A c 0 (xpay A c 0 c)) $$ H0
  icases Hx with ⟨Hz0, H0⟩
  ihave Hx := (pos_end A c 2 (xpay A c 2 c)) $$ H2
  icases Hx with ⟨Hz2, H2⟩
  isplitl [Ho]; · iexact Ho
  isplitl [H0]
  · rw [← biUnion_rows, pointsTo_biUnion _ _ fun a _ b _ hab => rows_disjoint hab]
    iapply (pays_all A c 0); iexact H0
  isplitl [H2 Hp]
  · ihave H2 := (pays_all A c 2) $$ H2
    ihave H2 := (show (bigSep Finset.univ fun p : Dev nD => xpay A c 2 p) ⊢ outPts c c fullShare (outC A) from Entails.of_eq (leaves A c).symm) $$ H2
    ihave Hx := (fill_own (F := F) c (outPts c c fullShare (outC A)) fun p => outPts c p fullShare (outC A)) $$ [H2 Hp]
    · isplitl [H2]; · iexact H2
      iexact Hp
    ihave Hx := (show (bigSep Finset.univ fun p : Dev nD => if p = c then outPts c c fullShare (outC A) else outPts c p fullShare (outC A))
      ⊢ bigSep Finset.univ fun p : Dev nD => xpay A c 3 p from pays_all A c 3) $$ Hx
    iapply (show (bigSep Finset.univ fun p : Dev nD => xpay A c 3 p) ⊢ ((c : Thread nD τ).loc cc0_stg5_0 ↦[Finset.univ]{fullShare} outC A : sProp 𝕄) from by
      rw [← biUnion_rows, pointsTo_biUnion _ _ fun a _ b _ hab => rows_disjoint hab]
      exact Entails.refl _)
    iexact Hx
  isplitl [Hz0]; · iexact Hz0
  isplitl [Hz2]; · iexact Hz2
  iexact Hz3

end Cert.KernelIdeal.Exchange

end
-- ==== Proof.KernelIdeal.Heads.lean ====
/-
  What the body computes between its loads and its stores is the attention of `Contents`.
-/
module

public import proofs.«01_k».proof.Proof.KernelIdeal.Own

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-- Row block 0, head 0. -/
theorem head00 : (k0_pay4 (k0_pay1 (A.x c)) (A.wq c) (window (A.k c) 0 0) (window (A.v c) 0 0)) = head A c 0 0 := rfl
/-- Row block 0, head 1. -/
theorem head01 : (k0_pay5 (queries A c) (bias 0) (window (A.k c) 0 1) (window (A.v c) 0 1)) = head A c 0 1 := rfl
/-- Row block 0, head 2. -/
theorem head02 : (k0_pay9 (k0_pay6 (window (A.v c) 0 2)) (k0_pay7 (queries A c) (bias 0) (window (A.k c) 0 2)) (k0_pay8 (queries A c) (bias 0) (window (A.k c) 0 2))) = head A c 0 2 := rfl
/-- Row block 0, head 3. -/
theorem head03 : (k0_pay10 (queries A c) (bias 0) (window (A.k c) 0 3) (window (A.v c) 0 3)) = head A c 0 3 := rfl
/-- Row block 0, head 4. -/
theorem head04 : (k0_pay12 (bias 0) (k0_pay11 (queries A c)) (window (A.k c) 0 4) (window (A.v c) 0 4)) = head A c 0 4 := rfl
/-- Row block 0, head 5. -/
theorem head05 : (k0_pay15 (k0_pay13 (window (A.v c) 0 5)) (k0_pay14 (queries A c) (bias 0) (window (A.k c) 0 5))) = head A c 0 5 := rfl
/-- Row block 0, head 6. -/
theorem head06 : (k0_pay16 (queries A c) (bias 0) (window (A.k c) 0 6) (window (A.v c) 0 6)) = head A c 0 6 := rfl
/-- Row block 0, head 7. -/
theorem head07 : (k0_pay18 (bias 0) (k0_pay17 (queries A c)) (window (A.k c) 0 7) (window (A.v c) 0 7)) = head A c 0 7 := rfl
/-- Row block 1, head 0. -/
theorem head10 : (k0_pay22 (queries A c) (k0_pay20) (Scalar.ofBits .f32 0x00000000#32) (window (A.k c) 1 0) (window (A.v c) 1 0)) = head A c 1 0 := rfl
/-- Row block 1, head 1. -/
theorem head11 : (k0_pay25 (bias 1) (k0_pay23 (window (A.v c) 1 1)) (k0_pay24 (queries A c) (window (A.k c) 1 1))) = head A c 1 1 := rfl
/-- Row block 1, head 2. -/
theorem head12 : (k0_pay26 (queries A c) (bias 1) (window (A.k c) 1 2) (window (A.v c) 1 2)) = head A c 1 2 := rfl
/-- Row block 1, head 3. -/
theorem head13 : (k0_pay27 (queries A c) (bias 1) (window (A.k c) 1 3) (window (A.v c) 1 3)) = head A c 1 3 := rfl
/-- Row block 1, head 4. -/
theorem head14 : (k0_pay31 (k0_pay28 (window (A.v c) 1 4)) (k0_pay29 (queries A c) (bias 1) (window (A.k c) 1 4)) (k0_pay30 (queries A c) (bias 1) (window (A.k c) 1 4))) = head A c 1 4 := rfl
/-- Row block 1, head 5. -/
theorem head15 : (k0_pay32 (queries A c) (bias 1) (window (A.k c) 1 5) (window (A.v c) 1 5)) = head A c 1 5 := rfl
/-- Row block 1, head 6. -/
theorem head16 : (k0_pay34 (bias 1) (k0_pay33 (queries A c)) (window (A.k c) 1 6) (window (A.v c) 1 6)) = head A c 1 6 := rfl
/-- Row block 1, head 7. -/
theorem head17 : (k0_pay37 (k0_pay35 (window (A.v c) 1 7)) (k0_pay36 (queries A c) (bias 1) (window (A.k c) 1 7))) = head A c 1 7 := rfl
/-- Row block 2, head 0. -/
theorem head20 : (k0_pay42 (bias 2) (k0_pay40 (window (A.v c) 2 0)) (k0_pay41 (queries A c) (window (A.k c) 2 0))) = head A c 2 0 := rfl
/-- Row block 2, head 1. -/
theorem head21 : (k0_pay44 (k0_pay43 (queries A c) (bias 2) (window (A.k c) 2 1) (window (A.v c) 2 1))) = head A c 2 1 := rfl
/-- Row block 2, head 2. -/
theorem head22 : (k0_pay45 (queries A c) (bias 2) (window (A.k c) 2 2) (window (A.v c) 2 2)) = head A c 2 2 := rfl
/-- Row block 2, head 3. -/
theorem head23 : (k0_pay48 (bias 2) (k0_pay46 (window (A.v c) 2 3)) (k0_pay47 (queries A c) (window (A.k c) 2 3))) = head A c 2 3 := rfl
/-- Row block 2, head 4. -/
theorem head24 : (k0_pay49 (queries A c) (bias 2) (window (A.k c) 2 4) (window (A.v c) 2 4)) = head A c 2 4 := rfl
/-- Row block 2, head 5. -/
theorem head25 : (k0_pay50 (queries A c) (bias 2) (window (A.k c) 2 5) (window (A.v c) 2 5)) = head A c 2 5 := rfl
/-- Row block 2, head 6. -/
theorem head26 : (k0_pay54 (k0_pay51 (window (A.v c) 2 6)) (k0_pay52 (queries A c) (bias 2) (window (A.k c) 2 6)) (k0_pay53 (queries A c) (bias 2) (window (A.k c) 2 6))) = head A c 2 6 := rfl
/-- Row block 2, head 7. -/
theorem head27 : (k0_pay55 (queries A c) (bias 2) (window (A.k c) 2 7) (window (A.v c) 2 7)) = head A c 2 7 := rfl
/-- Row block 3, head 0. -/
theorem head30 : (k0_pay59 (k0_pay58 (queries A c) (window (A.k c) 3 0) (window (A.v c) 3 0))) = head A c 3 0 := rfl
/-- Row block 3, head 1. -/
theorem head31 : (k0_pay60 (queries A c) (bias 3) (window (A.k c) 3 1) (window (A.v c) 3 1)) = head A c 3 1 := rfl
/-- Row block 3, head 2. -/
theorem head32 : (k0_pay63 (bias 3) (k0_pay61 (window (A.v c) 3 2)) (k0_pay62 (queries A c) (window (A.k c) 3 2))) = head A c 3 2 := rfl
/-- Row block 3, head 3. -/
theorem head33 : (k0_pay65 (k0_pay64 (queries A c) (bias 3) (window (A.k c) 3 3) (window (A.v c) 3 3))) = head A c 3 3 := rfl
/-- Row block 3, head 4. -/
theorem head34 : (k0_pay66 (queries A c) (bias 3) (window (A.k c) 3 4) (window (A.v c) 3 4)) = head A c 3 4 := rfl
/-- Row block 3, head 5. -/
theorem head35 : (k0_pay69 (bias 3) (k0_pay67 (window (A.v c) 3 5)) (k0_pay68 (queries A c) (window (A.k c) 3 5))) = head A c 3 5 := rfl
/-- Row block 3, head 6. -/
theorem head36 : (k0_pay70 (queries A c) (bias 3) (window (A.k c) 3 6) (window (A.v c) 3 6)) = head A c 3 6 := rfl
/-- Row block 3, head 7. -/
theorem head37 : (k0_pay71 (queries A c) (bias 3) (window (A.k c) 3 7) (window (A.v c) 3 7)) = head A c 3 7 := rfl

/-- Row block 0's product. -/
theorem blk0 : (k0_pay19 (ctx A c 0) (A.wo c)) = partBlk A c 0 := rfl
/-- Row block 1's product. -/
theorem blk1 : (k0_pay38 (ctx A c 1) (A.wo c)) = partBlk A c 1 := rfl
/-- Row block 2's product. -/
theorem blk2 : (k0_pay56 (ctx A c 2) (A.wo c)) = partBlk A c 2 := rfl
/-- Row block 3's product. -/
theorem blk3 : (k0_pay72 (ctx A c 3) (A.wo c)) = partBlk A c 3 := rfl

end Cert.KernelIdeal.Exchange

end
-- ==== Proof.KernelIdeal.Parts1.lean ====
/-
  The body's parts 1 to 12: what the device holds before and after each.
-/
module

public import proofs.«01_k».proof.Proof.KernelIdeal.Heads

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

set_option maxRecDepth 65536 in
/-- Part 1 of the body. -/
theorem part1 {Q : _ → sProp 𝕄} : Sig A K c 0 ⊢ iprop((Sig A K c 7 -∗ Q ⟨c, (self c), (SemArray.scalar (sig.barrier 0 rfl)), (Scalar.muli 7#32 1#32)⟩)
    -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part1_eq_skeleton]; unfold k0_part1_skel; try extract_lets
  iintro R Hq
  iapply (wp_dev c); try extract_lets
  iapply (wp_sig A K c 0 (by decide) k0_dev1_eq) $$ R; iintro R
  iapply (wp_sig A K c 1 (by decide) k0_dev2_eq) $$ R; iintro R
  iapply (wp_sig A K c 2 (by decide) k0_dev3_eq) $$ R; iintro R
  iapply (wp_sig A K c 3 (by decide) k0_dev4_eq) $$ R; iintro R
  iapply (wp_sig A K c 4 (by decide) k0_dev5_eq) $$ R; iintro R
  iapply (wp_sig A K c 5 (by decide) k0_dev6_eq) $$ R; iintro R
  iapply (wp_sig A K c 6 (by decide) k0_dev7_eq) $$ R; iintro R
  iapply (wp_done c)
  iapply Hq
  iexact R

set_option maxRecDepth 65536 in
/-- Part 2 of the body. -/
theorem part2 {Q : _ → sProp 𝕄} : Sig A K c 7 ⊢ iprop((Sig A K c 16 -∗ Q ⟨⟩)
    -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (SemArray.scalar (sig.barrier 0 rfl)) (Scalar.muli 7#32 1#32)) Q) := by
  rw [k0_part2_eq_skeleton]; unfold k0_part2_skel; try extract_lets
  iintro R Hq
  iapply (wp_sig A K c 7 (by decide) k0_dev8_eq) $$ R; iintro R
  iapply (wp_sig A K c 8 (by decide) k0_dev9_eq) $$ R; iintro R
  iapply (wp_sig A K c 9 (by decide) k0_dev10_eq) $$ R; iintro R
  iapply (wp_sig A K c 10 (by decide) k0_dev11_eq) $$ R; iintro R
  iapply (wp_sig A K c 11 (by decide) k0_dev12_eq) $$ R; iintro R
  iapply (wp_sig A K c 12 (by decide) k0_dev13_eq) $$ R; iintro R
  iapply (wp_sig A K c 13 (by decide) k0_dev14_eq) $$ R; iintro R
  iapply (wp_sig A K c 14 (by decide) k0_dev15_eq) $$ R; iintro R
  iapply (wp_sig A K c 15 (by decide) k0_dev16_eq) $$ R; iintro R
  iapply (wp_done c)
  iapply Hq
  iexact R

set_option maxRecDepth 65536 in
/-- Part 3 of the body. -/
theorem part3 {Q : _ → sProp 𝕄} : Sig A K c 16 ⊢ iprop((Sig A K c 24 -∗ Q ⟨(Scalar.muli 24#32 1#32), (0#32)⟩)
    -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (SemArray.scalar (sig.barrier 0 rfl))) Q) := by
  rw [k0_part3_eq_skeleton]; unfold k0_part3_skel; try extract_lets
  iintro R Hq
  iapply (wp_sig A K c 16 (by decide) k0_dev17_eq) $$ R; iintro R
  iapply (wp_sig A K c 17 (by decide) k0_dev18_eq) $$ R; iintro R
  iapply (wp_sig A K c 18 (by decide) k0_dev19_eq) $$ R; iintro R
  iapply (wp_sig A K c 19 (by decide) k0_dev20_eq) $$ R; iintro R
  iapply (wp_sig A K c 20 (by decide) k0_dev21_eq) $$ R; iintro R
  iapply (wp_sig A K c 21 (by decide) k0_dev22_eq) $$ R; iintro R
  iapply (wp_sig A K c 22 (by decide) k0_dev23_eq) $$ R; iintro R
  iapply (wp_sig A K c 23 (by decide) k0_dev24_eq) $$ R; iintro R
  iapply (wp_done c)
  iapply Hq
  iexact R

set_option maxRecDepth 65536 in
/-- Part 4 of the body. -/
theorem part4 {Q : _ → sProp 𝕄} : iprop(xPts A c ∗ Sig A K c 24 ∗ BarTok c) ⊢ iprop(((xPts A c ∗ BarDone A K c) -∗ Q (k0_pay1 (A.x c)))
    -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (SemArray.scalar (sig.barrier 0 rfl)) (Scalar.muli 24#32 1#32) (0#32)) Q) := by
  rw [k0_part4_eq_skeleton]; unfold k0_part4_skel; try extract_lets
  iintro ⟨X, R, G⟩ Hq
  iapply (wp_sig A K c 24 (by decide) k0_dev25_eq) $$ R; iintro R
  iapply (wp_sig A K c 25 (by decide) k0_dev26_eq) $$ R; iintro R
  iapply (wp_sig A K c 26 (by decide) k0_dev27_eq) $$ R; iintro R
  iapply (wp_sig A K c 27 (by decide) k0_dev28_eq) $$ R; iintro R
  iapply (wp_sig A K c 28 (by decide) k0_dev29_eq) $$ R; iintro R
  iapply (wp_sig A K c 29 (by decide) k0_dev30_eq) $$ R; iintro R
  iapply (wp_sig A K c 30 (by decide) k0_dev31_eq) $$ R; iintro R
  iapply (wp_sig A K c 31 (by decide) k0_dev32_eq) $$ R; iintro R
  iapply (wp_barWait A K c) $$ [R G]
  · isplitl [R]; · iexact R
    iexact G
  iintro R
  iapply (wp_x A c) $$ X; iintro X
  iapply (wp_done c)
  iapply Hq
  isplitl [X]; · iexact X
  iexact R

set_option maxRecDepth 65536 in
/-- Part 5 of the body. -/
theorem part5 {Q : _ → sProp 𝕄} : iprop(wqPts A c ∗ Attn A c 0 0 0) ⊢ iprop(((wqPts A c ∗ Attn A c 0 0 0) -∗ Q ⟨(queries A c), (bias 0), (k0_pay4 (k0_pay1 (A.x c)) (A.wq c) (window (A.k c) 0 0) (window (A.v c) 0 0))⟩)
    -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (k0_pay1 (A.x c))) Q) := by
  rw [k0_part5_eq_skeleton]; unfold k0_part5_skel; try extract_lets
  iintro ⟨X, H⟩ Hq
  iapply (wp_wq A c) $$ X; iintro X
  iapply (wp_key A c 0 0 rfl) $$ H; iintro H
  iapply (wp_val A c 0 0 rfl) $$ H; iintro H
  iapply (wp_peekCtx A c) $$ H; iintro H
  iapply (wp_doneAs c (show (⟨k0_pay2 (k0_pay1 (A.x c)) (A.wq c), k0_pay3 (F := F), k0_pay4 (k0_pay1 (A.x c)) (A.wq c) (window (A.k c) 0 0) (window (A.v c) 0 0)⟩ : Σ' (v72 : FVec F S1024x1024 .f32) (v85 : FVec F S256x512 .f32), FVec F S256x128 .bf16) = ⟨(queries A c), (bias 0), (k0_pay4 (k0_pay1 (A.x c)) (A.wq c) (window (A.k c) 0 0) (window (A.v c) 0 0))⟩ from rfl))
  iapply Hq
  isplitl [X]; · iexact X
  iexact H

set_option maxRecDepth 65536 in
/-- Part 6 of the body. -/
theorem part6 {Q : _ → sProp 𝕄} : Attn A c 0 0 0 ⊢ iprop((Attn A c 0 0 2 -∗ Q ⟨(k0_pay6 (window (A.v c) 0 2)), (k0_pay7 (queries A c) (bias 0) (window (A.k c) 0 2)), (k0_pay8 (queries A c) (bias 0) (window (A.k c) 0 2))⟩)
    -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 0) (k0_pay4 (k0_pay1 (A.x c)) (A.wq c) (window (A.k c) 0 0) (window (A.v c) 0 0))) Q) := by
  rw [k0_part6_eq_skeleton]; unfold k0_part6_skel; try extract_lets
  iintro H Hq
  iapply (wp_putHead A c (rb := 0) 0 (by decide) rfl (head00 A c)) $$ H; iintro H
  iapply (wp_key A c 1 0 rfl) $$ H; iintro H
  iapply (wp_val A c 1 0 rfl) $$ H; iintro H
  iapply (wp_peekCtx A c) $$ H; iintro H
  iapply (wp_putHead A c (rb := 0) 1 (by decide) rfl (head01 A c)) $$ H; iintro H
  iapply (wp_key A c 2 0 rfl) $$ H; iintro H
  iapply (wp_val A c 2 0 rfl) $$ H; iintro H
  iapply (wp_done c)
  iapply Hq
  iexact H

set_option maxRecDepth 65536 in
/-- Part 7 of the body. -/
theorem part7 {Q : _ → sProp 𝕄} : Attn A c 0 0 2 ⊢ iprop((Attn A c 0 0 4 -∗ Q (k0_pay11 (queries A c)))
    -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 0) (k0_pay6 (window (A.v c) 0 2)) (k0_pay7 (queries A c) (bias 0) (window (A.k c) 0 2)) (k0_pay8 (queries A c) (bias 0) (window (A.k c) 0 2))) Q) := by
  rw [k0_part7_eq_skeleton]; unfold k0_part7_skel; try extract_lets
  iintro H Hq
  iapply (wp_peekCtx A c) $$ H; iintro H
  iapply (wp_putHead A c (rb := 0) 2 (by decide) rfl (head02 A c)) $$ H; iintro H
  iapply (wp_key A c 3 0 rfl) $$ H; iintro H
  iapply (wp_val A c 3 0 rfl) $$ H; iintro H
  iapply (wp_peekCtx A c) $$ H; iintro H
  iapply (wp_putHead A c (rb := 0) 3 (by decide) rfl (head03 A c)) $$ H; iintro H
  iapply (wp_done c)
  iapply Hq
  iexact H

set_option maxRecDepth 65536 in
/-- Part 8 of the body. -/
theorem part8 {Q : _ → sProp 𝕄} : Attn A c 0 0 4 ⊢ iprop((Attn A c 0 0 5 -∗ Q ⟨(k0_pay13 (window (A.v c) 0 5)), (k0_pay14 (queries A c) (bias 0) (window (A.k c) 0 5))⟩)
    -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 0) (k0_pay11 (queries A c))) Q) := by
  rw [k0_part8_eq_skeleton]; unfold k0_part8_skel; try extract_lets
  iintro H Hq
  iapply (wp_key A c 4 0 rfl) $$ H; iintro H
  iapply (wp_val A c 4 0 rfl) $$ H; iintro H
  iapply (wp_peekCtx A c) $$ H; iintro H
  iapply (wp_putHead A c (rb := 0) 4 (by decide) rfl (head04 A c)) $$ H; iintro H
  iapply (wp_key A c 5 0 rfl) $$ H; iintro H
  iapply (wp_val A c 5 0 rfl) $$ H; iintro H
  iapply (wp_done c)
  iapply Hq
  iexact H

set_option maxRecDepth 65536 in
/-- Part 9 of the body. -/
theorem part9 {Q : _ → sProp 𝕄} : Attn A c 0 0 5 ⊢ iprop((Attn A c 0 0 7 -∗ Q (k0_pay17 (queries A c)))
    -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 0) (k0_pay13 (window (A.v c) 0 5)) (k0_pay14 (queries A c) (bias 0) (window (A.k c) 0 5))) Q) := by
  rw [k0_part9_eq_skeleton]; unfold k0_part9_skel; try extract_lets
  iintro H Hq
  iapply (wp_peekCtx A c) $$ H; iintro H
  iapply (wp_putHead A c (rb := 0) 5 (by decide) rfl (head05 A c)) $$ H; iintro H
  iapply (wp_key A c 6 0 rfl) $$ H; iintro H
  iapply (wp_val A c 6 0 rfl) $$ H; iintro H
  iapply (wp_peekCtx A c) $$ H; iintro H
  iapply (wp_putHead A c (rb := 0) 6 (by decide) rfl (head06 A c)) $$ H; iintro H
  iapply (wp_done c)
  iapply Hq
  iexact H

set_option maxRecDepth 65536 in
/-- Part 10 of the body. -/
theorem part10 {Q : _ → sProp 𝕄} : iprop(Attn A c 0 0 7 ∗ RsSend A K c 0 0) ⊢ iprop(((Attn A c 1 1 0 ∗ RsSend A K c 1 8) -∗ Q (Scalar.extui (Scalar.cmpi .ne (self c) 1#32)))
    -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (bias 0) (k0_pay17 (queries A c))) Q) := by
  rw [k0_part10_eq_skeleton]; unfold k0_part10_skel; try extract_lets
  iintro ⟨H, R⟩ Hq
  iapply (wp_key A c 7 0 rfl) $$ H; iintro H
  iapply (wp_val A c 7 0 rfl) $$ H; iintro H
  iapply (wp_peekCtx A c) $$ H; iintro H
  iapply (wp_putHead A c (rb := 0) 7 (by decide) rfl (head07 A c)) $$ H; iintro H
  iapply (wp_getCtx A c (rb := 0) rfl) $$ H; iintro H
  iapply (wp_wo A c) $$ H; iintro H
  iapply (wp_peekPart A c (rb := 0) 0 rfl rfl) $$ H; iintro H
  iapply (wp_putPart A c (rb := 0) 0 1 rfl rfl rfl (blk0 A c)) $$ H; iintro ⟨H, Hc⟩
  ihave R := (rs_refill A K c 0 0 8 rfl rfl) $$ [R Hc]
  · isplitl [R]; · iexact R
    iexact Hc
  ihave H := (attn_next A c 1 0 1 8) $$ H
  iapply (wp_rsSend A K c 0 8 (by decide) (by decide) (b := k0_cond1 c) (isPeer_iff 0 c) k0_dev33_eq (fun _ => sem_slice 0 rfl 0 rfl) (fun _ => sem_slice 1 rfl c (k0_off1_eq c)) rfl (k0_off2_eq c)) $$ R; iintro R
  iapply (wp_done c)
  iapply Hq
  isplitl [H]; · iexact H
  iexact R

set_option maxRecDepth 65536 in
/-- Part 11 of the body. -/
theorem part11 {Q : _ → sProp 𝕄} : RsSend A K c 1 8 ⊢ iprop((RsSend A K c 8 8 -∗ Q ⟨(k0_pay20), (Scalar.ofBits .f32 0x00000000#32)⟩)
    -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 1#32))) Q) := by
  rw [k0_part11_eq_skeleton]; unfold k0_part11_skel; try extract_lets
  iintro R Hq
  iapply (wp_rsSend A K c 1 8 (by decide) (by decide) (b := k0_cond2 c) (isPeer_iff 1 c) k0_dev34_eq (fun _ => sem_slice 0 rfl 1 rfl) (fun _ => sem_slice 1 rfl c (k0_off3_eq c)) rfl (k0_off4_eq c)) $$ R; iintro R
  iapply (wp_rsSend A K c 2 8 (by decide) (by decide) (b := k0_cond3 c) (isPeer_iff 2 c) k0_dev35_eq (fun _ => sem_slice 0 rfl 2 rfl) (fun _ => sem_slice 1 rfl c (k0_off5_eq c)) rfl (k0_off6_eq c)) $$ R; iintro R
  iapply (wp_rsSend A K c 3 8 (by decide) (by decide) (b := k0_cond4 c) (isPeer_iff 3 c) k0_dev36_eq (fun _ => sem_slice 0 rfl 3 rfl) (fun _ => sem_slice 1 rfl c (k0_off7_eq c)) rfl (k0_off8_eq c)) $$ R; iintro R
  iapply (wp_rsSend A K c 4 8 (by decide) (by decide) (b := k0_cond5 c) (isPeer_iff 4 c) k0_dev37_eq (fun _ => sem_slice 0 rfl 4 rfl) (fun _ => sem_slice 1 rfl c (k0_off9_eq c)) rfl (k0_off10_eq c)) $$ R; iintro R
  iapply (wp_rsSend A K c 5 8 (by decide) (by decide) (b := k0_cond6 c) (isPeer_iff 5 c) k0_dev38_eq (fun _ => sem_slice 0 rfl 5 rfl) (fun _ => sem_slice 1 rfl c (k0_off11_eq c)) rfl (k0_off12_eq c)) $$ R; iintro R
  iapply (wp_rsSend A K c 6 8 (by decide) (by decide) (b := k0_cond7 c) (isPeer_iff 6 c) k0_dev39_eq (fun _ => sem_slice 0 rfl 6 rfl) (fun _ => sem_slice 1 rfl c (k0_off13_eq c)) rfl (k0_off14_eq c)) $$ R; iintro R
  iapply (wp_rsSend A K c 7 8 (by decide) (by decide) (b := k0_cond8 c) (isPeer_iff 7 c) k0_dev40_eq (fun _ => sem_slice 0 rfl 7 rfl) (fun _ => sem_slice 1 rfl c (k0_off15_eq c)) rfl (k0_off16_eq c)) $$ R; iintro R
  iapply (wp_done c)
  iapply Hq
  iexact R

set_option maxRecDepth 65536 in
/-- Part 12 of the body. -/
theorem part12 {Q : _ → sProp 𝕄} : Attn A c 1 1 0 ⊢ iprop((Attn A c 1 1 1 -∗ Q ⟨(bias 1), (k0_pay23 (window (A.v c) 1 1)), (k0_pay24 (queries A c) (window (A.k c) 1 1))⟩)
    -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (k0_pay20) (Scalar.ofBits .f32 0x00000000#32)) Q) := by
  rw [k0_part12_eq_skeleton]; unfold k0_part12_skel; try extract_lets
  iintro H Hq
  iapply (wp_key A c 0 1 rfl) $$ H; iintro H
  iapply (wp_val A c 0 1 rfl) $$ H; iintro H
  iapply (wp_peekCtx A c) $$ H; iintro H
  iapply (wp_putHead A c (rb := 1) 0 (by decide) rfl (head10 A c)) $$ H; iintro H
  iapply (wp_key A c 1 1 rfl) $$ H; iintro H
  iapply (wp_val A c 1 1 rfl) $$ H; iintro H
  iapply (wp_doneAs c (show (⟨k0_pay21 (k0_pay20) (Scalar.ofBits .f32 0x00000000#32), k0_pay23 (window (A.v c) 1 1), k0_pay24 (queries A c) (window (A.k c) 1 1)⟩ : Σ' (v330 : FVec F S256x512 .f32) (v361 : FVec F S512x128 .bf16), FVec F S256x512 .f32) = ⟨(bias 1), (k0_pay23 (window (A.v c) 1 1)), (k0_pay24 (queries A c) (window (A.k c) 1 1))⟩ from rfl))
  iapply Hq
  iexact H

end Cert.KernelIdeal.Exchange

end
-- ==== Proof.KernelIdeal.Parts2.lean ====
/-
  The body's parts 13 to 22: what the device holds before and after each.
-/
module

public import proofs.«01_k».proof.Proof.KernelIdeal.Heads

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

set_option maxRecDepth 65536 in
/-- Part 13 of the body. -/
theorem part13 {Q : _ → sProp 𝕄} : Attn A c 1 1 1 ⊢ iprop((Attn A c 1 1 2 -∗ Q (k0_pay26 (queries A c) (bias 1) (window (A.k c) 1 2) (window (A.v c) 1 2)))
    -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 1) (k0_pay23 (window (A.v c) 1 1)) (k0_pay24 (queries A c) (window (A.k c) 1 1))) Q) := by
  rw [k0_part13_eq_skeleton]; unfold k0_part13_skel; try extract_lets
  iintro H Hq
  iapply (wp_peekCtx A c) $$ H; iintro H
  iapply (wp_putHead A c (rb := 1) 1 (by decide) rfl (head11 A c)) $$ H; iintro H
  iapply (wp_key A c 2 1 rfl) $$ H; iintro H
  iapply (wp_val A c 2 1 rfl) $$ H; iintro H
  iapply (wp_peekCtx A c) $$ H; iintro H
  iapply (wp_done c)
  iapply Hq
  iexact H

set_option maxRecDepth 65536 in
/-- Part 14 of the body. -/
theorem part14 {Q : _ → sProp 𝕄} : Attn A c 1 1 2 ⊢ iprop((Attn A c 1 1 4 -∗ Q ⟨(k0_pay28 (window (A.v c) 1 4)), (k0_pay29 (queries A c) (bias 1) (window (A.k c) 1 4)), (k0_pay30 (queries A c) (bias 1) (window (A.k c) 1 4))⟩)
    -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 1) (k0_pay26 (queries A c) (bias 1) (window (A.k c) 1 2) (window (A.v c) 1 2))) Q) := by
  rw [k0_part14_eq_skeleton]; unfold k0_part14_skel; try extract_lets
  iintro H Hq
  iapply (wp_putHead A c (rb := 1) 2 (by decide) rfl (head12 A c)) $$ H; iintro H
  iapply (wp_key A c 3 1 rfl) $$ H; iintro H
  iapply (wp_val A c 3 1 rfl) $$ H; iintro H
  iapply (wp_peekCtx A c) $$ H; iintro H
  iapply (wp_putHead A c (rb := 1) 3 (by decide) rfl (head13 A c)) $$ H; iintro H
  iapply (wp_key A c 4 1 rfl) $$ H; iintro H
  iapply (wp_val A c 4 1 rfl) $$ H; iintro H
  iapply (wp_done c)
  iapply Hq
  iexact H

set_option maxRecDepth 65536 in
/-- Part 15 of the body. -/
theorem part15 {Q : _ → sProp 𝕄} : Attn A c 1 1 4 ⊢ iprop((Attn A c 1 1 6 -∗ Q (k0_pay33 (queries A c)))
    -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 1) (k0_pay28 (window (A.v c) 1 4)) (k0_pay29 (queries A c) (bias 1) (window (A.k c) 1 4)) (k0_pay30 (queries A c) (bias 1) (window (A.k c) 1 4))) Q) := by
  rw [k0_part15_eq_skeleton]; unfold k0_part15_skel; try extract_lets
  iintro H Hq
  iapply (wp_peekCtx A c) $$ H; iintro H
  iapply (wp_putHead A c (rb := 1) 4 (by decide) rfl (head14 A c)) $$ H; iintro H
  iapply (wp_key A c 5 1 rfl) $$ H; iintro H
  iapply (wp_val A c 5 1 rfl) $$ H; iintro H
  iapply (wp_peekCtx A c) $$ H; iintro H
  iapply (wp_putHead A c (rb := 1) 5 (by decide) rfl (head15 A c)) $$ H; iintro H
  iapply (wp_done c)
  iapply Hq
  iexact H

set_option maxRecDepth 65536 in
/-- Part 16 of the body. -/
theorem part16 {Q : _ → sProp 𝕄} : Attn A c 1 1 6 ⊢ iprop((Attn A c 1 1 7 -∗ Q ⟨(k0_pay35 (window (A.v c) 1 7)), (k0_pay36 (queries A c) (bias 1) (window (A.k c) 1 7))⟩)
    -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 1) (k0_pay33 (queries A c))) Q) := by
  rw [k0_part16_eq_skeleton]; unfold k0_part16_skel; try extract_lets
  iintro H Hq
  iapply (wp_key A c 6 1 rfl) $$ H; iintro H
  iapply (wp_val A c 6 1 rfl) $$ H; iintro H
  iapply (wp_peekCtx A c) $$ H; iintro H
  iapply (wp_putHead A c (rb := 1) 6 (by decide) rfl (head16 A c)) $$ H; iintro H
  iapply (wp_key A c 7 1 rfl) $$ H; iintro H
  iapply (wp_val A c 7 1 rfl) $$ H; iintro H
  iapply (wp_done c)
  iapply Hq
  iexact H

set_option maxRecDepth 65536 in
/-- Part 17 of the body. -/
theorem part17 {Q : _ → sProp 𝕄} : iprop(Attn A c 1 1 7 ∗ RsSend A K c 8 8) ⊢ iprop(((Attn A c 2 2 0 ∗ RsSend A K c 12 16) -∗ Q ⟨⟩)
    -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (k0_pay35 (window (A.v c) 1 7)) (k0_pay36 (queries A c) (bias 1) (window (A.k c) 1 7))) Q) := by
  rw [k0_part17_eq_skeleton]; unfold k0_part17_skel; try extract_lets
  iintro ⟨H, R⟩ Hq
  iapply (wp_peekCtx A c) $$ H; iintro H
  iapply (wp_putHead A c (rb := 1) 7 (by decide) rfl (head17 A c)) $$ H; iintro H
  iapply (wp_getCtx A c (rb := 1) rfl) $$ H; iintro H
  iapply (wp_wo A c) $$ H; iintro H
  iapply (wp_peekPart A c (rb := 1) 1 rfl rfl) $$ H; iintro H
  iapply (wp_putPart A c (rb := 1) 1 2 rfl rfl rfl (blk1 A c)) $$ H; iintro ⟨H, Hc⟩
  ihave R := (rs_refill A K c 1 8 16 rfl rfl) $$ [R Hc]
  · isplitl [R]; · iexact R
    iexact Hc
  ihave H := (attn_next A c 2 1 2 8) $$ H
  iapply (wp_rsSend A K c 8 16 (by decide) (by decide) (b := k0_cond9 c) (isPeer_iff 8 c) k0_dev41_eq (fun _ => sem_slice 0 rfl 8 rfl) (fun _ => sem_slice 1 rfl c (k0_off17_eq c)) rfl (k0_off18_eq c)) $$ R; iintro R
  iapply (wp_rsSend A K c 9 16 (by decide) (by decide) (b := k0_cond10 c) (isPeer_iff 9 c) k0_dev42_eq (fun _ => sem_slice 0 rfl 9 rfl) (fun _ => sem_slice 1 rfl c (k0_off19_eq c)) rfl (k0_off20_eq c)) $$ R; iintro R
  iapply (wp_rsSend A K c 10 16 (by decide) (by decide) (b := k0_cond11 c) (isPeer_iff 10 c) k0_dev43_eq (fun _ => sem_slice 0 rfl 10 rfl) (fun _ => sem_slice 1 rfl c (k0_off21_eq c)) rfl (k0_off22_eq c)) $$ R; iintro R
  iapply (wp_rsSend A K c 11 16 (by decide) (by decide) (b := k0_cond12 c) (isPeer_iff 11 c) k0_dev44_eq (fun _ => sem_slice 0 rfl 11 rfl) (fun _ => sem_slice 1 rfl c (k0_off23_eq c)) rfl (k0_off24_eq c)) $$ R; iintro R
  iapply (wp_done c)
  iapply Hq
  isplitl [H]; · iexact H
  iexact R

set_option maxRecDepth 65536 in
/-- Part 18 of the body. -/
theorem part18 {Q : _ → sProp 𝕄} : iprop(Attn A c 2 2 0 ∗ RsSend A K c 12 16) ⊢ iprop(((Attn A c 2 2 0 ∗ RsSend A K c 16 16) -∗ Q ⟨(bias 2), (k0_pay40 (window (A.v c) 2 0)), (k0_pay41 (queries A c) (window (A.k c) 2 0))⟩)
    -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (queries A c)) Q) := by
  rw [k0_part18_eq_skeleton]; unfold k0_part18_skel; try extract_lets
  iintro ⟨H, R⟩ Hq
  iapply (wp_rsSend A K c 12 16 (by decide) (by decide) (b := k0_cond13 c) (isPeer_iff 12 c) k0_dev45_eq (fun _ => sem_slice 0 rfl 12 rfl) (fun _ => sem_slice 1 rfl c (k0_off25_eq c)) rfl (k0_off26_eq c)) $$ R; iintro R
  iapply (wp_rsSend A K c 13 16 (by decide) (by decide) (b := k0_cond14 c) (isPeer_iff 13 c) k0_dev46_eq (fun _ => sem_slice 0 rfl 13 rfl) (fun _ => sem_slice 1 rfl c (k0_off27_eq c)) rfl (k0_off28_eq c)) $$ R; iintro R
  iapply (wp_rsSend A K c 14 16 (by decide) (by decide) (b := k0_cond15 c) (isPeer_iff 14 c) k0_dev47_eq (fun _ => sem_slice 0 rfl 14 rfl) (fun _ => sem_slice 1 rfl c (k0_off29_eq c)) rfl (k0_off30_eq c)) $$ R; iintro R
  iapply (wp_rsSend A K c 15 16 (by decide) (by decide) (b := k0_cond16 c) (isPeer_iff 15 c) k0_dev48_eq (fun _ => sem_slice 0 rfl 15 rfl) (fun _ => sem_slice 1 rfl c (k0_off31_eq c)) rfl (k0_off32_eq c)) $$ R; iintro R
  iapply (wp_key A c 0 2 rfl) $$ H; iintro H
  iapply (wp_val A c 0 2 rfl) $$ H; iintro H
  iapply (wp_doneAs c (show (⟨k0_pay39 (F := F), k0_pay40 (window (A.v c) 2 0), k0_pay41 (queries A c) (window (A.k c) 2 0)⟩ : Σ' (v575 : FVec F S256x512 .f32) (v581 : FVec F S512x128 .bf16), FVec F S256x512 .f32) = ⟨(bias 2), (k0_pay40 (window (A.v c) 2 0)), (k0_pay41 (queries A c) (window (A.k c) 2 0))⟩ from rfl))
  iapply Hq
  isplitl [H]; · iexact H
  iexact R

set_option maxRecDepth 65536 in
/-- Part 19 of the body. -/
theorem part19 {Q : _ → sProp 𝕄} : Attn A c 2 2 0 ⊢ iprop((Attn A c 2 2 1 -∗ Q (k0_pay43 (queries A c) (bias 2) (window (A.k c) 2 1) (window (A.v c) 2 1)))
    -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 2) (k0_pay40 (window (A.v c) 2 0)) (k0_pay41 (queries A c) (window (A.k c) 2 0))) Q) := by
  rw [k0_part19_eq_skeleton]; unfold k0_part19_skel; try extract_lets
  iintro H Hq
  iapply (wp_peekCtx A c) $$ H; iintro H
  iapply (wp_putHead A c (rb := 2) 0 (by decide) rfl (head20 A c)) $$ H; iintro H
  iapply (wp_key A c 1 2 rfl) $$ H; iintro H
  iapply (wp_val A c 1 2 rfl) $$ H; iintro H
  iapply (wp_done c)
  iapply Hq
  iexact H

set_option maxRecDepth 65536 in
/-- Part 20 of the body. -/
theorem part20 {Q : _ → sProp 𝕄} : Attn A c 2 2 1 ⊢ iprop((Attn A c 2 2 3 -∗ Q ⟨(k0_pay46 (window (A.v c) 2 3)), (k0_pay47 (queries A c) (window (A.k c) 2 3))⟩)
    -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 2) (k0_pay43 (queries A c) (bias 2) (window (A.k c) 2 1) (window (A.v c) 2 1))) Q) := by
  rw [k0_part20_eq_skeleton]; unfold k0_part20_skel; try extract_lets
  iintro H Hq
  iapply (wp_peekCtx A c) $$ H; iintro H
  iapply (wp_putHead A c (rb := 2) 1 (by decide) rfl (head21 A c)) $$ H; iintro H
  iapply (wp_key A c 2 2 rfl) $$ H; iintro H
  iapply (wp_val A c 2 2 rfl) $$ H; iintro H
  iapply (wp_peekCtx A c) $$ H; iintro H
  iapply (wp_putHead A c (rb := 2) 2 (by decide) rfl (head22 A c)) $$ H; iintro H
  iapply (wp_key A c 3 2 rfl) $$ H; iintro H
  iapply (wp_val A c 3 2 rfl) $$ H; iintro H
  iapply (wp_done c)
  iapply Hq
  iexact H

set_option maxRecDepth 65536 in
/-- Part 21 of the body. -/
theorem part21 {Q : _ → sProp 𝕄} : Attn A c 2 2 3 ⊢ iprop((Attn A c 2 2 4 -∗ Q (k0_pay49 (queries A c) (bias 2) (window (A.k c) 2 4) (window (A.v c) 2 4)))
    -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 2) (k0_pay46 (window (A.v c) 2 3)) (k0_pay47 (queries A c) (window (A.k c) 2 3))) Q) := by
  rw [k0_part21_eq_skeleton]; unfold k0_part21_skel; try extract_lets
  iintro H Hq
  iapply (wp_peekCtx A c) $$ H; iintro H
  iapply (wp_putHead A c (rb := 2) 3 (by decide) rfl (head23 A c)) $$ H; iintro H
  iapply (wp_key A c 4 2 rfl) $$ H; iintro H
  iapply (wp_val A c 4 2 rfl) $$ H; iintro H
  iapply (wp_peekCtx A c) $$ H; iintro H
  iapply (wp_done c)
  iapply Hq
  iexact H

set_option maxRecDepth 65536 in
/-- Part 22 of the body. -/
theorem part22 {Q : _ → sProp 𝕄} : Attn A c 2 2 4 ⊢ iprop((Attn A c 2 2 6 -∗ Q ⟨(k0_pay51 (window (A.v c) 2 6)), (k0_pay52 (queries A c) (bias 2) (window (A.k c) 2 6)), (k0_pay53 (queries A c) (bias 2) (window (A.k c) 2 6))⟩)
    -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 2) (k0_pay49 (queries A c) (bias 2) (window (A.k c) 2 4) (window (A.v c) 2 4))) Q) := by
  rw [k0_part22_eq_skeleton]; unfold k0_part22_skel; try extract_lets
  iintro H Hq
  iapply (wp_putHead A c (rb := 2) 4 (by decide) rfl (head24 A c)) $$ H; iintro H
  iapply (wp_key A c 5 2 rfl) $$ H; iintro H
  iapply (wp_val A c 5 2 rfl) $$ H; iintro H
  iapply (wp_peekCtx A c) $$ H; iintro H
  iapply (wp_putHead A c (rb := 2) 5 (by decide) rfl (head25 A c)) $$ H; iintro H
  iapply (wp_key A c 6 2 rfl) $$ H; iintro H
  iapply (wp_val A c 6 2 rfl) $$ H; iintro H
  iapply (wp_done c)
  iapply Hq
  iexact H

end Cert.KernelIdeal.Exchange

end
-- ==== Proof.KernelIdeal.Parts3.lean ====
/-
  The body's parts 23 to 32: what the device holds before and after each.
-/
module

public import proofs.«01_k».proof.Proof.KernelIdeal.Heads

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

set_option maxRecDepth 65536 in
/-- Part 23 of the body. -/
theorem part23 {Q : _ → sProp 𝕄} : Attn A c 2 2 6 ⊢ iprop((Attn A c 2 2 8 -∗ Q ⟨⟩)
    -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 2) (k0_pay51 (window (A.v c) 2 6)) (k0_pay52 (queries A c) (bias 2) (window (A.k c) 2 6)) (k0_pay53 (queries A c) (bias 2) (window (A.k c) 2 6))) Q) := by
  rw [k0_part23_eq_skeleton]; unfold k0_part23_skel; try extract_lets
  iintro H Hq
  iapply (wp_peekCtx A c) $$ H; iintro H
  iapply (wp_putHead A c (rb := 2) 6 (by decide) rfl (head26 A c)) $$ H; iintro H
  iapply (wp_key A c 7 2 rfl) $$ H; iintro H
  iapply (wp_val A c 7 2 rfl) $$ H; iintro H
  iapply (wp_peekCtx A c) $$ H; iintro H
  iapply (wp_putHead A c (rb := 2) 7 (by decide) rfl (head27 A c)) $$ H; iintro H
  iapply (wp_done c)
  iapply Hq
  iexact H

set_option maxRecDepth 65536 in
/-- Part 24 of the body. -/
theorem part24 {Q : _ → sProp 𝕄} : iprop(Attn A c 2 2 8 ∗ RsSend A K c 16 16) ⊢ iprop(((Attn A c 3 3 0 ∗ RsSend A K c 22 24) -∗ Q (Scalar.extui (Scalar.cmpi .ne (self c) 22#32)))
    -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c)) Q) := by
  rw [k0_part24_eq_skeleton]; unfold k0_part24_skel; try extract_lets
  iintro ⟨H, R⟩ Hq
  iapply (wp_getCtx A c (rb := 2) rfl) $$ H; iintro H
  iapply (wp_wo A c) $$ H; iintro H
  iapply (wp_peekPart A c (rb := 2) 2 rfl rfl) $$ H; iintro H
  iapply (wp_putPart A c (rb := 2) 2 3 rfl rfl rfl (blk2 A c)) $$ H; iintro ⟨H, Hc⟩
  ihave R := (rs_refill A K c 2 16 24 rfl rfl) $$ [R Hc]
  · isplitl [R]; · iexact R
    iexact Hc
  ihave H := (attn_next A c 3 2 3 8) $$ H
  iapply (wp_rsSend A K c 16 24 (by decide) (by decide) (b := k0_cond17 c) (isPeer_iff 16 c) k0_dev49_eq (fun _ => sem_slice 0 rfl 16 rfl) (fun _ => sem_slice 1 rfl c (k0_off33_eq c)) rfl (k0_off34_eq c)) $$ R; iintro R
  iapply (wp_rsSend A K c 17 24 (by decide) (by decide) (b := k0_cond18 c) (isPeer_iff 17 c) k0_dev50_eq (fun _ => sem_slice 0 rfl 17 rfl) (fun _ => sem_slice 1 rfl c (k0_off35_eq c)) rfl (k0_off36_eq c)) $$ R; iintro R
  iapply (wp_rsSend A K c 18 24 (by decide) (by decide) (b := k0_cond19 c) (isPeer_iff 18 c) k0_dev51_eq (fun _ => sem_slice 0 rfl 18 rfl) (fun _ => sem_slice 1 rfl c (k0_off37_eq c)) rfl (k0_off38_eq c)) $$ R; iintro R
  iapply (wp_rsSend A K c 19 24 (by decide) (by decide) (b := k0_cond20 c) (isPeer_iff 19 c) k0_dev52_eq (fun _ => sem_slice 0 rfl 19 rfl) (fun _ => sem_slice 1 rfl c (k0_off39_eq c)) rfl (k0_off40_eq c)) $$ R; iintro R
  iapply (wp_rsSend A K c 20 24 (by decide) (by decide) (b := k0_cond21 c) (isPeer_iff 20 c) k0_dev53_eq (fun _ => sem_slice 0 rfl 20 rfl) (fun _ => sem_slice 1 rfl c (k0_off41_eq c)) rfl (k0_off42_eq c)) $$ R; iintro R
  iapply (wp_rsSend A K c 21 24 (by decide) (by decide) (b := k0_cond22 c) (isPeer_iff 21 c) k0_dev54_eq (fun _ => sem_slice 0 rfl 21 rfl) (fun _ => sem_slice 1 rfl c (k0_off43_eq c)) rfl (k0_off44_eq c)) $$ R; iintro R
  iapply (wp_done c)
  iapply Hq
  isplitl [H]; · iexact H
  iexact R

set_option maxRecDepth 65536 in
/-- Part 25 of the body. -/
theorem part25 {Q : _ → sProp 𝕄} : iprop(Attn A c 3 3 0 ∗ RsSend A K c 22 24) ⊢ iprop(((Attn A c 3 3 0 ∗ RsSend A K c 24 24) -∗ Q ⟨(bias 3), (k0_pay58 (queries A c) (window (A.k c) 3 0) (window (A.v c) 3 0))⟩)
    -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (queries A c) (Scalar.extui (Scalar.cmpi .ne (self c) 22#32))) Q) := by
  rw [k0_part25_eq_skeleton]; unfold k0_part25_skel; try extract_lets
  iintro ⟨H, R⟩ Hq
  iapply (wp_rsSend A K c 22 24 (by decide) (by decide) (b := k0_cond23 c) (isPeer_iff 22 c) k0_dev55_eq (fun _ => sem_slice 0 rfl 22 rfl) (fun _ => sem_slice 1 rfl c (k0_off45_eq c)) rfl (k0_off46_eq c)) $$ R; iintro R
  iapply (wp_rsSend A K c 23 24 (by decide) (by decide) (b := k0_cond24 c) (isPeer_iff 23 c) k0_dev56_eq (fun _ => sem_slice 0 rfl 23 rfl) (fun _ => sem_slice 1 rfl c (k0_off47_eq c)) rfl (k0_off48_eq c)) $$ R; iintro R
  iapply (wp_key A c 0 3 rfl) $$ H; iintro H
  iapply (wp_val A c 0 3 rfl) $$ H; iintro H
  iapply (wp_doneAs c (show (⟨k0_pay57 (F := F), k0_pay58 (queries A c) (window (A.k c) 3 0) (window (A.v c) 3 0)⟩ : Σ' (v820 : FVec F S256x512 .f32), FVec F S256x128 .f32) = ⟨(bias 3), (k0_pay58 (queries A c) (window (A.k c) 3 0) (window (A.v c) 3 0))⟩ from rfl))
  iapply Hq
  isplitl [H]; · iexact H
  iexact R

set_option maxRecDepth 65536 in
/-- Part 26 of the body. -/
theorem part26 {Q : _ → sProp 𝕄} : Attn A c 3 3 0 ⊢ iprop((Attn A c 3 3 2 -∗ Q ⟨(k0_pay61 (window (A.v c) 3 2)), (k0_pay62 (queries A c) (window (A.k c) 3 2))⟩)
    -∗ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 3) (k0_pay58 (queries A c) (window (A.k c) 3 0) (window (A.v c) 3 0))) Q) := by
  rw [k0_part26_eq_skeleton]; unfold k0_part26_skel; try extract_lets
  iintro H Hq
  iapply (wp_peekCtx A c) $$ H; iintro H
  iapply (wp_putHead A c (rb := 3) 0 (by decide) rfl (head30 A c)) $$ H; iintro H
  iapply (wp_key A c 1 3 rfl) $$ H; iintro H
  iapply (wp_val A c 1 3 rfl) $$ H; iintro H
  iapply (wp_peekCtx A c) $$ H; iintro H
  iapply (wp_putHead A c (rb := 3) 1 (by decide) rfl (head31 A c)) $$ H; iintro H
  iapply (wp_key A c 2 3 rfl) $$ H; iintro H
  iapply (wp_val A c 2 3 rfl) $$ H; iintro H
  iapply (wp_done c)
  iapply Hq
  iexact H

set_option maxRecDepth 65536 in
/-- Part 27 of the body. -/
theorem part27 {Q : _ → sProp 𝕄} : Attn A c 3 3 2 ⊢ iprop((Attn A c 3 3 3 -∗ Q (k0_pay64 (queries A c) (bias 3) (window (A.k c) 3 3) (window (A.v c) 3 3)))
    -∗ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 3) (k0_pay61 (window (A.v c) 3 2)) (k0_pay62 (queries A c) (window (A.k c) 3 2))) Q) := by
  rw [k0_part27_eq_skeleton]; unfold k0_part27_skel; try extract_lets
  iintro H Hq
  iapply (wp_peekCtx A c) $$ H; iintro H
  iapply (wp_putHead A c (rb := 3) 2 (by decide) rfl (head32 A c)) $$ H; iintro H
  iapply (wp_key A c 3 3 rfl) $$ H; iintro H
  iapply (wp_val A c 3 3 rfl) $$ H; iintro H
  iapply (wp_done c)
  iapply Hq
  iexact H

set_option maxRecDepth 65536 in
/-- Part 28 of the body. -/
theorem part28 {Q : _ → sProp 𝕄} : Attn A c 3 3 3 ⊢ iprop((Attn A c 3 3 5 -∗ Q ⟨(k0_pay67 (window (A.v c) 3 5)), (k0_pay68 (queries A c) (window (A.k c) 3 5))⟩)
    -∗ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 3) (k0_pay64 (queries A c) (bias 3) (window (A.k c) 3 3) (window (A.v c) 3 3))) Q) := by
  rw [k0_part28_eq_skeleton]; unfold k0_part28_skel; try extract_lets
  iintro H Hq
  iapply (wp_peekCtx A c) $$ H; iintro H
  iapply (wp_putHead A c (rb := 3) 3 (by decide) rfl (head33 A c)) $$ H; iintro H
  iapply (wp_key A c 4 3 rfl) $$ H; iintro H
  iapply (wp_val A c 4 3 rfl) $$ H; iintro H
  iapply (wp_peekCtx A c) $$ H; iintro H
  iapply (wp_putHead A c (rb := 3) 4 (by decide) rfl (head34 A c)) $$ H; iintro H
  iapply (wp_key A c 5 3 rfl) $$ H; iintro H
  iapply (wp_val A c 5 3 rfl) $$ H; iintro H
  iapply (wp_done c)
  iapply Hq
  iexact H

set_option maxRecDepth 65536 in
/-- Part 29 of the body. -/
theorem part29 {Q : _ → sProp 𝕄} : Attn A c 3 3 5 ⊢ iprop((Attn A c 3 3 6 -∗ Q (k0_pay70 (queries A c) (bias 3) (window (A.k c) 3 6) (window (A.v c) 3 6)))
    -∗ WP c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (queries A c) (bias 3) (k0_pay67 (window (A.v c) 3 5)) (k0_pay68 (queries A c) (window (A.k c) 3 5))) Q) := by
  rw [k0_part29_eq_skeleton]; unfold k0_part29_skel; try extract_lets
  iintro H Hq
  iapply (wp_peekCtx A c) $$ H; iintro H
  iapply (wp_putHead A c (rb := 3) 5 (by decide) rfl (head35 A c)) $$ H; iintro H
  iapply (wp_key A c 6 3 rfl) $$ H; iintro H
  iapply (wp_val A c 6 3 rfl) $$ H; iintro H
  iapply (wp_peekCtx A c) $$ H; iintro H
  iapply (wp_done c)
  iapply Hq
  iexact H

set_option maxRecDepth 65536 in
/-- Part 30 of the body. -/
theorem part30 {Q : _ → sProp 𝕄} : iprop(Attn A c 3 3 6 ∗ RsSend A K c 24 24) ⊢ iprop(((Attn A c 4 3 0 ∗ RsSend A K c 24 32) -∗ Q (Scalar.extui (Scalar.cmpi .ne (self c) 24#32)))
    -∗ WP c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (self c) (queries A c) (bias 3) (k0_pay70 (queries A c) (bias 3) (window (A.k c) 3 6) (window (A.v c) 3 6))) Q) := by
  rw [k0_part30_eq_skeleton]; unfold k0_part30_skel; try extract_lets
  iintro ⟨H, R⟩ Hq
  iapply (wp_putHead A c (rb := 3) 6 (by decide) rfl (head36 A c)) $$ H; iintro H
  iapply (wp_key A c 7 3 rfl) $$ H; iintro H
  iapply (wp_val A c 7 3 rfl) $$ H; iintro H
  iapply (wp_peekCtx A c) $$ H; iintro H
  iapply (wp_putHead A c (rb := 3) 7 (by decide) rfl (head37 A c)) $$ H; iintro H
  iapply (wp_getCtx A c (rb := 3) rfl) $$ H; iintro H
  iapply (wp_wo A c) $$ H; iintro H
  iapply (wp_peekPart A c (rb := 3) 3 rfl rfl) $$ H; iintro H
  iapply (wp_putPart A c (rb := 3) 3 4 rfl rfl rfl (blk3 A c)) $$ H; iintro ⟨H, Hc⟩
  ihave R := (rs_refill A K c 3 24 32 rfl rfl) $$ [R Hc]
  · isplitl [R]; · iexact R
    iexact Hc
  ihave H := (attn_next A c 4 3 3 8) $$ H
  iapply (wp_done c)
  iapply Hq
  isplitl [H]; · iexact H
  iexact R

set_option maxRecDepth 65536 in
/-- Part 31 of the body. -/
theorem part31 {Q : _ → sProp 𝕄} : RsSend A K c 24 32 ⊢ iprop((RsSend A K c 32 32 -∗ Q (ownPart A c))
    -∗ WP c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 24#32))) Q) := by
  rw [k0_part31_eq_skeleton]; unfold k0_part31_skel; try extract_lets
  iintro R Hq
  iapply (wp_rsSend A K c 24 32 (by decide) (by decide) (b := k0_cond25 c) (isPeer_iff 24 c) k0_dev57_eq (fun _ => sem_slice 0 rfl 24 rfl) (fun _ => sem_slice 1 rfl c (k0_off49_eq c)) rfl (k0_off50_eq c)) $$ R; iintro R
  iapply (wp_rsSend A K c 25 32 (by decide) (by decide) (b := k0_cond26 c) (isPeer_iff 25 c) k0_dev58_eq (fun _ => sem_slice 0 rfl 25 rfl) (fun _ => sem_slice 1 rfl c (k0_off51_eq c)) rfl (k0_off52_eq c)) $$ R; iintro R
  iapply (wp_rsSend A K c 26 32 (by decide) (by decide) (b := k0_cond27 c) (isPeer_iff 26 c) k0_dev59_eq (fun _ => sem_slice 0 rfl 26 rfl) (fun _ => sem_slice 1 rfl c (k0_off53_eq c)) rfl (k0_off54_eq c)) $$ R; iintro R
  iapply (wp_rsSend A K c 27 32 (by decide) (by decide) (b := k0_cond28 c) (isPeer_iff 27 c) k0_dev60_eq (fun _ => sem_slice 0 rfl 27 rfl) (fun _ => sem_slice 1 rfl c (k0_off55_eq c)) rfl (k0_off56_eq c)) $$ R; iintro R
  iapply (wp_rsSend A K c 28 32 (by decide) (by decide) (b := k0_cond29 c) (isPeer_iff 28 c) k0_dev61_eq (fun _ => sem_slice 0 rfl 28 rfl) (fun _ => sem_slice 1 rfl c (k0_off57_eq c)) rfl (k0_off58_eq c)) $$ R; iintro R
  iapply (wp_rsSend A K c 29 32 (by decide) (by decide) (b := k0_cond30 c) (isPeer_iff 29 c) k0_dev62_eq (fun _ => sem_slice 0 rfl 29 rfl) (fun _ => sem_slice 1 rfl c (k0_off59_eq c)) rfl (k0_off60_eq c)) $$ R; iintro R
  iapply (wp_rsSend A K c 30 32 (by decide) (by decide) (b := k0_cond31 c) (isPeer_iff 30 c) k0_dev63_eq (fun _ => sem_slice 0 rfl 30 rfl) (fun _ => sem_slice 1 rfl c (k0_off61_eq c)) rfl (k0_off62_eq c)) $$ R; iintro R
  iapply (wp_rsSend A K c 31 32 (by decide) (by decide) (b := k0_cond32 c) (isPeer_iff 31 c) k0_dev64_eq (fun _ => sem_slice 0 rfl 31 rfl) (fun _ => sem_slice 1 rfl c (k0_off63_eq c)) rfl (k0_off64_eq c)) $$ R; iintro R
  iapply (wp_ownRow A K c (k0_off65_eq c)) $$ R; iintro R
  iapply (wp_done c)
  iapply Hq
  iexact R

set_option maxRecDepth 65536 in
/-- Part 32 of the body. -/
theorem part32 {Q : _ → sProp 𝕄} : iprop(RsSend A K c 32 32 ∗ OwnSlot c ∗ RecvPend c) ⊢ iprop(((Waiting A K c 1 (owesAg c 0) (slotPts c c (recvC A c)) 6 ∗ RsDone A c) -∗ Q (Scalar.cmpi .ne (self c) 6#32))
    -∗ WP c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (ownPart A c)) Q) := by
  rw [k0_part32_eq_skeleton]; unfold k0_part32_skel; try extract_lets
  iintro ⟨R, G, W⟩ Hq
  iapply (wp_peekSlot c (k0_off66_eq c)) $$ G; iintro G
  iapply (wp_putSlot A c (k0_off66_eq c)) $$ G; iintro G
  ihave R := (rs_recv A K c) $$ [R G W]
  · isplitl [R]; · iexact R
    isplitl [G]; · iexact G
    iexact W
  icases R with ⟨R, G⟩
  iapply (wp_recvWait A K c 0 (by decide) (isPeer_iff 0 c) (fun _ => sem_slice 1 rfl 0 rfl)) $$ R; iintro R
  iapply (wp_recvWait A K c 1 (by decide) (isPeer_iff 1 c) (fun _ => sem_slice 1 rfl 1 rfl)) $$ R; iintro R
  iapply (wp_recvWait A K c 2 (by decide) (isPeer_iff 2 c) (fun _ => sem_slice 1 rfl 2 rfl)) $$ R; iintro R
  iapply (wp_recvWait A K c 3 (by decide) (isPeer_iff 3 c) (fun _ => sem_slice 1 rfl 3 rfl)) $$ R; iintro R
  iapply (wp_recvWait A K c 4 (by decide) (isPeer_iff 4 c) (fun _ => sem_slice 1 rfl 4 rfl)) $$ R; iintro R
  iapply (wp_recvWait A K c 5 (by decide) (isPeer_iff 5 c) (fun _ => sem_slice 1 rfl 5 rfl)) $$ R; iintro R
  iapply (wp_done c)
  iapply Hq
  isplitl [R]; · iexact R
  iexact G

end Cert.KernelIdeal.Exchange

end
-- ==== Proof.KernelIdeal.Parts4.lean ====
/-
  The body's parts 33 to 40: what the device holds before and after each.
-/
module

public import proofs.«01_k».proof.Proof.KernelIdeal.Heads

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

set_option maxRecDepth 65536 in
/-- Part 33 of the body. -/
theorem part33 {Q : _ → sProp 𝕄} : Waiting A K c 1 (owesAg c 0) (slotPts c c (recvC A c)) 6 ⊢ iprop((Waiting A K c 1 (owesAg c 0) (slotPts c c (recvC A c)) 12 -∗ Q (Scalar.cmpi .ne (Scalar.extui (Scalar.cmpi .ne (self c) 12#32)) 0#32))
    -∗ WP c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (self c) (Scalar.cmpi .ne (self c) 6#32)) Q) := by
  rw [k0_part33_eq_skeleton]; unfold k0_part33_skel; try extract_lets
  iintro R Hq
  iapply (wp_recvWait A K c 6 (by decide) (isPeer_iff 6 c) (fun _ => sem_slice 1 rfl 6 rfl)) $$ R; iintro R
  iapply (wp_recvWait A K c 7 (by decide) (isPeer_iff 7 c) (fun _ => sem_slice 1 rfl 7 rfl)) $$ R; iintro R
  iapply (wp_recvWait A K c 8 (by decide) (isPeer_iff 8 c) (fun _ => sem_slice 1 rfl 8 rfl)) $$ R; iintro R
  iapply (wp_recvWait A K c 9 (by decide) (isPeer_iff 9 c) (fun _ => sem_slice 1 rfl 9 rfl)) $$ R; iintro R
  iapply (wp_recvWait A K c 10 (by decide) (isPeer_iff 10 c) (fun _ => sem_slice 1 rfl 10 rfl)) $$ R; iintro R
  iapply (wp_recvWait A K c 11 (by decide) (isPeer_iff 11 c) (fun _ => sem_slice 1 rfl 11 rfl)) $$ R; iintro R
  iapply (wp_done c)
  iapply Hq
  iexact R

set_option maxRecDepth 65536 in
/-- Part 34 of the body. -/
theorem part34 {Q : _ → sProp 𝕄} : Waiting A K c 1 (owesAg c 0) (slotPts c c (recvC A c)) 12 ⊢ iprop((Waiting A K c 1 (owesAg c 0) (slotPts c c (recvC A c)) 19 -∗ Q (Scalar.extui (Scalar.cmpi .ne (self c) 19#32)))
    -∗ WP c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (self c) (Scalar.cmpi .ne (Scalar.extui (Scalar.cmpi .ne (self c) 12#32)) 0#32)) Q) := by
  rw [k0_part34_eq_skeleton]; unfold k0_part34_skel; try extract_lets
  iintro R Hq
  iapply (wp_recvWait A K c 12 (by decide) (isPeer_iff 12 c) (fun _ => sem_slice 1 rfl 12 rfl)) $$ R; iintro R
  iapply (wp_recvWait A K c 13 (by decide) (isPeer_iff 13 c) (fun _ => sem_slice 1 rfl 13 rfl)) $$ R; iintro R
  iapply (wp_recvWait A K c 14 (by decide) (isPeer_iff 14 c) (fun _ => sem_slice 1 rfl 14 rfl)) $$ R; iintro R
  iapply (wp_recvWait A K c 15 (by decide) (isPeer_iff 15 c) (fun _ => sem_slice 1 rfl 15 rfl)) $$ R; iintro R
  iapply (wp_recvWait A K c 16 (by decide) (isPeer_iff 16 c) (fun _ => sem_slice 1 rfl 16 rfl)) $$ R; iintro R
  iapply (wp_recvWait A K c 17 (by decide) (isPeer_iff 17 c) (fun _ => sem_slice 1 rfl 17 rfl)) $$ R; iintro R
  iapply (wp_recvWait A K c 18 (by decide) (isPeer_iff 18 c) (fun _ => sem_slice 1 rfl 18 rfl)) $$ R; iintro R
  iapply (wp_done c)
  iapply Hq
  iexact R

set_option maxRecDepth 65536 in
/-- Part 35 of the body. -/
theorem part35 {Q : _ → sProp 𝕄} : Waiting A K c 1 (owesAg c 0) (slotPts c c (recvC A c)) 19 ⊢ iprop((Waiting A K c 1 (owesAg c 0) (slotPts c c (recvC A c)) 26 -∗ Q (Scalar.cmpi .ne (self c) 26#32))
    -∗ WP c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (self c) (Scalar.extui (Scalar.cmpi .ne (self c) 19#32))) Q) := by
  rw [k0_part35_eq_skeleton]; unfold k0_part35_skel; try extract_lets
  iintro R Hq
  iapply (wp_recvWait A K c 19 (by decide) (isPeer_iff 19 c) (fun _ => sem_slice 1 rfl 19 rfl)) $$ R; iintro R
  iapply (wp_recvWait A K c 20 (by decide) (isPeer_iff 20 c) (fun _ => sem_slice 1 rfl 20 rfl)) $$ R; iintro R
  iapply (wp_recvWait A K c 21 (by decide) (isPeer_iff 21 c) (fun _ => sem_slice 1 rfl 21 rfl)) $$ R; iintro R
  iapply (wp_recvWait A K c 22 (by decide) (isPeer_iff 22 c) (fun _ => sem_slice 1 rfl 22 rfl)) $$ R; iintro R
  iapply (wp_recvWait A K c 23 (by decide) (isPeer_iff 23 c) (fun _ => sem_slice 1 rfl 23 rfl)) $$ R; iintro R
  iapply (wp_recvWait A K c 24 (by decide) (isPeer_iff 24 c) (fun _ => sem_slice 1 rfl 24 rfl)) $$ R; iintro R
  iapply (wp_recvWait A K c 25 (by decide) (isPeer_iff 25 c) (fun _ => sem_slice 1 rfl 25 rfl)) $$ R; iintro R
  iapply (wp_done c)
  iapply Hq
  iexact R

set_option maxRecDepth 65536 in
/-- Part 36 of the body. -/
theorem part36 {Q : _ → sProp 𝕄} : Waiting A K c 1 (owesAg c 0) (slotPts c c (recvC A c)) 26 ⊢ iprop((RecvDone A K c -∗ Q ⟨(k0_pay74 (recvC A c)), (32#32)⟩)
    -∗ WP c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (self c) (Scalar.cmpi .ne (self c) 26#32)) Q) := by
  rw [k0_part36_eq_skeleton]; unfold k0_part36_skel; try extract_lets
  iintro R Hq
  iapply (wp_recvWait A K c 26 (by decide) (isPeer_iff 26 c) (fun _ => sem_slice 1 rfl 26 rfl)) $$ R; iintro R
  iapply (wp_recvWait A K c 27 (by decide) (isPeer_iff 27 c) (fun _ => sem_slice 1 rfl 27 rfl)) $$ R; iintro R
  iapply (wp_recvWait A K c 28 (by decide) (isPeer_iff 28 c) (fun _ => sem_slice 1 rfl 28 rfl)) $$ R; iintro R
  iapply (wp_recvWait A K c 29 (by decide) (isPeer_iff 29 c) (fun _ => sem_slice 1 rfl 29 rfl)) $$ R; iintro R
  iapply (wp_recvWait A K c 30 (by decide) (isPeer_iff 30 c) (fun _ => sem_slice 1 rfl 30 rfl)) $$ R; iintro R
  iapply (wp_recvWait A K c 31 (by decide) (isPeer_iff 31 c) (fun _ => sem_slice 1 rfl 31 rfl)) $$ R; iintro R
  iapply (wp_getSlots A K c) $$ R; iintro R
  iapply (wp_done c)
  iapply Hq
  iexact R

set_option maxRecDepth 65536 in
/-- Part 37 of the body. -/
theorem part37 {Q : _ → sProp 𝕄} : iprop(RecvDone A K c ∗ OwnRows c ∗ AgPend c) ⊢ iprop(((AgSend A K c 7 ∗ Recv2 A c) -∗ Q ⟨(Scalar.extui (Scalar.cmpi .ne (self c) 7#32)), (0#32)⟩)
    -∗ WP c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (k0_pay74 (recvC A c)) (32#32)) Q) := by
  rw [k0_part37_eq_skeleton]; unfold k0_part37_skel; try extract_lets
  iintro ⟨R, G, W⟩ Hq
  iapply (wp_peekOut c (k0_off65_eq c)) $$ G; iintro G
  iapply (wp_putOut A c (k0_off65_eq c)) $$ G; iintro G
  ihave R := (ag_begin A K c) $$ [R G W]
  · isplitl [R]; · iexact R
    isplitl [G]; · iexact G
    iexact W
  icases R with ⟨R, G⟩
  iapply (wp_agSend A K c 0 (by decide) (b := k0_cond65 c) (isPeer_iff 0 c) k0_dev65_eq (fun _ => sem_slice 2 rfl 0 rfl) (fun _ => sem_slice 3 rfl c (k0_off67_eq c)) (k0_off68_eq c)) $$ R; iintro R
  iapply (wp_agSend A K c 1 (by decide) (b := k0_cond66 c) (isPeer_iff 1 c) k0_dev66_eq (fun _ => sem_slice 2 rfl 1 rfl) (fun _ => sem_slice 3 rfl c (k0_off69_eq c)) (k0_off70_eq c)) $$ R; iintro R
  iapply (wp_agSend A K c 2 (by decide) (b := k0_cond67 c) (isPeer_iff 2 c) k0_dev67_eq (fun _ => sem_slice 2 rfl 2 rfl) (fun _ => sem_slice 3 rfl c (k0_off71_eq c)) (k0_off72_eq c)) $$ R; iintro R
  iapply (wp_agSend A K c 3 (by decide) (b := k0_cond68 c) (isPeer_iff 3 c) k0_dev68_eq (fun _ => sem_slice 2 rfl 3 rfl) (fun _ => sem_slice 3 rfl c (k0_off73_eq c)) (k0_off74_eq c)) $$ R; iintro R
  iapply (wp_agSend A K c 4 (by decide) (b := k0_cond69 c) (isPeer_iff 4 c) k0_dev69_eq (fun _ => sem_slice 2 rfl 4 rfl) (fun _ => sem_slice 3 rfl c (k0_off75_eq c)) (k0_off76_eq c)) $$ R; iintro R
  iapply (wp_agSend A K c 5 (by decide) (b := k0_cond70 c) (isPeer_iff 5 c) k0_dev70_eq (fun _ => sem_slice 2 rfl 5 rfl) (fun _ => sem_slice 3 rfl c (k0_off77_eq c)) (k0_off78_eq c)) $$ R; iintro R
  iapply (wp_agSend A K c 6 (by decide) (b := k0_cond71 c) (isPeer_iff 6 c) k0_dev71_eq (fun _ => sem_slice 2 rfl 6 rfl) (fun _ => sem_slice 3 rfl c (k0_off79_eq c)) (k0_off80_eq c)) $$ R; iintro R
  iapply (wp_done c)
  iapply Hq
  isplitl [R]; · iexact R
  iexact G

set_option maxRecDepth 65536 in
/-- Part 38 of the body. -/
theorem part38 {Q : _ → sProp 𝕄} : AgSend A K c 7 ⊢ iprop((AgSend A K c 16 -∗ Q (Scalar.cmpi .ne (self c) 16#32))
    -∗ WP c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 7#32)) (0#32)) Q) := by
  rw [k0_part38_eq_skeleton]; unfold k0_part38_skel; try extract_lets
  iintro R Hq
  iapply (wp_agSend A K c 7 (by decide) (b := k0_cond72 c) (isPeer_iff 7 c) k0_dev72_eq (fun _ => sem_slice 2 rfl 7 rfl) (fun _ => sem_slice 3 rfl c (k0_off81_eq c)) (k0_off82_eq c)) $$ R; iintro R
  iapply (wp_agSend A K c 8 (by decide) (b := k0_cond73 c) (isPeer_iff 8 c) k0_dev73_eq (fun _ => sem_slice 2 rfl 8 rfl) (fun _ => sem_slice 3 rfl c (k0_off83_eq c)) (k0_off84_eq c)) $$ R; iintro R
  iapply (wp_agSend A K c 9 (by decide) (b := k0_cond74 c) (isPeer_iff 9 c) k0_dev74_eq (fun _ => sem_slice 2 rfl 9 rfl) (fun _ => sem_slice 3 rfl c (k0_off85_eq c)) (k0_off86_eq c)) $$ R; iintro R
  iapply (wp_agSend A K c 10 (by decide) (b := k0_cond75 c) (isPeer_iff 10 c) k0_dev75_eq (fun _ => sem_slice 2 rfl 10 rfl) (fun _ => sem_slice 3 rfl c (k0_off87_eq c)) (k0_off88_eq c)) $$ R; iintro R
  iapply (wp_agSend A K c 11 (by decide) (b := k0_cond76 c) (isPeer_iff 11 c) k0_dev76_eq (fun _ => sem_slice 2 rfl 11 rfl) (fun _ => sem_slice 3 rfl c (k0_off89_eq c)) (k0_off90_eq c)) $$ R; iintro R
  iapply (wp_agSend A K c 12 (by decide) (b := k0_cond77 c) (isPeer_iff 12 c) k0_dev77_eq (fun _ => sem_slice 2 rfl 12 rfl) (fun _ => sem_slice 3 rfl c (k0_off91_eq c)) (k0_off92_eq c)) $$ R; iintro R
  iapply (wp_agSend A K c 13 (by decide) (b := k0_cond78 c) (isPeer_iff 13 c) k0_dev78_eq (fun _ => sem_slice 2 rfl 13 rfl) (fun _ => sem_slice 3 rfl c (k0_off93_eq c)) (k0_off94_eq c)) $$ R; iintro R
  iapply (wp_agSend A K c 14 (by decide) (b := k0_cond79 c) (isPeer_iff 14 c) k0_dev79_eq (fun _ => sem_slice 2 rfl 14 rfl) (fun _ => sem_slice 3 rfl c (k0_off95_eq c)) (k0_off96_eq c)) $$ R; iintro R
  iapply (wp_agSend A K c 15 (by decide) (b := k0_cond80 c) (isPeer_iff 15 c) k0_dev80_eq (fun _ => sem_slice 2 rfl 15 rfl) (fun _ => sem_slice 3 rfl c (k0_off97_eq c)) (k0_off98_eq c)) $$ R; iintro R
  iapply (wp_done c)
  iapply Hq
  iexact R

set_option maxRecDepth 65536 in
/-- Part 39 of the body. -/
theorem part39 {Q : _ → sProp 𝕄} : AgSend A K c 16 ⊢ iprop((AgSend A K c 24 -∗ Q ⟨⟩)
    -∗ WP c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.cmpi .ne (self c) 16#32)) Q) := by
  rw [k0_part39_eq_skeleton]; unfold k0_part39_skel; try extract_lets
  iintro R Hq
  iapply (wp_agSend A K c 16 (by decide) (b := k0_cond81 c) (isPeer_iff 16 c) k0_dev81_eq (fun _ => sem_slice 2 rfl 16 rfl) (fun _ => sem_slice 3 rfl c (k0_off99_eq c)) (k0_off100_eq c)) $$ R; iintro R
  iapply (wp_agSend A K c 17 (by decide) (b := k0_cond82 c) (isPeer_iff 17 c) k0_dev82_eq (fun _ => sem_slice 2 rfl 17 rfl) (fun _ => sem_slice 3 rfl c (k0_off101_eq c)) (k0_off102_eq c)) $$ R; iintro R
  iapply (wp_agSend A K c 18 (by decide) (b := k0_cond83 c) (isPeer_iff 18 c) k0_dev83_eq (fun _ => sem_slice 2 rfl 18 rfl) (fun _ => sem_slice 3 rfl c (k0_off103_eq c)) (k0_off104_eq c)) $$ R; iintro R
  iapply (wp_agSend A K c 19 (by decide) (b := k0_cond84 c) (isPeer_iff 19 c) k0_dev84_eq (fun _ => sem_slice 2 rfl 19 rfl) (fun _ => sem_slice 3 rfl c (k0_off105_eq c)) (k0_off106_eq c)) $$ R; iintro R
  iapply (wp_agSend A K c 20 (by decide) (b := k0_cond85 c) (isPeer_iff 20 c) k0_dev85_eq (fun _ => sem_slice 2 rfl 20 rfl) (fun _ => sem_slice 3 rfl c (k0_off107_eq c)) (k0_off108_eq c)) $$ R; iintro R
  iapply (wp_agSend A K c 21 (by decide) (b := k0_cond86 c) (isPeer_iff 21 c) k0_dev86_eq (fun _ => sem_slice 2 rfl 21 rfl) (fun _ => sem_slice 3 rfl c (k0_off109_eq c)) (k0_off110_eq c)) $$ R; iintro R
  iapply (wp_agSend A K c 22 (by decide) (b := k0_cond87 c) (isPeer_iff 22 c) k0_dev87_eq (fun _ => sem_slice 2 rfl 22 rfl) (fun _ => sem_slice 3 rfl c (k0_off111_eq c)) (k0_off112_eq c)) $$ R; iintro R
  iapply (wp_agSend A K c 23 (by decide) (b := k0_cond88 c) (isPeer_iff 23 c) k0_dev88_eq (fun _ => sem_slice 2 rfl 23 rfl) (fun _ => sem_slice 3 rfl c (k0_off113_eq c)) (k0_off114_eq c)) $$ R; iintro R
  iapply (wp_done c)
  iapply Hq
  iexact R

set_option maxRecDepth 65536 in
/-- Part 40 of the body. -/
theorem part40 {Q : _ → sProp 𝕄} : iprop(AgSend A K c 24 ∗ GatherPend c) ⊢ iprop(((Waiting A K c 3 0 iprop(emp) 1 ∗ AgDone A c) -∗ Q (Scalar.cmpi .ne (self c) 1#32))
    -∗ WP c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c)) Q) := by
  rw [k0_part40_eq_skeleton]; unfold k0_part40_skel; try extract_lets
  iintro ⟨R, G⟩ Hq
  iapply (wp_agSend A K c 24 (by decide) (b := k0_cond89 c) (isPeer_iff 24 c) k0_dev89_eq (fun _ => sem_slice 2 rfl 24 rfl) (fun _ => sem_slice 3 rfl c (k0_off115_eq c)) (k0_off116_eq c)) $$ R; iintro R
  iapply (wp_agSend A K c 25 (by decide) (b := k0_cond90 c) (isPeer_iff 25 c) k0_dev90_eq (fun _ => sem_slice 2 rfl 25 rfl) (fun _ => sem_slice 3 rfl c (k0_off117_eq c)) (k0_off118_eq c)) $$ R; iintro R
  iapply (wp_agSend A K c 26 (by decide) (b := k0_cond91 c) (isPeer_iff 26 c) k0_dev91_eq (fun _ => sem_slice 2 rfl 26 rfl) (fun _ => sem_slice 3 rfl c (k0_off119_eq c)) (k0_off120_eq c)) $$ R; iintro R
  iapply (wp_agSend A K c 27 (by decide) (b := k0_cond92 c) (isPeer_iff 27 c) k0_dev92_eq (fun _ => sem_slice 2 rfl 27 rfl) (fun _ => sem_slice 3 rfl c (k0_off121_eq c)) (k0_off122_eq c)) $$ R; iintro R
  iapply (wp_agSend A K c 28 (by decide) (b := k0_cond93 c) (isPeer_iff 28 c) k0_dev93_eq (fun _ => sem_slice 2 rfl 28 rfl) (fun _ => sem_slice 3 rfl c (k0_off123_eq c)) (k0_off124_eq c)) $$ R; iintro R
  iapply (wp_agSend A K c 29 (by decide) (b := k0_cond94 c) (isPeer_iff 29 c) k0_dev94_eq (fun _ => sem_slice 2 rfl 29 rfl) (fun _ => sem_slice 3 rfl c (k0_off125_eq c)) (k0_off126_eq c)) $$ R; iintro R
  iapply (wp_agSend A K c 30 (by decide) (b := k0_cond95 c) (isPeer_iff 30 c) k0_dev95_eq (fun _ => sem_slice 2 rfl 30 rfl) (fun _ => sem_slice 3 rfl c (k0_off127_eq c)) (k0_off128_eq c)) $$ R; iintro R
  iapply (wp_agSend A K c 31 (by decide) (b := k0_cond96 c) (isPeer_iff 31 c) k0_dev96_eq (fun _ => sem_slice 2 rfl 31 rfl) (fun _ => sem_slice 3 rfl c (k0_off129_eq c)) (k0_off130_eq c)) $$ R; iintro R
  ihave R := (ag_recv A K c) $$ [R G]
  · isplitl [R]; · iexact R
    iexact G
  icases R with ⟨R, G⟩
  iapply (wp_gatherWait A K c 0 (by decide) (b := k0_cond97 c) (isPeer_iff 0 c) (fun _ => sem_slice 3 rfl 0 rfl)) $$ R; iintro R
  iapply (wp_done c)
  iapply Hq
  isplitl [R]; · iexact R
  iexact G

end Cert.KernelIdeal.Exchange

end
-- ==== Proof.KernelIdeal.Parts5.lean ====
/-
  The body's parts 41 to 48: what the device holds before and after each.
-/
module

public import proofs.«01_k».proof.Proof.KernelIdeal.Heads

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

set_option maxRecDepth 65536 in
/-- Part 41 of the body. -/
theorem part41 {Q : _ → sProp 𝕄} : Waiting A K c 3 0 iprop(emp) 1 ⊢ iprop((Waiting A K c 3 0 iprop(emp) 8 -∗ Q ⟨(Scalar.extui (Scalar.cmpi .ne (self c) 8#32)), (0#32)⟩)
    -∗ WP c (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.cmpi .ne (self c) 1#32)) Q) := by
  rw [k0_part41_eq_skeleton]; unfold k0_part41_skel; try extract_lets
  iintro R Hq
  iapply (wp_gatherWait A K c 1 (by decide) (b := k0_cond98 c) (isPeer_iff 1 c) (fun _ => sem_slice 3 rfl 1 rfl)) $$ R; iintro R
  iapply (wp_gatherWait A K c 2 (by decide) (b := k0_cond99 c) (isPeer_iff 2 c) (fun _ => sem_slice 3 rfl 2 rfl)) $$ R; iintro R
  iapply (wp_gatherWait A K c 3 (by decide) (b := k0_cond100 c) (isPeer_iff 3 c) (fun _ => sem_slice 3 rfl 3 rfl)) $$ R; iintro R
  iapply (wp_gatherWait A K c 4 (by decide) (b := k0_cond101 c) (isPeer_iff 4 c) (fun _ => sem_slice 3 rfl 4 rfl)) $$ R; iintro R
  iapply (wp_gatherWait A K c 5 (by decide) (b := k0_cond102 c) (isPeer_iff 5 c) (fun _ => sem_slice 3 rfl 5 rfl)) $$ R; iintro R
  iapply (wp_gatherWait A K c 6 (by decide) (b := k0_cond103 c) (isPeer_iff 6 c) (fun _ => sem_slice 3 rfl 6 rfl)) $$ R; iintro R
  iapply (wp_gatherWait A K c 7 (by decide) (b := k0_cond104 c) (isPeer_iff 7 c) (fun _ => sem_slice 3 rfl 7 rfl)) $$ R; iintro R
  iapply (wp_done c)
  iapply Hq
  iexact R

set_option maxRecDepth 65536 in
/-- Part 42 of the body. -/
theorem part42 {Q : _ → sProp 𝕄} : Waiting A K c 3 0 iprop(emp) 8 ⊢ iprop((Waiting A K c 3 0 iprop(emp) 16 -∗ Q (Scalar.cmpi .ne (self c) 16#32))
    -∗ WP c (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 8#32)) (0#32)) Q) := by
  rw [k0_part42_eq_skeleton]; unfold k0_part42_skel; try extract_lets
  iintro R Hq
  iapply (wp_gatherWait A K c 8 (by decide) (b := k0_cond105 c) (isPeer_iff 8 c) (fun _ => sem_slice 3 rfl 8 rfl)) $$ R; iintro R
  iapply (wp_gatherWait A K c 9 (by decide) (b := k0_cond106 c) (isPeer_iff 9 c) (fun _ => sem_slice 3 rfl 9 rfl)) $$ R; iintro R
  iapply (wp_gatherWait A K c 10 (by decide) (b := k0_cond107 c) (isPeer_iff 10 c) (fun _ => sem_slice 3 rfl 10 rfl)) $$ R; iintro R
  iapply (wp_gatherWait A K c 11 (by decide) (b := k0_cond108 c) (isPeer_iff 11 c) (fun _ => sem_slice 3 rfl 11 rfl)) $$ R; iintro R
  iapply (wp_gatherWait A K c 12 (by decide) (b := k0_cond109 c) (isPeer_iff 12 c) (fun _ => sem_slice 3 rfl 12 rfl)) $$ R; iintro R
  iapply (wp_gatherWait A K c 13 (by decide) (b := k0_cond110 c) (isPeer_iff 13 c) (fun _ => sem_slice 3 rfl 13 rfl)) $$ R; iintro R
  iapply (wp_gatherWait A K c 14 (by decide) (b := k0_cond111 c) (isPeer_iff 14 c) (fun _ => sem_slice 3 rfl 14 rfl)) $$ R; iintro R
  iapply (wp_gatherWait A K c 15 (by decide) (b := k0_cond112 c) (isPeer_iff 15 c) (fun _ => sem_slice 3 rfl 15 rfl)) $$ R; iintro R
  iapply (wp_done c)
  iapply Hq
  iexact R

set_option maxRecDepth 65536 in
/-- Part 43 of the body. -/
theorem part43 {Q : _ → sProp 𝕄} : Waiting A K c 3 0 iprop(emp) 16 ⊢ iprop((Waiting A K c 3 0 iprop(emp) 23 -∗ Q ⟨(Scalar.extui (Scalar.cmpi .ne (self c) 23#32)), (0#32)⟩)
    -∗ WP c (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.cmpi .ne (self c) 16#32)) Q) := by
  rw [k0_part43_eq_skeleton]; unfold k0_part43_skel; try extract_lets
  iintro R Hq
  iapply (wp_gatherWait A K c 16 (by decide) (b := k0_cond113 c) (isPeer_iff 16 c) (fun _ => sem_slice 3 rfl 16 rfl)) $$ R; iintro R
  iapply (wp_gatherWait A K c 17 (by decide) (b := k0_cond114 c) (isPeer_iff 17 c) (fun _ => sem_slice 3 rfl 17 rfl)) $$ R; iintro R
  iapply (wp_gatherWait A K c 18 (by decide) (b := k0_cond115 c) (isPeer_iff 18 c) (fun _ => sem_slice 3 rfl 18 rfl)) $$ R; iintro R
  iapply (wp_gatherWait A K c 19 (by decide) (b := k0_cond116 c) (isPeer_iff 19 c) (fun _ => sem_slice 3 rfl 19 rfl)) $$ R; iintro R
  iapply (wp_gatherWait A K c 20 (by decide) (b := k0_cond117 c) (isPeer_iff 20 c) (fun _ => sem_slice 3 rfl 20 rfl)) $$ R; iintro R
  iapply (wp_gatherWait A K c 21 (by decide) (b := k0_cond118 c) (isPeer_iff 21 c) (fun _ => sem_slice 3 rfl 21 rfl)) $$ R; iintro R
  iapply (wp_gatherWait A K c 22 (by decide) (b := k0_cond119 c) (isPeer_iff 22 c) (fun _ => sem_slice 3 rfl 22 rfl)) $$ R; iintro R
  iapply (wp_done c)
  iapply Hq
  iexact R

set_option maxRecDepth 65536 in
/-- Part 44 of the body. -/
theorem part44 {Q : _ → sProp 𝕄} : Waiting A K c 3 0 iprop(emp) 23 ⊢ iprop((Waiting A K c 3 0 iprop(emp) 31 -∗ Q (Scalar.cmpi .ne (self c) 31#32))
    -∗ WP c (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 23#32)) (0#32)) Q) := by
  rw [k0_part44_eq_skeleton]; unfold k0_part44_skel; try extract_lets
  iintro R Hq
  iapply (wp_gatherWait A K c 23 (by decide) (b := k0_cond120 c) (isPeer_iff 23 c) (fun _ => sem_slice 3 rfl 23 rfl)) $$ R; iintro R
  iapply (wp_gatherWait A K c 24 (by decide) (b := k0_cond121 c) (isPeer_iff 24 c) (fun _ => sem_slice 3 rfl 24 rfl)) $$ R; iintro R
  iapply (wp_gatherWait A K c 25 (by decide) (b := k0_cond122 c) (isPeer_iff 25 c) (fun _ => sem_slice 3 rfl 25 rfl)) $$ R; iintro R
  iapply (wp_gatherWait A K c 26 (by decide) (b := k0_cond123 c) (isPeer_iff 26 c) (fun _ => sem_slice 3 rfl 26 rfl)) $$ R; iintro R
  iapply (wp_gatherWait A K c 27 (by decide) (b := k0_cond124 c) (isPeer_iff 27 c) (fun _ => sem_slice 3 rfl 27 rfl)) $$ R; iintro R
  iapply (wp_gatherWait A K c 28 (by decide) (b := k0_cond125 c) (isPeer_iff 28 c) (fun _ => sem_slice 3 rfl 28 rfl)) $$ R; iintro R
  iapply (wp_gatherWait A K c 29 (by decide) (b := k0_cond126 c) (isPeer_iff 29 c) (fun _ => sem_slice 3 rfl 29 rfl)) $$ R; iintro R
  iapply (wp_gatherWait A K c 30 (by decide) (b := k0_cond127 c) (isPeer_iff 30 c) (fun _ => sem_slice 3 rfl 30 rfl)) $$ R; iintro R
  iapply (wp_done c)
  iapply Hq
  iexact R

set_option maxRecDepth 65536 in
/-- Part 45 of the body. -/
theorem part45 {Q : _ → sProp 𝕄} : iprop(Waiting A K c 3 0 iprop(emp) 31 ∗ DrainPend A c) ⊢ iprop(((Drain A K c 6 ∗ PeerRows A c) -∗ Q ⟨(Scalar.extui (Scalar.cmpi .ne (self c) 6#32)), (0#32)⟩)
    -∗ WP c (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.cmpi .ne (self c) 31#32)) Q) := by
  rw [k0_part45_eq_skeleton]; unfold k0_part45_skel; try extract_lets
  iintro ⟨R, G⟩ Hq
  iapply (wp_gatherWait A K c 31 (by decide) (b := k0_cond128 c) (isPeer_iff 31 c) (fun _ => sem_slice 3 rfl 31 rfl)) $$ R; iintro R
  ihave R := (drain_begin A K c) $$ [R G]
  · isplitl [R]; · iexact R
    iexact G
  icases R with ⟨R, G⟩
  iapply (wp_leftWait A K c 0 (by decide) (b := k0_cond129 c) (isPeer_iff 0 c) (fun _ => sem_slice 0 rfl 0 rfl) (fun _ => sem_slice 2 rfl 0 rfl)) $$ R; iintro R
  iapply (wp_leftWait A K c 1 (by decide) (b := k0_cond130 c) (isPeer_iff 1 c) (fun _ => sem_slice 0 rfl 1 rfl) (fun _ => sem_slice 2 rfl 1 rfl)) $$ R; iintro R
  iapply (wp_leftWait A K c 2 (by decide) (b := k0_cond131 c) (isPeer_iff 2 c) (fun _ => sem_slice 0 rfl 2 rfl) (fun _ => sem_slice 2 rfl 2 rfl)) $$ R; iintro R
  iapply (wp_leftWait A K c 3 (by decide) (b := k0_cond132 c) (isPeer_iff 3 c) (fun _ => sem_slice 0 rfl 3 rfl) (fun _ => sem_slice 2 rfl 3 rfl)) $$ R; iintro R
  iapply (wp_leftWait A K c 4 (by decide) (b := k0_cond133 c) (isPeer_iff 4 c) (fun _ => sem_slice 0 rfl 4 rfl) (fun _ => sem_slice 2 rfl 4 rfl)) $$ R; iintro R
  iapply (wp_leftWait A K c 5 (by decide) (b := k0_cond134 c) (isPeer_iff 5 c) (fun _ => sem_slice 0 rfl 5 rfl) (fun _ => sem_slice 2 rfl 5 rfl)) $$ R; iintro R
  iapply (wp_done c)
  iapply Hq
  isplitl [R]; · iexact R
  iexact G

set_option maxRecDepth 65536 in
/-- Part 46 of the body. -/
theorem part46 {Q : _ → sProp 𝕄} : Drain A K c 6 ⊢ iprop((Drain A K c 14 -∗ Q (Scalar.cmpi .ne (self c) 14#32))
    -∗ WP c (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 6#32)) (0#32)) Q) := by
  rw [k0_part46_eq_skeleton]; unfold k0_part46_skel; try extract_lets
  iintro R Hq
  iapply (wp_leftWait A K c 6 (by decide) (b := k0_cond135 c) (isPeer_iff 6 c) (fun _ => sem_slice 0 rfl 6 rfl) (fun _ => sem_slice 2 rfl 6 rfl)) $$ R; iintro R
  iapply (wp_leftWait A K c 7 (by decide) (b := k0_cond136 c) (isPeer_iff 7 c) (fun _ => sem_slice 0 rfl 7 rfl) (fun _ => sem_slice 2 rfl 7 rfl)) $$ R; iintro R
  iapply (wp_leftWait A K c 8 (by decide) (b := k0_cond137 c) (isPeer_iff 8 c) (fun _ => sem_slice 0 rfl 8 rfl) (fun _ => sem_slice 2 rfl 8 rfl)) $$ R; iintro R
  iapply (wp_leftWait A K c 9 (by decide) (b := k0_cond138 c) (isPeer_iff 9 c) (fun _ => sem_slice 0 rfl 9 rfl) (fun _ => sem_slice 2 rfl 9 rfl)) $$ R; iintro R
  iapply (wp_leftWait A K c 10 (by decide) (b := k0_cond139 c) (isPeer_iff 10 c) (fun _ => sem_slice 0 rfl 10 rfl) (fun _ => sem_slice 2 rfl 10 rfl)) $$ R; iintro R
  iapply (wp_leftWait A K c 11 (by decide) (b := k0_cond140 c) (isPeer_iff 11 c) (fun _ => sem_slice 0 rfl 11 rfl) (fun _ => sem_slice 2 rfl 11 rfl)) $$ R; iintro R
  iapply (wp_leftWait A K c 12 (by decide) (b := k0_cond141 c) (isPeer_iff 12 c) (fun _ => sem_slice 0 rfl 12 rfl) (fun _ => sem_slice 2 rfl 12 rfl)) $$ R; iintro R
  iapply (wp_leftWait A K c 13 (by decide) (b := k0_cond142 c) (isPeer_iff 13 c) (fun _ => sem_slice 0 rfl 13 rfl) (fun _ => sem_slice 2 rfl 13 rfl)) $$ R; iintro R
  iapply (wp_done c)
  iapply Hq
  iexact R

set_option maxRecDepth 65536 in
/-- Part 47 of the body. -/
theorem part47 {Q : _ → sProp 𝕄} : Drain A K c 14 ⊢ iprop((Drain A K c 21 -∗ Q ⟨(Scalar.extui (Scalar.cmpi .ne (self c) 21#32)), (0#32)⟩)
    -∗ WP c (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.cmpi .ne (self c) 14#32)) Q) := by
  rw [k0_part47_eq_skeleton]; unfold k0_part47_skel; try extract_lets
  iintro R Hq
  iapply (wp_leftWait A K c 14 (by decide) (b := k0_cond143 c) (isPeer_iff 14 c) (fun _ => sem_slice 0 rfl 14 rfl) (fun _ => sem_slice 2 rfl 14 rfl)) $$ R; iintro R
  iapply (wp_leftWait A K c 15 (by decide) (b := k0_cond144 c) (isPeer_iff 15 c) (fun _ => sem_slice 0 rfl 15 rfl) (fun _ => sem_slice 2 rfl 15 rfl)) $$ R; iintro R
  iapply (wp_leftWait A K c 16 (by decide) (b := k0_cond145 c) (isPeer_iff 16 c) (fun _ => sem_slice 0 rfl 16 rfl) (fun _ => sem_slice 2 rfl 16 rfl)) $$ R; iintro R
  iapply (wp_leftWait A K c 17 (by decide) (b := k0_cond146 c) (isPeer_iff 17 c) (fun _ => sem_slice 0 rfl 17 rfl) (fun _ => sem_slice 2 rfl 17 rfl)) $$ R; iintro R
  iapply (wp_leftWait A K c 18 (by decide) (b := k0_cond147 c) (isPeer_iff 18 c) (fun _ => sem_slice 0 rfl 18 rfl) (fun _ => sem_slice 2 rfl 18 rfl)) $$ R; iintro R
  iapply (wp_leftWait A K c 19 (by decide) (b := k0_cond148 c) (isPeer_iff 19 c) (fun _ => sem_slice 0 rfl 19 rfl) (fun _ => sem_slice 2 rfl 19 rfl)) $$ R; iintro R
  iapply (wp_leftWait A K c 20 (by decide) (b := k0_cond149 c) (isPeer_iff 20 c) (fun _ => sem_slice 0 rfl 20 rfl) (fun _ => sem_slice 2 rfl 20 rfl)) $$ R; iintro R
  iapply (wp_done c)
  iapply Hq
  iexact R

set_option maxRecDepth 65536 in
/-- Part 48 of the body. -/
theorem part48 {Q : _ → sProp 𝕄} : Drain A K c 21 ⊢ iprop((Drain A K c 29 -∗ Q (Scalar.cmpi .ne (self c) 29#32))
    -∗ WP c (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (self c) (Scalar.extui (Scalar.cmpi .ne (self c) 21#32)) (0#32)) Q) := by
  rw [k0_part48_eq_skeleton]; unfold k0_part48_skel; try extract_lets
  iintro R Hq
  iapply (wp_leftWait A K c 21 (by decide) (b := k0_cond150 c) (isPeer_iff 21 c) (fun _ => sem_slice 0 rfl 21 rfl) (fun _ => sem_slice 2 rfl 21 rfl)) $$ R; iintro R
  iapply (wp_leftWait A K c 22 (by decide) (b := k0_cond151 c) (isPeer_iff 22 c) (fun _ => sem_slice 0 rfl 22 rfl) (fun _ => sem_slice 2 rfl 22 rfl)) $$ R; iintro R
  iapply (wp_leftWait A K c 23 (by decide) (b := k0_cond152 c) (isPeer_iff 23 c) (fun _ => sem_slice 0 rfl 23 rfl) (fun _ => sem_slice 2 rfl 23 rfl)) $$ R; iintro R
  iapply (wp_leftWait A K c 24 (by decide) (b := k0_cond153 c) (isPeer_iff 24 c) (fun _ => sem_slice 0 rfl 24 rfl) (fun _ => sem_slice 2 rfl 24 rfl)) $$ R; iintro R
  iapply (wp_leftWait A K c 25 (by decide) (b := k0_cond154 c) (isPeer_iff 25 c) (fun _ => sem_slice 0 rfl 25 rfl) (fun _ => sem_slice 2 rfl 25 rfl)) $$ R; iintro R
  iapply (wp_leftWait A K c 26 (by decide) (b := k0_cond155 c) (isPeer_iff 26 c) (fun _ => sem_slice 0 rfl 26 rfl) (fun _ => sem_slice 2 rfl 26 rfl)) $$ R; iintro R
  iapply (wp_leftWait A K c 27 (by decide) (b := k0_cond156 c) (isPeer_iff 27 c) (fun _ => sem_slice 0 rfl 27 rfl) (fun _ => sem_slice 2 rfl 27 rfl)) $$ R; iintro R
  iapply (wp_leftWait A K c 28 (by decide) (b := k0_cond157 c) (isPeer_iff 28 c) (fun _ => sem_slice 0 rfl 28 rfl) (fun _ => sem_slice 2 rfl 28 rfl)) $$ R; iintro R
  iapply (wp_done c)
  iapply Hq
  iexact R

end Cert.KernelIdeal.Exchange

end
-- ==== Proof.KernelIdeal.Body.lean ====
/-
  The body, its parts in sequence.
-/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.KernelIdeal.Parts5

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (K : Dev nD × CellIx → ℕ) (c : Dev nD)

/-- What the device's thread holds at the body's start: its operands and buffers, its places in the protocol. -/
def Start : sProp 𝕄 :=
  iprop(Sig A K c 0 ∗ BarTok (F := F) c ∗ (toks (F := F) c 0 1 ∗ toks (F := F) c 2 3) ∗ RecvPend (F := F) c ∗ GatherPend (F := F) c
    ∗ (ats (F := F) c 0 ∗ ats (F := F) c 2) ∗ xPts A c ∗ wqPts A c ∗ Attn A c 0 0 0)

/-- What it holds besides the exchange's end. -/
def Rest : sProp 𝕄 := iprop(PeerRows A c ∗ Recv2 A c ∗ semVal (barCell c) 0 ∗ xPts A c ∗ wqPts A c ∗ Attn A c 4 3 0)

set_option maxHeartbeats 4000000 in
set_option maxRecDepth 65536 in
/-- The body up to the last two waits. -/
theorem part49 {Q : _ → sProp 𝕄} : Start A K c ⊢ iprop(((Drain A K c 30 ∗ Rest A c) -∗ Q ⟨c, self c, Scalar.extui (Scalar.cmpi .ne (self c) 30#32), 0#32⟩)
    -∗ WP c (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part49_eq_skeleton]; unfold k0_part49_skel Start
  iintro ⟨R, Gb, T, P1, P3, ⟨A0, A2⟩, X, Y, H⟩ Hq
  iapply (wp_part c fun Q => part1 A K c (Q := Q)) $$ [R]
  · iexact R
  iintro R
  iapply (wp_part c fun Q => part2 A K c (Q := Q)) $$ [R]
  · iexact R
  iintro R
  iapply (wp_part c fun Q => part3 A K c (Q := Q)) $$ [R]
  · iexact R
  iintro R
  iapply (wp_part c fun Q => part4 A K c (Q := Q)) $$ [X R Gb]
  · isplitl [X]; · iexact X
    isplitl [R]; · iexact R
    iexact Gb
  iintro ⟨X, R⟩
  ihave R := (bar_rs A K c) $$ [R T]
  · isplitl [R]; · iexact R
    iexact T
  icases R with ⟨R, Ga, Gv, Z⟩
  ihave Gv := (show give (F := F) c c ⊢ iprop(OwnSlot (F := F) c ∗ OwnRows (F := F) c) from Entails.refl _) $$ Gv
  icases Gv with ⟨Gs, Go⟩
  iapply (wp_part c fun Q => part5 A c (Q := Q)) $$ [Y H]
  · isplitl [Y]; · iexact Y
    iexact H
  iintro ⟨Y, H⟩
  iapply (wp_part c fun Q => part6 A c (Q := Q)) $$ [H]
  · iexact H
  iintro H
  iapply (wp_part c fun Q => part7 A c (Q := Q)) $$ [H]
  · iexact H
  iintro H
  iapply (wp_part c fun Q => part8 A c (Q := Q)) $$ [H]
  · iexact H
  iintro H
  iapply (wp_part c fun Q => part9 A c (Q := Q)) $$ [H]
  · iexact H
  iintro H
  iapply (wp_part c fun Q => part10 A K c (Q := Q)) $$ [H R]
  · isplitl [H]; · iexact H
    iexact R
  iintro ⟨H, R⟩
  iapply (wp_part c fun Q => part11 A K c (Q := Q)) $$ [R]
  · iexact R
  iintro R
  iapply (wp_part c fun Q => part12 A c (Q := Q)) $$ [H]
  · iexact H
  iintro H
  iapply (wp_part c fun Q => part13 A c (Q := Q)) $$ [H]
  · iexact H
  iintro H
  iapply (wp_part c fun Q => part14 A c (Q := Q)) $$ [H]
  · iexact H
  iintro H
  iapply (wp_part c fun Q => part15 A c (Q := Q)) $$ [H]
  · iexact H
  iintro H
  iapply (wp_part c fun Q => part16 A c (Q := Q)) $$ [H]
  · iexact H
  iintro H
  iapply (wp_part c fun Q => part17 A K c (Q := Q)) $$ [H R]
  · isplitl [H]; · iexact H
    iexact R
  iintro ⟨H, R⟩
  iapply (wp_part c fun Q => part18 A K c (Q := Q)) $$ [H R]
  · isplitl [H]; · iexact H
    iexact R
  iintro ⟨H, R⟩
  iapply (wp_part c fun Q => part19 A c (Q := Q)) $$ [H]
  · iexact H
  iintro H
  iapply (wp_part c fun Q => part20 A c (Q := Q)) $$ [H]
  · iexact H
  iintro H
  iapply (wp_part c fun Q => part21 A c (Q := Q)) $$ [H]
  · iexact H
  iintro H
  iapply (wp_part c fun Q => part22 A c (Q := Q)) $$ [H]
  · iexact H
  iintro H
  iapply (wp_part c fun Q => part23 A c (Q := Q)) $$ [H]
  · iexact H
  iintro H
  iapply (wp_part c fun Q => part24 A K c (Q := Q)) $$ [H R]
  · isplitl [H]; · iexact H
    iexact R
  iintro ⟨H, R⟩
  iapply (wp_part c fun Q => part25 A K c (Q := Q)) $$ [H R]
  · isplitl [H]; · iexact H
    iexact R
  iintro ⟨H, R⟩
  iapply (wp_part c fun Q => part26 A c (Q := Q)) $$ [H]
  · iexact H
  iintro H
  iapply (wp_part c fun Q => part27 A c (Q := Q)) $$ [H]
  · iexact H
  iintro H
  iapply (wp_part c fun Q => part28 A c (Q := Q)) $$ [H]
  · iexact H
  iintro H
  iapply (wp_part c fun Q => part29 A c (Q := Q)) $$ [H]
  · iexact H
  iintro H
  iapply (wp_part c fun Q => part30 A K c (Q := Q)) $$ [H R]
  · isplitl [H]; · iexact H
    iexact R
  iintro ⟨H, R⟩
  iapply (wp_part c fun Q => part31 A K c (Q := Q)) $$ [R]
  · iexact R
  iintro R
  iapply (wp_part c fun Q => part32 A K c (Q := Q)) $$ [R Gs P1]
  · isplitl [R]; · iexact R
    isplitl [Gs]; · iexact Gs
    iexact P1
  iintro ⟨R, Gr⟩
  iapply (wp_part c fun Q => part33 A K c (Q := Q)) $$ [R]
  · iexact R
  iintro R
  iapply (wp_part c fun Q => part34 A K c (Q := Q)) $$ [R]
  · iexact R
  iintro R
  iapply (wp_part c fun Q => part35 A K c (Q := Q)) $$ [R]
  · iexact R
  iintro R
  iapply (wp_part c fun Q => part36 A K c (Q := Q)) $$ [R]
  · iexact R
  iintro R
  iapply (wp_part c fun Q => part37 A K c (Q := Q)) $$ [R Go Ga]
  · isplitl [R]; · iexact R
    isplitl [Go]; · iexact Go
    iexact Ga
  iintro ⟨R, G2⟩
  iapply (wp_part c fun Q => part38 A K c (Q := Q)) $$ [R]
  · iexact R
  iintro R
  iapply (wp_part c fun Q => part39 A K c (Q := Q)) $$ [R]
  · iexact R
  iintro R
  iapply (wp_part c fun Q => part40 A K c (Q := Q)) $$ [R P3]
  · isplitl [R]; · iexact R
    iexact P3
  iintro ⟨R, Gg⟩
  iapply (wp_part c fun Q => part41 A K c (Q := Q)) $$ [R]
  · iexact R
  iintro R
  iapply (wp_part c fun Q => part42 A K c (Q := Q)) $$ [R]
  · iexact R
  iintro R
  iapply (wp_part c fun Q => part43 A K c (Q := Q)) $$ [R]
  · iexact R
  iintro R
  iapply (wp_part c fun Q => part44 A K c (Q := Q)) $$ [R]
  · iexact R
  iintro R
  ihave Gd := (show iprop(ats (F := F) c 0 ∗ ats (F := F) c 2 ∗ RsDone A c ∗ AgDone A c) ⊢ DrainPend A c from Entails.refl _) $$ [A0 A2 Gr Gg]
  · isplitl [A0]; · iexact A0
    isplitl [A2]; · iexact A2
    isplitl [Gr]; · iexact Gr
    iexact Gg
  iapply (wp_part c fun Q => part45 A K c (Q := Q)) $$ [R Gd]
  · isplitl [R]; · iexact R
    iexact Gd
  iintro ⟨R, Gp⟩
  iapply (wp_part c fun Q => part46 A K c (Q := Q)) $$ [R]
  · iexact R
  iintro R
  iapply (wp_part c fun Q => part47 A K c (Q := Q)) $$ [R]
  · iexact R
  iintro R
  iapply (wp_part c fun Q => part48 A K c (Q := Q)) $$ [R]
  · iexact R
  iintro R
  try extract_lets
  iapply (wp_leftWait A K c 29 (by decide) (b := k0_cond158 c) (isPeer_iff 29 c) (fun _ => sem_slice 0 rfl 29 rfl) (fun _ => sem_slice 2 rfl 29 rfl)) $$ R; iintro R
  iapply (wp_done c)
  iapply Hq
  isplitl [R]; · iexact R
  unfold Rest
  isplitl [Gp]; · iexact Gp
  isplitl [G2]; · iexact G2
  isplitl [Z]; · iexact Z
  isplitl [X]; · iexact X
  isplitl [Y]; · iexact Y
  iexact H

/-- What the device's thread holds at the body's end. -/
def Finish : sProp 𝕄 := iprop(Done A c ∗ Recv2 A c ∗ semVal (barCell c) 0 ∗ xPts A c ∗ wqPts A c ∗ Attn A c 4 3 0)

set_option maxHeartbeats 4000000 in
set_option maxRecDepth 65536 in
/-- The whole body. -/
theorem body_wp {Q : PUnit → sProp 𝕄} : Start A K c ⊢ iprop((Finish A c -∗ Q ⟨⟩) -∗ WP c (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0__body_eq_skeleton]; unfold cc0__body_skel
  iintro R Hq
  iapply (wp_part c fun Q => part49 A K c (Q := Q)) $$ R
  iintro ⟨R, G⟩
  dsimp -zeta -proj only; try extract_lets
  iapply (wp_leftWait A K c 30 (by decide) (b := k0_cond159 c) (isPeer_iff 30 c) (fun _ => sem_slice 0 rfl 30 rfl) (fun _ => sem_slice 2 rfl 30 rfl)) $$ R; iintro R
  iapply (wp_leftWait A K c 31 (by decide) (b := k0_cond160 c) (isPeer_iff 31 c) (fun _ => sem_slice 0 rfl 31 rfl) (fun _ => sem_slice 2 rfl 31 rfl)) $$ R; iintro R
  iapply (wp_done c)
  iapply Hq
  unfold Rest Finish
  icases G with ⟨Gp, G⟩
  isplitl [R Gp]
  · iapply (drain_done A K c)
    isplitl [R]; · iexact R
    iexact Gp
  iexact G

end Cert.KernelIdeal.Exchange

end
-- ==== Proof.KernelIdeal.Deal.lean ====
/-
  The start of the exchange: every device's cells begin their protocol, the duties go to the devices that pay them, and
  each device gets the credits for what the others owe it.
-/
module

public import proofs.«01_k».proof.Proof.KernelIdeal.Own
public import Idealize.ShloMosaic.Lib.Pipeline.Kit

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Ins F) (c : Dev nD)

/-! ## Families over a device's cells -/

omit [FloatOps F] [Named F] in
theorem drop_all (P : sProp 𝕄) : P ⊢ iprop(emp) := by
  iintro -; iempintro

omit [FloatOps F] [Named F] in
theorem sep_opt (Φ : CellIx → sProp 𝕄) : bigSep Finset.univ Φ = iprop(Φ none ∗ bigSep Finset.univ fun p : Fin 4 × Dev nD => Φ (some p)) := by
  rw [BI.bigSep_univ_at Φ none, show (Finset.univ.erase none : Finset CellIx) = Finset.univ.map Function.Embedding.some from ?_, bigSep_map]
  · rfl
  · ext k; cases k <;> simp

omit [FloatOps F] [Named F] in
theorem sep_cells (Φ Ψ : CellIx → sProp 𝕄) : iprop(bigSep Finset.univ Φ ∗ bigSep Finset.univ Ψ) ⊢ bigSep Finset.univ (fun i => iprop(Φ i ∗ Ψ i)) :=
  Entails.of_eq (BI.bigSep_sep _ Φ Ψ).symm

omit [FloatOps F] [Named F] in
theorem sep_four (Φ : Fin 4 × Dev nD → sProp 𝕄) : bigSep Finset.univ Φ
    = iprop((bigSep Finset.univ fun i => Φ (0, i)) ∗ (bigSep Finset.univ fun i => Φ (1, i)) ∗ (bigSep Finset.univ fun i => Φ (2, i)) ∗ bigSep Finset.univ fun i => Φ (3, i)) := by
  rw [bigSep_univ_prod]
  exact bigSep_univ_eq_bigSepL [0, 1, 2, 3] (by decide) (by decide) _

theorem dsem_inj {a b : Fin 4} {i j : Dev nD} (h : dsem a i = dsem b j) : a = b ∧ i = j := by
  have := congrArg role h
  rw [role_dsem, role_dsem] at this
  exact ⟨congrArg Prod.fst (Option.some.inj this), congrArg Prod.snd (Option.some.inj this)⟩

theorem csem_injective : Function.Injective csem := by
  intro k k' h
  match k, k' with
  | none, none => rfl
  | none, some _ => cases h
  | some _, none => cases h
  | some (a, i), some (b, j) =>
    obtain ⟨rfl, rfl⟩ := dsem_inj (SemLoc.dma.inj h)
    rfl

theorem kcell_injective : Function.Injective kcell := by
  rintro ⟨c, k⟩ ⟨c', k'⟩ h
  have h1 : c = c' := congrArg (fun g : GSem nD τ sig => g.1.1) h
  subst h1
  exact congrArg (Prod.mk c) (csem_injective (congrArg Prod.snd h))

/-- The kernel's own semaphores: the four arrays. -/
abbrev osem : Fin 4 × Dev nD → SemLoc sig := fun p => .dma (dsem p.1 p.2)

theorem ownSemFacts : Pipeline.OwnSemFacts cfg0.spec osem where
  isScoped := by decide
  inj := fun p q h => by
    obtain ⟨h1, h2⟩ := dsem_inj (SemLoc.dma.inj h)
    exact Prod.ext h1 h2
  disj := fun p w s h => by
    have hv := congrArg Fin.val (SemLoc.dma.inj h)
    have hs : ((cfg0.spec w).sem s).val < 6 := (by decide : ∀ (w : Fin cfg0.W) (s : Fin (cfg0.spec w).nbuf), ((cfg0.spec w).sem s).val < 6) w s
    have : (dsem p.1 p.2).val = 6 + 32 * p.1.val + p.2.val := rfl
    omega

/-! ## What the launch hands out -/

/-- The cells of all devices. -/
def allCells : Finset (GSem nD τ sig) := Finset.univ.map ⟨kcell, kcell_injective⟩

/-- The duties of a device's own cells: its barrier's, one for each device, and one for each transfer semaphore. -/
abbrev tokOf (cj : Dev nD × (Dev nD ⊕ (Fin 4 × Dev nD))) : GSem nD τ sig × ℕ × Dev nD := match cj.2 with
  | .inl d => (barCell cj.1, 0, d)
  | .inr p => (xfer cj.1 p.1 p.2, 0, 0)

theorem tokOf_injective : Function.Injective tokOf := by
  rintro ⟨c, j⟩ ⟨c', j'⟩ h
  match j, j' with
  | .inl d, .inl d' =>
    obtain rfl : c = c' := congrArg (fun x : GSem nD τ sig × ℕ × Dev nD => x.1.1.1) h
    obtain rfl : d = d' := congrArg (fun x : GSem nD τ sig × ℕ × Dev nD => x.2.2) h
    rfl
  | .inl _, .inr _ => cases congrArg (fun x : GSem nD τ sig × ℕ × Dev nD => x.1.2) h
  | .inr _, .inl _ => cases congrArg (fun x : GSem nD τ sig × ℕ × Dev nD => x.1.2) h
  | .inr (a, i), .inr (b, k) =>
    obtain rfl : c = c' := congrArg (fun x : GSem nD τ sig × ℕ × Dev nD => x.1.1.1) h
    obtain ⟨h1, h2⟩ := dsem_inj (SemLoc.dma.inj (congrArg (fun x : GSem nD τ sig × ℕ × Dev nD => x.1.2) h))
    obtain rfl : a = b := h1
    obtain rfl : i = k := h2
    rfl

/-- The duties of all devices' cells. -/
def allToks : Finset (GSem nD τ sig × ℕ × Dev nD) := Finset.univ.map ⟨tokOf, tokOf_injective⟩

/-- The protocols' first state: the staging copies' and the exchange's. -/
def u₀ : UU := (initOf (Pipeline.cells cfgs cellOf_inj) (Pipeline.launchToks cfgs cellOf_inj), initOf allCells allToks)

/-- The duties of the device's own barrier. -/
def barMint : sProp 𝕄 := bigSep Finset.univ fun d : Dev nD => dutyTok ER (barCell c) 0 d
/-- The duties of the device's own array `a`. -/
def xferMint (a : Fin 4) : sProp 𝕄 := bigSep Finset.univ fun i : Dev nD => dutyTok ER (xfer c a i) 0 0

/-- The duties of a device's own cells. -/
def mint : sProp 𝕄 :=
  iprop(barMint (F := F) c ∗ xferMint (F := F) c 0 ∗ xferMint (F := F) c 1 ∗ xferMint (F := F) c 2 ∗ xferMint (F := F) c 3)

/-- The protocol states of a device's own cells. -/
def states : sProp 𝕄 := bigSep Finset.univ fun k : CellIx => roundState ER (sched A) (kcell (c, k)) 0
/-- A device's place in each of its own cells. -/
def places : sProp 𝕄 := bigSep Finset.univ fun k : CellIx => atPos ER (kcell (c, k)) 0 ∅ 0
/-- Every own cell is at its one round. -/
def news : sProp 𝕄 := bigSep Finset.univ fun k : CellIx => reached ER (kcell (c, k)) 0

/-- What the launch deals a device. -/
def G : sProp 𝕄 := iprop(states A c ∗ places (F := F) c ∗ news (F := F) c ∗ mint (F := F) c)

theorem fund_all : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint (F := F) c := by
    unfold allToks; rw [bigSep_map, bigSep_univ_prod]
    refine bigSep_congr fun c _ => ?_
    rw [bigSep_univ_sum]
    unfold mint barMint xferMint
    refine congrArg (fun X => iprop(_ ∗ X)) ?_
    exact sep_four (F := F) (fun p => dutyTok ER (xfer c p.1 p.2) 0 0)
  iintro HX
  imod (Rounds.fund ER (sched A) allCells allToks) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states places news
  iapply (sep_in (F := F)); isplitl [Hst']; · iexact Hst'
  iapply (sep_in (F := F)); isplitl [Hat']; · iexact Hat'
  iapply (sep_in (F := F)); isplitl [Hr']; · iexact Hr'
  iexact Htok'

/-! ## The semaphores, all at zero -/

omit [FloatOps F] [Named F] in
theorem ownSems0_eq : (Pipeline.ownSems0 (Ix := Unit) (Name := ℕ) (U := UU) (Lvl := ℕ) (Val := Elt F) (τ := τ) osem c : sProp 𝕄)
    = iprop(zeros (F := F) c 0 ∗ zeros (F := F) c 1 ∗ zeros (F := F) c 2 ∗ zeros (F := F) c 3) := by
  unfold Pipeline.ownSems0 zeros
  exact sep_four (F := F) (fun p => semVal (xfer c p.1 p.2) 0)

omit [FloatOps F] [Named F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] [Named F] in
theorem sems0 :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, sep_opt]
  unfold Pipeline.ownSems0
  iintro ⟨H, Hb⟩
  isplitl [Hb]; · iexact Hb
  iexact H

/-- Every own cell's protocol, in force under some name. -/
def named : sProp 𝕄 := bigSep Finset.univ fun k : CellIx => iprop(∃ κ : ℕ, cellInv ER (sched A) κ (kcell (c, k)))

theorem enforce :
    iprop((bigSep Finset.univ fun k : CellIx => semVal (kcell (c, k)) 0) ∗ states A c) ⊢ (|={Set.univ}=> named A c : sProp 𝕄) := by
  unfold states named
  refine (sep_cells (F := F) (fun k : CellIx => semVal (kcell (c, k)) 0) (fun k : CellIx => roundState ER (sched A) (kcell (c, k)) 0)).trans ?_
  exact ((bigSep_mono fun k _ => (Rounds.body_intro ER (sched A) (kcell (c, k))).trans inv_alloc).trans (bigSep_fupd _ _))

theorem core_alloc :
    iprop(Pipeline.ownSems0 (Ix := Unit) (Name := ℕ) (U := UU) (Lvl := ℕ) (Val := Elt F) (τ := τ) osem c ∗ unscopedSems0 c ∗ G A c)
      ⊢ |={Set.univ}=> iprop(named A c ∗ places (F := F) c ∗ news (F := F) c ∗ mint (F := F) c) := by
  unfold G
  iintro ⟨Hos, Hus, Hst, H⟩
  ihave Hv := (sems0 (F := F) c) $$ [Hos Hus]
  · isplitl [Hos] <;> iassumption
  imod (enforce A c) $$ [Hv Hst] with Hinv
  · isplitl [Hv] <;> iassumption
  imodintro
  isplitl [Hinv]; · iexact Hinv
  iexact H

/-! ## The duties dealt to the devices that pay them -/

/-- The signals device `c` pays. -/
def barDealt : sProp 𝕄 := bigSep Finset.univ fun p : Dev nD => dutyTok ER (barCell p) 0 c
/-- The duties of position `c` of array `a` on every device. -/
def xferDealt (a : Fin 4) : sProp 𝕄 := bigSep Finset.univ fun p : Dev nD => dutyTok ER (xfer p a c) 0 0

/-- The duties a device pays. -/
def dealt : sProp 𝕄 := iprop(barDealt (F := F) c ∗ toks (F := F) c 0 1 ∗ toks (F := F) c 2 3)

omit [FloatOps F] [Named F] in
theorem toks_pair (a b : Fin 4) : iprop(xferMint (F := F) c a ∗ xferDealt (F := F) c b) ⊢ toks (F := F) c a b := by
  unfold xferMint xferDealt toks
  refine (sep_in (F := F) _ _).trans (bigSep_mono fun p _ => ?_)
  by_cases h : p = c
  · rw [if_pos h]; exact drop_all _
  · rw [if_neg h]; exact Entails.refl _

omit [FloatOps F] [Named F] in
theorem deal_one : iprop(barDealt (F := F) c ∗ xferMint (F := F) c 0 ∗ xferDealt (F := F) c 1 ∗ xferMint (F := F) c 2 ∗ xferDealt (F := F) c 3) ⊢ dealt (F := F) c := by
  unfold dealt
  iintro ⟨H, H0, H1, H2, H3⟩
  isplitl [H]; · iexact H
  isplitl [H0 H1]
  · iapply (toks_pair (F := F) c 0 1); isplitl [H0] <;> iassumption
  · iapply (toks_pair (F := F) c 2 3); isplitl [H2] <;> iassumption

omit [FloatOps F] [Named F] in
theorem deal_all : (bigSep Finset.univ fun c : Dev nD => mint (F := F) c) ⊢ bigSep Finset.univ fun c : Dev nD => dealt (F := F) c := by
  refine BIBase.Entails.trans ?_ (bigSep_mono fun c _ => deal_one (F := F) c)
  unfold mint
  iintro H
  ihave H := (sep_out (F := F) _ _) $$ H; icases H with ⟨Hb, H⟩
  ihave H := (sep_out (F := F) _ _) $$ H; icases H with ⟨H0, H⟩
  ihave H := (sep_out (F := F) _ _) $$ H; icases H with ⟨H1, H⟩
  ihave H := (sep_out (F := F) _ _) $$ H; icases H with ⟨H2, H3⟩
  iapply (sep_in (F := F)); isplitl [Hb]
  · iapply (show (bigSep Finset.univ fun c : Dev nD => barMint (F := F) c) ⊢ bigSep Finset.univ fun c : Dev nD => barDealt (F := F) c from
      Entails.of_eq (BI.bigSep_univ_comm fun c d : Dev nD => (dutyTok ER (barCell c) 0 d : sProp 𝕄))); iexact Hb
  iapply (sep_in (F := F)); isplitl [H0]; · iexact H0
  iapply (sep_in (F := F)); isplitl [H1]
  · iapply (show (bigSep Finset.univ fun c : Dev nD => xferMint (F := F) c 1) ⊢ bigSep Finset.univ fun c : Dev nD => xferDealt (F := F) c 1 from
      Entails.of_eq (BI.bigSep_univ_comm fun c d : Dev nD => (dutyTok ER (xfer c 1 d) 0 0 : sProp 𝕄))); iexact H1
  iapply (sep_in (F := F)); isplitl [H2]; · iexact H2
  iapply (show (bigSep Finset.univ fun c : Dev nD => xferMint (F := F) c 3) ⊢ bigSep Finset.univ fun c : Dev nD => xferDealt (F := F) c 3 from
    Entails.of_eq (BI.bigSep_univ_comm fun c d : Dev nD => (dutyTok ER (xfer c 3 d) 0 0 : sProp 𝕄))); iexact H3

/-! ## The global step -/

/-- What the global step makes of the deal. -/
def G' : sProp 𝕄 := iprop(∃ K, records A K ∗ places (F := F) c ∗ dealt (F := F) c)

theorem own_intro (K : Dev nD × CellIx → ℕ) : iprop(records A K ∗ places (F := F) c ∗ dealt (F := F) c) ⊢ G' A c := by
  unfold G'
  iintro H
  iexists K
  iexact H

omit [FloatOps F] [Named F] in
theorem sep_know {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (BI.bigSep_sep S (fun _ => R) Φ).symm).trans (bigSep_mono h))

theorem named_all : (bigSep Finset.univ fun c : Dev nD => named A c)
    ⊢ (iprop(∃ K : Dev nD × CellIx → ℕ, bigSep Finset.univ fun ck => cellInv ER (sched A) (K ck) (kcell ck)) : sProp 𝕄) := by
  unfold named
  rw [← bigSep_univ_prod (fun ck : Dev nD × CellIx => iprop(∃ κ : ℕ, cellInv ER (sched A) κ (kcell ck)))]
  exact BI.bigSep_exists_pi Finset.univ (fun (ck : Dev nD × CellIx) (κ : ℕ) => (cellInv ER (sched A) κ (kcell ck) : sProp 𝕄))

omit [FloatOps F] [Named F] in
theorem news_all : (bigSep Finset.univ fun c : Dev nD => news (F := F) c)
    ⊢ (bigSep Finset.univ fun ck : Dev nD × CellIx => reached ER (kcell ck) 0 : sProp 𝕄) := by
  unfold news
  rw [← bigSep_univ_prod (fun ck : Dev nD × CellIx => (reached ER (kcell ck) 0 : sProp 𝕄))]

theorem regroup :
    (bigSep Finset.univ fun c : Dev nD => iprop(named A c ∗ places (F := F) c ∗ news (F := F) c ∗ mint (F := F) c))
      ⊢ bigSep Finset.univ (G' A) := by
  iintro H
  ihave H := (sep_out (F := F) _ _) $$ H; icases H with ⟨HI, H⟩
  ihave H := (sep_out (F := F) _ _) $$ H; icases H with ⟨Hat, H⟩
  ihave H := (sep_out (F := F) _ _) $$ H; icases H with ⟨Hn, Hm⟩
  ihave HK := (named_all A) $$ HI
  icases HK with ⟨%K, HI⟩
  ihave HR := (news_all (F := F)) $$ Hn
  ihave Ht := (deal_all (F := F)) $$ Hm
  iapply (sep_know (R := records A K) fun c _ => own_intro A c K)
  isplitl [HI HR]
  · unfold records; isplitl [HI]; · iexact HI
    iexact HR
  iapply (sep_in (F := F)); isplitl [Hat] <;> iassumption

/-- Every device's semaphores at once: the cells' protocols begin and the duties go where they are paid. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credits for what the other devices owe -/

/-- What every device owes at the start. -/
abbrev O₀ (c : Dev nD) : CellTallies nD τ sig Unit := owesBar c 0

theorem sum_at (f : Dev nD → CellTallies nD τ sig Unit) (g : GSem nD τ sig) : (∑ p, f p) g () = ∑ p, f p g () := by
  rw [Finset.sum_apply, Finsupp.finset_sum_apply]

theorem tally_ne {g g' : GSem nD τ sig} (k : ℕ) (h : g ≠ g') : (tallyAt g () k : CellTallies nD τ sig Unit) g' () = 0 := by
  rw [tallyAt_apply, if_neg fun hh => h hh.1.symm]

theorem tally_same (g : GSem nD τ sig) (k : ℕ) : (tallyAt g () k : CellTallies nD τ sig Unit) g () = k := by
  rw [tallyAt_apply, if_pos ⟨rfl, rfl⟩]

theorem xfer_ne {c p : Dev nD} {a b : Fin 4} {i j : Dev nD} (h : p ≠ c ∨ a ≠ b ∨ i ≠ j) : xfer p a i ≠ xfer c b j := fun e => by
  obtain rfl : p = c := congrArg (fun g : GSem nD τ sig => g.1.1) e
  obtain ⟨h1, h2⟩ := dsem_inj (SemLoc.dma.inj (congrArg Prod.snd e))
  rcases h with h | h | h
  · exact h rfl
  · exact h h1
  · exact h h2

/-- The arrivals of array `a` that device `d` owes, at one cell. -/
theorem arrivals_at (d c : Dev nD) (a b : Fin 4) (i : Dev nD) :
    (∑ p : Dev nD, if p = d then (0 : CellTallies nD τ sig Unit) else tallyAt (xfer p a d) () N) (xfer c b i) ()
      = if d = i then (if a = b ∧ c ≠ d then N else 0) else 0 := by
  rw [sum_at, Finset.sum_eq_single c]
  · by_cases hc : c = d
    · rw [if_pos hc]
      subst hc
      split
      · rw [if_neg fun h => h.2 rfl]; rfl
      · rfl
    · rw [if_neg hc]
      by_cases hi : d = i
      · rw [if_pos hi]
        by_cases hab : a = b
        · rw [if_pos ⟨hab, hc⟩, hab, hi, tally_same]
        · rw [if_neg fun h => hab h.1, tally_ne _ (xfer_ne (Or.inr (Or.inl hab)))]
      · rw [if_neg hi, tally_ne _ (xfer_ne (Or.inr (Or.inr hi)))]
  · intro p _ hp
    by_cases hd : p = d
    · rw [if_pos hd]; rfl
    · rw [if_neg hd, tally_ne _ (xfer_ne (Or.inl hp))]
  · intro h; exact absurd (Finset.mem_univ c) h

theorem arrivals_bar (d c : Dev nD) (a : Fin 4) :
    (∑ p : Dev nD, if p = d then (0 : CellTallies nD τ sig Unit) else tallyAt (xfer p a d) () N) (barCell c) () = 0 := by
  rw [sum_at]
  refine Finset.sum_eq_zero fun p _ => ?_
  split
  · rfl
  · exact tally_ne _ fun h => by cases congrArg Prod.snd h

theorem signals_xfer (c : Dev nD) (a : Fin 4) (i : Dev nD) :
    (∑ p : Dev nD, (tallyAt (barCell p) () 1 : CellTallies nD τ sig Unit)) (xfer c a i) () = 0 := by
  rw [sum_at]
  exact Finset.sum_eq_zero fun p _ => tally_ne _ fun h => by cases congrArg Prod.snd h

theorem signals_bar (c : Dev nD) : (∑ p : Dev nD, (tallyAt (barCell p) () 1 : CellTallies nD τ sig Unit)) (barCell c) () = 1 := by
  rw [sum_at, Finset.sum_eq_single c]
  · exact tally_same _ _
  · intro p _ hp
    exact tally_ne _ fun h => hp (congrArg (fun g : GSem nD τ sig => g.1.1) h)
  · intro h; exact absurd (Finset.mem_univ c) h

theorem owed_at (d : Dev nD) (g : GSem nD τ sig) : O₀ d g ()
    = ((∑ p : Dev nD, if p = d then (0 : CellTallies nD τ sig Unit) else tallyAt (xfer p 3 d) () N) g ()
        + (∑ p : Dev nD, if p = d then (0 : CellTallies nD τ sig Unit) else tallyAt (xfer p 1 d) () N) g ())
      + (∑ p : Dev nD, (tallyAt (barCell p) () 1 : CellTallies nD τ sig Unit)) g () := by
  unfold O₀ owesBar owesRs owesAg
  rw [ge_zero, Pi.add_apply, Finsupp.add_apply, Pi.add_apply, Finsupp.add_apply]

theorem owed_bar (d c : Dev nD) : O₀ d (barCell c) () = 1 := by
  rw [owed_at, arrivals_bar, arrivals_bar, signals_bar]

theorem owed_xfer (d c : Dev nD) (a : Fin 4) (ha : a = 1 ∨ a = 3) (i : Dev nD) :
    O₀ d (xfer c a i) () = if d = i then (if c ≠ d then N else 0) else 0 := by
  rw [owed_at, arrivals_at, arrivals_at, signals_xfer]
  rcases ha with rfl | rfl
  · by_cases hd : d = i <;> by_cases hc : c ≠ d <;> simp [hd, hc]
  · by_cases hd : d = i <;> by_cases hc : c ≠ d <;> simp [hd, hc]

theorem launch_bar : tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ]
  rfl

theorem launch_xfer (a : Fin 4) (ha : a = 1 ∨ a = 3) (i : Dev nD) (hi : i ≠ c) :
    tallyOn (xfer c a i) (launchCredit (Pipeline.owing O₀) 0 (xfer c a i)) = (tallyAt (xfer c a i) () N : CellTallies nD τ sig Unit) := by
  unfold tallyAt; refine congrArg _ (Finsupp.ext fun u => ?_); cases u
  rw [Pipeline.launchCredit_owing, Finsupp.single_eq_same, Finset.sum_congr rfl fun d _ => owed_xfer d c a ha i, Finset.sum_ite_eq' Finset.univ i,
    if_pos (Finset.mem_univ _), if_pos hi.symm]

/-- The launch's credit at one of the device's cells. -/
abbrev credAt (sm : SemLoc sig) : sProp 𝕄 := cred (tallyOn ((c : Thread nD τ), sm) (launchCredit (Pipeline.owing O₀) 0 ((c : Thread nD τ), sm)))

omit [FloatOps F] [Named F] in
theorem creds_of (a : Fin 4) (ha : a = 1 ∨ a = 3) : (bigSep Finset.univ fun i : Dev nD => credAt (F := F) c (.dma (dsem a i))) ⊢ creds (F := F) c a := by
  unfold creds
  refine bigSep_mono fun i _ => ?_
  by_cases h : i = c
  · rw [if_pos h]; exact drop_all _
  · rw [if_neg h, ← launch_xfer c a ha i h]; exact Entails.refl _

omit [FloatOps F] [Named F] in
/-- The launch's credit, at the cells that use it. -/
theorem creds_all : (Pipeline.launchCred O₀ c : sProp 𝕄)
    ⊢ iprop(cred (tallyAt (barCell c) () 32) ∗ creds (F := F) c 1 ∗ creds (F := F) c 3) := by
  unfold Pipeline.launchCred
  refine (show _ ⊢ bigSep (Finset.univ.map ⟨csem, csem_injective⟩) (fun sm => credAt (F := F) c sm) from bigSep_subset (Finset.subset_univ _)).trans ?_
  rw [bigSep_map, sep_opt, sep_four]
  iintro ⟨Hb, -, H1, -, H3⟩
  isplitl [Hb]
  · rw [← launch_bar]; iexact Hb
  isplitl [H1]
  · iapply (creds_of (F := F) c 1 (Or.inl rfl)); iexact H1
  · iapply (creds_of (F := F) c 3 (Or.inr rfl)); iexact H3

end Cert.KernelIdeal.Exchange

end
-- ==== Proof.KernelIdeal.Launch.lean ====
/-
  The launch on 32 devices: the body's obligation met from what the launch hands each device, and the run of the whole
  program — every execution ends, every semaphore at zero, the arguments unchanged, each result the gathered array.
-/
module

public import proofs.«01_k».proof.Proof.KernelIdeal.Body
public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

/-- The memory at launch. -/
def s₀ : MemSt nD τ sig (Elt F) := ⟨m, fun _ => 0, ρ⟩

/-- The arrays the devices start from. -/
def insOf : Ins F where
  x := fun c => m ((c : Thread nD τ).loc main_arg0)
  wq := fun c => m ((c : Thread nD τ).loc main_arg1)
  k := fun c => m ((c : Thread nD τ).loc main_arg2)
  v := fun c => m ((c : Thread nD τ).loc main_arg3)
  wo := fun c => m ((c : Thread nD τ).loc main_arg4)

/-! ## The staged blocks are the whole arrays -/

omit [FloatOps F] [Named F] in
theorem blk_x (t : Fin cfg0.N) (f : Buf (Elt F) ((c : Thread nD τ).loc main_arg0)) : ((cfg0.win 0).blk t).view.read (Elt F) f = f :=
  funext fun i => congrArg f (funext fun a => Fin.ext (by show 0 * _ + 1 * (i a).val = (i a).val; omega))
omit [FloatOps F] [Named F] in
theorem blk_wq (t : Fin cfg0.N) (f : Buf (Elt F) ((c : Thread nD τ).loc main_arg1)) : ((cfg0.win 1).blk t).view.read (Elt F) f = f :=
  funext fun i => congrArg f (funext fun a => Fin.ext (by show 0 * _ + 1 * (i a).val = (i a).val; omega))
omit [FloatOps F] [Named F] in
theorem blk_k (t : Fin cfg0.N) (f : Buf (Elt F) ((c : Thread nD τ).loc main_arg2)) : ((cfg0.win 2).blk t).view.read (Elt F) f = f :=
  funext fun i => congrArg f (funext fun a => Fin.ext (by show 0 * _ + 1 * (i a).val = (i a).val; omega))
omit [FloatOps F] [Named F] in
theorem blk_v (t : Fin cfg0.N) (f : Buf (Elt F) ((c : Thread nD τ).loc main_arg3)) : ((cfg0.win 3).blk t).view.read (Elt F) f = f :=
  funext fun i => congrArg f (funext fun a => Fin.ext (by show 0 * _ + 1 * (i a).val = (i a).val; omega))
omit [FloatOps F] [Named F] in
theorem blk_wo (t : Fin cfg0.N) (f : Buf (Elt F) ((c : Thread nD τ).loc main_arg4)) : ((cfg0.win 4).blk t).view.read (Elt F) f = f :=
  funext fun i => congrArg f (funext fun a => Fin.ext (by show 0 * _ + 1 * (i a).val = (i a).val; omega))

omit [FloatOps F] [Named F] in
theorem emb_out (t : Fin cfg0.N) (i : S1024x1024.Idx) : ((cfg0.win 5).blk t).view.emb i = i :=
  funext fun a => Fin.ext (by show 0 * _ + 1 * (i a).val = (i a).val; omega)

/-! ## What each device holds around the body -/

/-- Before the body: the protocol's part, the credits and the order of the cells. -/
def start : sProp 𝕄 :=
  iprop(G' (insOf m) c ∗ (cred (tallyAt (barCell c) () 32) ∗ creds (F := F) c 1 ∗ creds (F := F) c 3) ∗ levAts L lv)

/-- The three scratch buffers, whatever they hold. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ : sProp 𝕄 := iprop(start m c ∗ scratch (F := F) c)

/-- After the body: the scratch buffers again, and every semaphore closed at zero. -/
def Φ₁ : sProp 𝕄 :=
  iprop(semVal (barCell c) 0 ∗ (zeros (F := F) c 0 ∗ zeros (F := F) c 1 ∗ zeros (F := F) c 2 ∗ zeros (F := F) c 3) ∗ scratch (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => outC (insOf m)
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem before_x (d) : (dats m ρ 0 c).before 0 t0_0 d = (insOf m).x c := by
  unfold Pipeline.Dat.before; rw [if_pos (fetch0_0 t0_0)]; exact Eq.trans (b := ((cfg0.win 0).blk t0_0).view.read (Elt F) (m ((c : Thread nD τ).loc main_arg0))) rfl (blk_x c t0_0 _)
theorem before_wq (d) : (dats m ρ 0 c).before 1 t0_0 d = (insOf m).wq c := by
  unfold Pipeline.Dat.before; rw [if_pos (fetch0_1 t0_0)]; exact Eq.trans (b := ((cfg0.win 1).blk t0_0).view.read (Elt F) (m ((c : Thread nD τ).loc main_arg1))) rfl (blk_wq c t0_0 _)
theorem before_k (d) : (dats m ρ 0 c).before 2 t0_0 d = (insOf m).k c := by
  unfold Pipeline.Dat.before; rw [if_pos (fetch0_2 t0_0)]; exact Eq.trans (b := ((cfg0.win 2).blk t0_0).view.read (Elt F) (m ((c : Thread nD τ).loc main_arg2))) rfl (blk_k c t0_0 _)
theorem before_v (d) : (dats m ρ 0 c).before 3 t0_0 d = (insOf m).v c := by
  unfold Pipeline.Dat.before; rw [if_pos (fetch0_3 t0_0)]; exact Eq.trans (b := ((cfg0.win 3).blk t0_0).view.read (Elt F) (m ((c : Thread nD τ).loc main_arg3))) rfl (blk_v c t0_0 _)
theorem before_wo (d) : (dats m ρ 0 c).before 4 t0_0 d = (insOf m).wo c := by
  unfold Pipeline.Dat.before; rw [if_pos (fetch0_4 t0_0)]; exact Eq.trans (b := ((cfg0.win 4).blk t0_0).view.read (Elt F) (m ((c : Thread nD τ).loc main_arg4))) rfl (blk_wo c t0_0 _)

omit [FloatOps F] [Named F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer held whole. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staging buffer at its contents, as the launch takes it back. -/
theorem stg_of (b : Ref sig .tc) (X : b.ty.Contents (Elt F)) : (((c : Thread nD τ).loc b) ↦{fullShare} X : sProp 𝕄) ⊢ stg (F := F) c b X := by
  iintro H; iexists X; isplitr; · ipureintro; rfl
  iexact H

/-! ## The places a device gives its peers -/

/-- The receive buffer and the staged result, cut into the places of the devices. -/
theorem cut_slots (f : Buf (Elt F) ((c : Thread nD τ).loc cc0_scratch2)) :
    (((c : Thread nD τ).loc cc0_scratch2) ↦{fullShare} f : sProp 𝕄) ⊢ bigSep Finset.univ fun p : Dev nD => iprop(∃ f, slotPts (F := F) c p f) := by
  rw [← biUnion_slot, pointsTo_biUnion _ _ fun a _ b _ hab => slot_disjoint hab]
  refine bigSep_mono fun p _ => ?_
  exact show slotPts c p f ⊢ iprop(∃ f, slotPts (F := F) c p f) from by iintro H; iexists f; iexact H

theorem cut_rows (f : Buf (Elt F) ((c : Thread nD τ).loc cc0_stg5_0)) :
    (((c : Thread nD τ).loc cc0_stg5_0) ↦{fullShare} f : sProp 𝕄) ⊢ bigSep Finset.univ fun p : Dev nD => iprop(∃ f, outPts (F := F) c p fullShare f) := by
  rw [← biUnion_rows, pointsTo_biUnion _ _ fun a _ b _ hab => rows_disjoint hab]
  refine bigSep_mono fun p _ => ?_
  exact show outPts c p fullShare f ⊢ iprop(∃ f, outPts (F := F) c p fullShare f) from by iintro H; iexists f; iexact H

/-- With the duties of the handshake they make what the signals need. -/
theorem sig_begin (A : Ins F) (K : Dev nD × CellIx → ℕ) (f : Buf (Elt F) ((c : Thread nD τ).loc cc0_scratch2)) (g : Buf (Elt F) ((c : Thread nD τ).loc cc0_stg5_0)) :
    iprop(Env A K ∗ owesE c (O₀ c) ∗ barDealt (F := F) c ∗ (((c : Thread nD τ).loc cc0_scratch2) ↦{fullShare} f) ∗ (((c : Thread nD τ).loc cc0_stg5_0) ↦{fullShare} g))
      ⊢ Sig A K c 0 := by
  unfold Sig barDealt sigNeed give
  rw [ge_zero, lt_zero, bigSep_empty]
  iintro ⟨HE, Ho, Hb, H2, H5⟩
  isplitl [HE]; · iexact HE
  isplitl [Ho]; · iexact Ho
  isplitl
  · iapply (sep_in (F := F)); isplitl [Hb]; · iexact Hb
    iapply (sep_in (F := F))
    isplitl [H2]
    · iapply (cut_slots (F := F) c f); iexact H2
    · iapply (cut_rows (F := F) c g); iexact H5
  iempintro

/-- The places of a device, taken apart. -/
theorem places_split : places (F := F) c ⊢ iprop(atPos ER (barCell c) 0 ∅ 0 ∗ ats (F := F) c 0 ∗ ats (F := F) c 1 ∗ ats (F := F) c 2 ∗ ats (F := F) c 3) := by
  unfold places
  rw [sep_opt, sep_four]
  exact Entails.refl _

/-! ## The body, from the launch's holdings to what the launch takes back -/

def bodyPre : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost : sProp 𝕄 :=
  iprop(Φ₁ (F := F) c ∗ (dats m ρ 0 c).owesAt () t0_0.succ
    ∗ stg c cc0_stg0_0 ((insOf m).x c) ∗ stg c cc0_stg1_0 ((insOf m).wq c) ∗ stg c cc0_stg2_0 ((insOf m).k c)
    ∗ stg c cc0_stg3_0 ((insOf m).v c) ∗ stg c cc0_stg4_0 ((insOf m).wo c) ∗ stg c cc0_stg5_0 (outC (insOf m)))

theorem begin : bodyPre m ρ c ⊢ iprop(∃ K, Start (insOf m) K c) := by
  unfold bodyPre Φ₀ start scratch G' Pipeline.Dat.owesAt Pipeline.owesWithin
  rw [show (dats m ρ 0 c).owed t0_0.castSucc = O₀ c from rfl]
  iintro ⟨⟨⟨⟨%K, #HR, HP, HD⟩, ⟨Hc0, Hc1, Hc3⟩, #HL⟩, ⟨%s0, S0⟩, ⟨%s1, S1⟩, ⟨%s2, S2⟩⟩, ⟨%W, %hW, HO⟩,
    ⟨%d0, %f0, %h0, X0⟩, ⟨%d1, %f1, %h1, X1⟩, ⟨%d2, %f2, %h2, X2⟩, ⟨%d3, %f3, %h3, X3⟩, ⟨%d4, %f4, %h4, X4⟩, ⟨%d5, %f5, %h5, X5⟩⟩
  obtain rfl := h0.trans (before_x m ρ c d0)
  obtain rfl := h1.trans (before_wq m ρ c d1)
  obtain rfl := h2.trans (before_k m ρ c d2)
  obtain rfl := h3.trans (before_v m ρ c d3)
  obtain rfl := h4.trans (before_wo m ρ c d4)
  ihave HP := (places_split (F := F) c) $$ HP
  icases HP with ⟨Pb, P0, P1, P2, P3⟩
  ihave HD := (show dealt (F := F) c ⊢ iprop(barDealt (F := F) c ∗ toks (F := F) c 0 1 ∗ toks (F := F) c 2 3) from Entails.refl _) $$ HD
  icases HD with ⟨Db, D1, D2⟩
  iexists K
  unfold Start
  isplitl [HO Db S2 X5]
  · iapply (sig_begin (F := F) c (insOf m) K s2 f5)
    isplitr
    · unfold Env; isplitl; · iexact HR
      iexact HL
    isplitl [HO]
    · unfold owesE; iexists W; iexact HO
    isplitl [Db]; · iexact Db
    isplitl [S2] <;> iassumption
  isplitl [Pb Hc0]
  · unfold BarTok; isplitl [Pb] <;> iassumption
  isplitl [D1 D2]
  · isplitl [D1] <;> iassumption
  isplitl [P1 Hc1]
  · unfold RecvPend; isplitl [P1] <;> iassumption
  isplitl [P3 Hc3]
  · unfold GatherPend; isplitl [P3] <;> iassumption
  isplitl [P0 P2]
  · isplitl [P0] <;> iassumption
  isplitl [X0]
  · unfold xPts; iexact X0
  isplitl [X1]
  · unfold wqPts; iexact X1
  unfold Attn
  isplitl [X2]; · iexact X2
  isplitl [X3]; · iexact X3
  isplitl [X4]; · iexact X4
  isplitl [S0]
  · iexists s0; isplitr
    · ipureintro; exact fun h hh => absurd hh (Nat.not_lt_zero _)
    iexact S0
  iexists s1
  unfold partPts
  rw [tail_zero]
  iexact S1

theorem finish : Finish (insOf m) c ⊢ bodyPost m ρ c := by
  unfold bodyPost Φ₁ scratch Pipeline.Dat.owesAt Pipeline.owesWithin Finish Done Recv2 Attn xPts wqPts owesE
  rw [show (dats m ρ 0 c).owed t0_0.succ = 0 from rfl]
  iintro ⟨⟨⟨%W, HO⟩, H1, H5, Z0, Z2, Z3⟩, ⟨H2, Z1⟩, Hb, X0, X1, X2, X3, X4, ⟨%s0, -, S0⟩, -⟩
  isplitl [Hb Z0 Z1 Z2 Z3 S0 H1 H2]
  · isplitl [Hb]; · iexact Hb
    isplitl [Z0 Z1 Z2 Z3]
    · isplitl [Z0]; · iexact Z0
      isplitl [Z1]; · iexact Z1
      isplitl [Z2] <;> iassumption
    isplitl [S0]; · iexists s0; iexact S0
    isplitl [H1]; · iexists partC (insOf m) c; iexact H1
    iexists recvC (insOf m) c; iexact H2
  isplitl [HO]
  · iexists W; isplitr
    · ipureintro; exact fun _ _ => Or.inl trivial
    iexact HO
  isplitl [X0]; · iapply (stg_of (F := F) c cc0_stg0_0); iexact X0
  isplitl [X1]; · iapply (stg_of (F := F) c cc0_stg1_0); iexact X1
  isplitl [X2]; · iapply (stg_of (F := F) c cc0_stg2_0); iexact X2
  isplitl [X3]; · iapply (stg_of (F := F) c cc0_stg3_0); iexact X3
  isplitl [X4]; · iapply (stg_of (F := F) c cc0_stg4_0); iexact X4
  iapply (stg_of (F := F) c cc0_stg5_0); iexact H5

set_option maxRecDepth 65536 in
theorem body_obligation : Pipeline.BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  simp only [owns_whole]
  show bodyPre m ρ c ⊢ WP c (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c)
  iintro H
  ihave H := (begin m ρ c) $$ H
  icases H with ⟨%K, H⟩
  iapply (body_wp (insOf m) K c (Q := fun _ => bodyPost m ρ c)) $$ H
  iintro H
  iapply (finish m ρ c); iexact H

/-! ## The launch -/

theorem share_eq (w : Fin cfg0.W) : (dats m ρ 0 c).share w = fullShare := by unfold Pipeline.Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  iintro ⟨-, Hlev, Hcr, -, HG⟩
  ihave Hc := (creds_all (F := F) c) $$ Hcr
  imodintro
  unfold start
  isplitl
  · isplitl [HG]; · iexact HG
    isplitl [Hc]; · iexact Hc
    iexact Hlev
  · iempintro

theorem enter :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem leave :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  exact Entails.refl _

theorem waits : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-- What each array holds at the end. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair execution on the 32 devices ends, with each device's arrays at
    their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund_all (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- Every device's result is the gathered array. -/
theorem finalA_out : finalA m ρ c (5 : Fin 6) = outC (insOf m) := by
  unfold finalA
  rw [show cfg0.N = t0_0.val + 1 from N_0]
  rw [Pipeline.Dat.arrAt_succ (dats m ρ 0 c) 5 t0_0, if_pos (flush0_5 t0_0)]
  funext i
  refine Eq.trans (congrArg _ (emb_out t0_0 i).symm) ?_
  exact View.write_emb_of_mem (v := ((cfg0.win 5).blk t0_0).view) (Val := Elt F) ((dats m ρ 0 c).arrAt 5 t0_0) ((dats m ρ 0 c).flushed 5 t0_0) (Finset.mem_univ i)

theorem QC_args {r : PUnit × MemSt nD τ sig (Elt F)} (h : QC m ρ r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans ((dats (F := F) m ρ 0 c).arrAt_in 0 rfl _), (h c 1).trans ((dats (F := F) m ρ 0 c).arrAt_in 1 rfl _),
    (h c 2).trans ((dats (F := F) m ρ 0 c).arrAt_in 2 rfl _), (h c 3).trans ((dats (F := F) m ρ 0 c).arrAt_in 3 rfl _),
    (h c 4).trans ((dats (F := F) m ρ 0 c).arrAt_in 4 rfl _)⟩

/-- Every fair execution ends with every argument array unchanged and every semaphore at zero. -/
theorem quiet : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => QC_args m ρ c h.1, h.2⟩) (run_main m ρ)

/-- Every fair execution ends with every device's result the gathered array and every argument array unchanged. -/
theorem result : θ_run defs (onTc (τ := τ) (main (F := F))) ⟨m, fun _ => 0, ρ⟩ (fun r => ∀ c : Dev nD,
    r.2.mem ((c.tc : Thread nD τ).loc main_v1) = outC (insOf m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c 5).trans (finalA_out m ρ c), QC_args m ρ c h.1⟩) (run_main m ρ)

end Cert.KernelIdeal.Exchange

end
-- ==== Proof.KernelIdeal.ValueMask.lean ====
/-
  The band in words: the signed comparison of |row − column| with 128 on 32-bit words, and the kernel's additive mask.
-/
module

public import proofs.«01_k».proof.Proof.KernelIdeal.Contents
public import Idealize.ShloMosaic.Lib.WordCmp
public import Idealize.ShloMosaic.Lib.Pipeline.Value
public import Idealize.ShloMosaic.Lib.IdealHost

@[expose] public section

noncomputable section

namespace Cert.Attention

open Idealize.ShloMosaic

/-- Row `r` attends to column `c`: they are at most 128 apart. -/
def Near (r c : ℕ) : Prop := r ≤ c + 128 ∧ c ≤ r + 128

instance (r c : ℕ) : Decidable (Near r c) := inferInstanceAs (Decidable (_ ∧ _))

/-- The comparison of the absolute difference of two small words with 128 is the comparison of the numbers. -/
theorem near_word (r c : ℕ) (hr : r < 1024) (hc : c < 1024) :
    IntOp.cmpi .sle (IntOp.absi (IntOp.subi (BitVec.ofNat 32 r) (BitVec.ofNat 32 c))) 128#32 = BitVec.ofBool (decide (Near r c)) := by
  have key : IntOp.absi (IntOp.subi (BitVec.ofNat 32 r) (BitVec.ofNat 32 c)) = BitVec.ofNat 32 (if c ≤ r then r - c else c - r) := by
    unfold IntOp.absi IntOp.subi
    split_ifs with hm h h
    · rw [BitVec.msb_eq_decide] at hm
      simp only [BitVec.toNat_sub, BitVec.toNat_ofNat, decide_eq_true_eq] at hm
      omega
    · apply BitVec.eq_of_toNat_eq
      simp only [BitVec.toNat_neg, BitVec.toNat_sub, BitVec.toNat_ofNat]
      omega
    · apply BitVec.eq_of_toNat_eq
      simp only [BitVec.toNat_sub, BitVec.toNat_ofNat]
      omega
    · rw [BitVec.msb_eq_decide] at hm
      simp only [BitVec.toNat_sub, BitVec.toNat_ofNat, decide_eq_true_eq] at hm
      omega
  rw [key, show (128#32 : BitVec 32) = BitVec.ofNat 32 128 from rfl,
    WordCmp.cmpi_sle_ofNat (by split_ifs <;> omega) (by omega)]
  congr 1
  refine decide_eq_decide.mpr ?_
  unfold Near
  split_ifs <;> omega

end Cert.Attention

namespace Cert.KernelIdeal.Exchange

open Cert.KernelIdeal Cert.KernelIdeal.Gen Cert.Attention
open Idealize.ShloMosaic Idealize.ShloMosaic.ValueIdx

/-- A select between zero and the named constant by the band's word is zero inside the band and minus infinity outside. -/
theorem mask_word (r c : ℕ) (hr : r < 1024) (hc : c < 1024) (wr wc : BitVec 32) (er : wr = BitVec.ofNat 32 r) (ec : wc = BitVec.ofNat 32 c) :
    (Scalar.select (IntOp.cmpi .sle (IntOp.absi (IntOp.subi wr wc)) 128#32) (FloatOps.ofBits (F := Ideal) .f32 0x00000000#32)
      (Named.named (F := Ideal) κ "mask" (φ := .f32) 0xCE6E6B28#32) : EReal) = if Near r c then 0 else ⊥ := by
  subst er ec
  rw [near_word r c hr hc]
  by_cases h : Near r c
  · rw [if_pos h, decide_eq_true h]
    exact Ideal.ofBits_zero_f32
  · rw [if_neg h, decide_eq_false h]
    rfl

/-- A coordinate's word with a block's offset added is the word of the sum. -/
theorem off_word (a b : ℕ) (w : BitVec 32) (hw : w = BitVec.ofNat 32 a) : IntOp.addi w (BitVec.ofNat 32 b) = BitVec.ofNat 32 (b + a) := by
  rw [hw]
  show BitVec.ofNat 32 a + BitVec.ofNat 32 b = _
  rw [← BitVec.ofNat_add, Nat.add_comm]

/-- The kernel's select at row `i` and column `p` of a block whose first row is `r0` and first column `c0`. -/
theorem mask_at (r0 c0 : ℕ) (i : Fin 256) (p : Fin 512) (hr : r0 + 256 ≤ 1024) (hc : c0 + 512 ≤ 1024) :
    (Scalar.select (IntOp.cmpi .sle (IntOp.absi (IntOp.subi
        (IntOp.addi (iota .tc S256x512 32 [0] iota_S256x512_d0_w32 (ix2 i p)) (BitVec.ofNat 32 r0))
        (IntOp.addi (iota .tc S256x512 32 [1] iota_S256x512_d1_w32 (ix2 i p)) (BitVec.ofNat 32 c0)))) 128#32)
      (FloatOps.ofBits (F := Ideal) .f32 0x00000000#32) (Named.named (F := Ideal) κ "mask" (φ := .f32) 0xCE6E6B28#32) : EReal)
      = if Near (r0 + i.val) (c0 + p.val) then 0 else ⊥ :=
  mask_word _ _ (by have := i.isLt; omega) (by have := p.isLt; omega) _ _
    (off_word _ _ _ (iota_single_apply _ _ _ _ _ _)) (off_word _ _ _ (iota_single_apply _ _ _ _ _ _))

/-- The kernel's additive mask of row block `rb` at row `i` of the block and column `p` of its window. -/
theorem bias_apply (rb : Fin 4) (i : Fin 256) (p : Fin 512) :
    (bias (F := Ideal) rb (ix2 i p) : EReal) = if Near (256 * rb.val + i.val) (bandStart rb + p.val) then 0 else ⊥ := by
  match rb with
  | ⟨0, _⟩ => exact mask_at 0 0 i p (by decide) (by decide)
  | ⟨1, _⟩ => exact mask_at 256 128 i p (by decide) (by decide)
  | ⟨2, _⟩ => exact mask_at 512 384 i p (by decide) (by decide)
  | ⟨3, _⟩ => exact mask_at 768 512 i p (by decide) (by decide)

end Cert.KernelIdeal.Exchange

end
-- ==== Proof.KernelIdeal.ValueSoftmax.lean ====
/-
  Softmax-weighted sums over the extended reals: a row of scores and a row of values, the scores' maximum subtracted
  before the exponential; and why the columns where the score is minus infinity may be left out.
-/
module

public import Idealize.ShloMosaic.Lib.IdealHost
public import Idealize.ShloMosaic.Lib.FinSumWindow

@[expose] public section

noncomputable section

namespace Cert.Attention

open Idealize.ShloMosaic
open scoped BigOperators

/-- An extended real that is a real. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {n : ℕ} (f : Fin n → EReal) (h : ∀ i, IsReal (f i)) : IsReal (∑ i, f i) :=
  Finset.sum_induction f IsReal (fun _ _ => IsReal.add) ⟨0, EReal.coe_zero.symm⟩ (fun i _ => h i)

/-- The unnormalised weight of a column: the exponential of its score less the row's maximum. -/
def weight {n : ℕ} (g : Fin n → EReal) (c : Fin n) : EReal := Ideal.exp (g c - Finset.univ.sup g)

/-- The values weighted by the softmax of the scores. -/
def softSum {n : ℕ} (g v : Fin n → EReal) : EReal :=
  ∑ c, Ideal.div (weight g c) (∑ c', weight g c') * v c

/-- No exponential is negative. -/
theorem exp_nonneg (x : EReal) : 0 ≤ Ideal.exp x := by
  induction x with
  | bot => exact le_refl _
  | top => exact le_top
  | coe r => exact EReal.coe_nonneg.mpr (Real.exp_pos r).le

/-- A column at minus infinity has weight zero. -/
theorem weight_bot {n : ℕ} (g : Fin n → EReal) (c : Fin n) (h : g c = ⊥) : weight g c = 0 := by
  unfold weight
  rw [h, EReal.bot_sub]
  rfl

/-- The weights of a row whose scores are below plus infinity and not all minus infinity do not sum to zero. -/
theorem weights_ne_zero {n : ℕ} (g : Fin n → EReal) (hlt : ∀ c, g c ≠ ⊤) (hex : ∃ c, g c ≠ ⊥) : (∑ c, weight g c) ≠ 0 := by
  obtain ⟨c1, hc1⟩ := hex
  obtain ⟨c0, -, h0⟩ := Finset.exists_mem_eq_sup Finset.univ ⟨c1, Finset.mem_univ c1⟩ g
  have hb : g c0 ≠ ⊥ := fun e => hc1 (le_bot_iff.mp (e ▸ h0 ▸ Finset.le_sup (f := g) (Finset.mem_univ c1)))
  have h1 : weight g c0 = 1 := by
    unfold weight
    rw [h0, EReal.sub_self (hlt c0) hb]
    show ((Real.exp 0 : ℝ) : EReal) = 1
    rw [Real.exp_zero]; rfl
  have h2 : (1 : EReal) ≤ ∑ c, weight g c :=
    h1 ▸ Finset.single_le_sum (f := weight g) (fun c _ => exp_nonneg _) (Finset.mem_univ c0)
  intro e
  rw [e] at h2
  exact absurd h2 (by simp)

/-- Columns at minus infinity off a window do not raise the maximum: it is the window's. -/
theorem sup_window {N W : ℕ} (lo : ℕ) (hlo : lo + W ≤ N) (g : Fin N → EReal)
    (hg : ∀ P : Fin N, ¬(lo ≤ P.val ∧ P.val < lo + W) → g P = ⊥) :
    Finset.univ.sup g = Finset.univ.sup fun p : Fin W => g ⟨lo + p.val, by omega⟩ := by
  refine le_antisymm (Finset.sup_le fun P _ => ?_) (Finset.sup_le fun p _ => Finset.le_sup (f := g) (Finset.mem_univ _))
  by_cases h : lo ≤ P.val ∧ P.val < lo + W
  · have e : P = ⟨lo + (⟨P.val - lo, by omega⟩ : Fin W).val, by show lo + (P.val - lo) < N; omega⟩ :=
      Fin.ext (by show P.val = lo + (P.val - lo); omega)
    calc g P = g ⟨lo + (⟨P.val - lo, by omega⟩ : Fin W).val, _⟩ := congrArg g e
      _ ≤ _ := Finset.le_sup (f := fun p : Fin W => g ⟨lo + p.val, by omega⟩) (Finset.mem_univ _)
  · rw [hg P h]; exact bot_le

/-- **The weighted sum over all columns is the one over a window**, when off the window every score is minus infinity. -/
theorem softSum_window {N W : ℕ} (lo : ℕ) (hlo : lo + W ≤ N) (g v : Fin N → EReal)
    (hg : ∀ P : Fin N, ¬(lo ≤ P.val ∧ P.val < lo + W) → g P = ⊥) (hlt : ∀ c, g c ≠ ⊤) (hex : ∃ c, g c ≠ ⊥) :
    softSum g v = softSum (fun p : Fin W => g ⟨lo + p.val, by omega⟩) (fun p : Fin W => v ⟨lo + p.val, by omega⟩) := by
  have hw : ∀ p : Fin W, weight (fun p : Fin W => g ⟨lo + p.val, by omega⟩) p = weight g ⟨lo + p.val, by omega⟩ := fun p => by
    unfold weight
    rw [sup_window lo hlo g hg]
  have hs : (∑ c, weight g c) = ∑ p : Fin W, weight g ⟨lo + p.val, by omega⟩ :=
    FinSumWindow.sum_window lo hlo (weight g) fun P hP => weight_bot g P (hg P hP)
  unfold softSum
  simp only [hw, ← hs]
  refine FinSumWindow.sum_window lo hlo (fun c => Ideal.div (weight g c) (∑ c', weight g c') * v c) fun P hP => ?_
  show Ideal.div (weight g P) _ * v P = 0
  rw [weight_bot g P (hg P hP), Ideal.zero_div (weights_ne_zero g hlt hex), zero_mul]

end Cert.Attention

end
-- ==== Proof.KernelIdeal.ValueHead.lean ====
/-
  One head's attention output for a block of 256 rows, read at an index over the extended reals: the values weighted by
  the softmax of the row's masked scores.
-/
module

public import proofs.«01_k».proof.Proof.KernelIdeal.ValueSoftmax
public import proofs.«01_k».proof.Proof.KernelIdeal.Contents
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Attention

open Idealize.ShloMosaic

/-- The scores' scale, as the program's constant reads. -/
def scale : EReal := Ideal.ofBits .f32 0x3DB504F3#32

/-- The pattern of minus infinity reads as minus infinity. -/
theorem ofBits_negInf : Ideal.ofBits .f32 0xFF800000#32 = ⊥ := by simp [Ideal.ofBits, Ideal.ieee]

end Cert.Attention

namespace Cert.KernelIdeal.Exchange

open Cert.KernelIdeal Cert.KernelIdeal.Gen Cert.Attention
open Idealize.ShloMosaic Idealize.ShloMosaic.ValueIdx
open scoped BigOperators

/-- A row's maximum. -/
theorem rowMax_apply (s : FVec Ideal S256x512 .f32) (i : Fin 256) :
    multiReduction .maximumf [1] S256 s 0xFF800000#32 reduces_S256x512_S256 (.inl rfl) rfl (ix1 i)
      = Finset.univ.sup fun p : Fin 512 => (s (ix2 i p) : EReal) := by
  refine (Ideal.multiReduction_maximumf_single s 0xFF800000#32 reduces_S256x512_S256 (.inl rfl) rfl (ix1 i)).trans ?_
  show Finset.fold max (Ideal.ofBits .f32 0xFF800000#32) _ _ = _
  rw [ofBits_negInf]
  refine (Finset.fold_congr (g := fun p : Fin 512 => (s (ix2 i p) : EReal)) fun p _ => ?_).trans rfl
  exact congrArg s (funext fun a => Fin.ext (match a with | ⟨0, _⟩ => rfl | ⟨1, _⟩ => rfl))

/-- A row's sum. -/
theorem rowSum_apply (s : FVec Ideal S256x512 .f32) (i : Fin 256) :
    multiReduction .add [1] S256 s 0x00000000#32 reduces_S256x512_S256 (.inl rfl) rfl (ix1 i)
      = ∑ p : Fin 512, (s (ix2 i p) : EReal) := by
  refine (Ideal.multiReduction_add_single s 0x00000000#32 reduces_S256x512_S256 (.inl rfl) rfl (ix1 i)).trans ?_
  refine Finset.sum_congr rfl fun p _ => ?_
  exact congrArg s (funext fun a => Fin.ext (match a with | ⟨0, _⟩ => rfl | ⟨1, _⟩ => rfl))

/-- A vector of one number a row spread along the rows. -/
theorem spread_apply (v : FVec Ideal S256 .f32) (i : Fin 256) (p : Fin 512) :
    broadcastTo S256x512 (shapeCast S256x1 v shapeCasts_S256_S256x1) broadcasts_S256x1_S256x512 (ix2 i p) = v (ix1 i) := by
  refine (broadcastTo_apply _ _ _ (ix2 i (0 : Fin 1)) fun a => ?_).trans (shapeCast_apply _ _ _ (ix1 i) ?_)
  · match a with
    | ⟨0, _⟩ => rfl
    | ⟨1, _⟩ => rfl
  · rw [Shape.rowMajor_val_two, Shape.rowMajor_val_one]
    show i.val = i.val * 1 + 0
    omega

/-- The masked scores of a block of rows. -/
def scoreVec (q : FVec Ideal S256x128 .f32) (b : FVec Ideal S256x512 .f32) (kk : FVec Ideal S1x512x128 .bf16) : FVec Ideal S256x512 .f32 :=
  addf (mulf (matmul dot_S256x128_S512x128_S256x512_1_1_0_0_n_n none (truncf .bf16 q bitsLt_bf16_f32)
      (shapeCast S512x128 kk shapeCasts_S1x512x128_S512x128) (constant S256x512 .f32 0x00000000#32))
    (broadcast S256x512 (Scalar.ofBits .f32 0x3DB504F3#32))) b

/-- The masked scores at row `i` and column `p`. -/
theorem scoreVec_apply (q : FVec Ideal S256x128 .f32) (b : FVec Ideal S256x512 .f32) (kk : FVec Ideal S1x512x128 .bf16) (i : Fin 256) (p : Fin 512) :
    scoreVec q b kk (ix2 i p) = ((∑ e : Fin 128, (q (ix2 i e) : EReal) * kk (ix3 0 p e)) * scale + b (ix2 i p) : EReal) := by
  have h : matmul dot_S256x128_S512x128_S256x512_1_1_0_0_n_n none (truncf .bf16 q bitsLt_bf16_f32)
      (shapeCast S512x128 kk shapeCasts_S1x512x128_S512x128) (constant S256x512 .f32 0x00000000#32) (ix2 i p)
      = ∑ e : Fin 128, (q (ix2 i e) : EReal) * kk (ix3 0 p e) := by
    refine (Ideal.matmul_transposedRhs_apply (M := 256) (K := 128) (N := 512) none (truncf .bf16 q bitsLt_bf16_f32)
      (shapeCast S512x128 kk shapeCasts_S1x512x128_S512x128) (constant S256x512 .f32 0x00000000#32) i p).trans ?_
    refine (congrArg (· + _) Ideal.ofBits_zero_f32).trans ((zero_add _).trans ?_)
    refine Finset.sum_congr rfl fun e _ => ?_
    exact congrArg ((q (ix2 i e) : EReal) * ·) (shapeCast_1ab_ab_apply kk _ p e)
  show (matmul dot_S256x128_S512x128_S256x512_1_1_0_0_n_n none (truncf .bf16 q bitsLt_bf16_f32)
      (shapeCast S512x128 kk shapeCasts_S1x512x128_S512x128) (constant S256x512 .f32 0x00000000#32) (ix2 i p) : EReal) * scale + b (ix2 i p) = _
  rw [h]

/-- The unnormalised weights of a block of scores. -/
def expVec (s : FVec Ideal S256x512 .f32) : FVec Ideal S256x512 .f32 :=
  exp (subf s (broadcastTo S256x512 (shapeCast S256x1
    (multiReduction .maximumf [1] S256 s 0xFF800000#32 reduces_S256x512_S256 (.inl rfl) rfl) shapeCasts_S256_S256x1) broadcasts_S256x1_S256x512))

/-- The unnormalised weight at row `i` and column `p`. -/
theorem expVec_apply (s : FVec Ideal S256x512 .f32) (i : Fin 256) (p : Fin 512) :
    expVec s (ix2 i p) = weight (fun p : Fin 512 => (s (ix2 i p) : EReal)) p := by
  show Ideal.exp ((s (ix2 i p) : EReal) - broadcastTo S256x512 _ _ (ix2 i p)) = _
  rw [spread_apply, rowMax_apply]
  rfl

/-- The softmax of a block of scores. -/
def probVec (s : FVec Ideal S256x512 .f32) : FVec Ideal S256x512 .f32 :=
  divf (expVec s) (broadcastTo S256x512 (shapeCast S256x1
    (multiReduction .add [1] S256 (expVec s) 0x00000000#32 reduces_S256x512_S256 (.inl rfl) rfl) shapeCasts_S256_S256x1) broadcasts_S256x1_S256x512)

/-- The softmax at row `i` and column `p`. -/
theorem probVec_apply (s : FVec Ideal S256x512 .f32) (i : Fin 256) (p : Fin 512) :
    probVec s (ix2 i p) = Ideal.div (weight (fun p : Fin 512 => (s (ix2 i p) : EReal)) p)
      (∑ p', weight (fun p : Fin 512 => (s (ix2 i p) : EReal)) p') := by
  show Ideal.div (expVec s (ix2 i p)) (broadcastTo S256x512 _ _ (ix2 i p)) = _
  rw [spread_apply, rowSum_apply, expVec_apply]
  simp only [expVec_apply]

/-- One head's output is the values' product with the softmax of the masked scores. -/
theorem attend_eq (q : FVec Ideal S256x128 .f32) (b : FVec Ideal S256x512 .f32) (kk vv : FVec Ideal S1x512x128 .bf16) :
    attend q b kk vv = shapeCast S256x128 (truncf .bf16 (matmul dot_S256x512_S512x128_S256x128_1_0_0_1_n_n none
      (truncf .bf16 (probVec (scoreVec q b kk)) bitsLt_bf16_f32) (shapeCast S512x128 vv shapeCasts_S1x512x128_S512x128)
      (constant S256x128 .f32 0x00000000#32)) bitsLt_bf16_f32) shapeCasts_S256x128_S256x128 := rfl

/-- **One head's output at row `i` and coordinate `d`**: the values weighted by the softmax of the row's masked scores. -/
theorem attend_apply (q : FVec Ideal S256x128 .f32) (b : FVec Ideal S256x512 .f32) (kk vv : FVec Ideal S1x512x128 .bf16) (i : Fin 256) (d : Fin 128) :
    attend q b kk vv (ix2 i d)
      = softSum (fun p : Fin 512 => (∑ e : Fin 128, (q (ix2 i e) : EReal) * kk (ix3 0 p e)) * scale + b (ix2 i p))
          (fun p : Fin 512 => (vv (ix3 0 p d) : EReal)) := by
  rw [attend_eq, shapeCast_self]
  refine (Ideal.matmul_plain_apply (M := 256) (K := 512) (N := 128) none (truncf .bf16 (probVec (scoreVec q b kk)) bitsLt_bf16_f32)
      (shapeCast S512x128 vv shapeCasts_S1x512x128_S512x128) (constant S256x128 .f32 0x00000000#32) i d).trans ?_
  refine (congrArg (· + _) Ideal.ofBits_zero_f32).trans ((zero_add _).trans ?_)
  unfold softSum
  refine Finset.sum_congr rfl fun p _ => ?_
  have h1 : (shapeCast S512x128 vv shapeCasts_S1x512x128_S512x128 (ix2 p d) : EReal) = vv (ix3 0 p d) := shapeCast_1ab_ab_apply vv _ p d
  have h2 : (probVec (scoreVec q b kk) (ix2 i p) : EReal) = _ := probVec_apply (scoreVec q b kk) i p
  simp only [scoreVec_apply] at h2
  exact congrArg₂ (· * ·) h2 h1

end Cert.KernelIdeal.Exchange

end
-- ==== Proof.KernelIdeal.ValuePlain.lean ====
/-
  The attention step in plain sums over the extended reals, on whole arrays given by their coordinates.
-/
module

public import proofs.«01_k».proof.Proof.KernelIdeal.ValueMask
public import proofs.«01_k».proof.Proof.KernelIdeal.ValueHead

@[expose] public section

noncomputable section

namespace Cert.Attention

open Idealize.ShloMosaic
open scoped BigOperators

variable (X : Fin 1024 → Fin 1024 → EReal) (W : Fin 1024 → Fin 32768 → EReal)
  (K V : Fin 256 → Fin 1024 → Fin 128 → EReal) (O : Fin 32768 → Fin 1024 → EReal)

/-- Column `d` of head `hh` among the columns of all heads. -/
def headCol (hh : Fin 256) (d : Fin 128) : Fin 32768 := ⟨128 * hh.val + d.val, by omega⟩

/-- The projected query of row `r` at column `j`. -/
def query (r : Fin 1024) (j : Fin 32768) : EReal := ∑ k, X r k * W k j

/-- The scaled score of row `r` against column `c` in head `hh`. -/
def score (hh : Fin 256) (r c : Fin 1024) : EReal := (∑ d, query X W r (headCol hh d) * K hh c d) * scale

/-- The score inside the band and minus infinity outside. -/
def masked (hh : Fin 256) (r c : Fin 1024) : EReal := if Near r.val c.val then score X W K hh r c else ⊥

/-- The values of head `hh` weighted by row `r`'s softmax. -/
def context (hh : Fin 256) (r : Fin 1024) (d : Fin 128) : EReal := softSum (masked X W K hh r) fun c => V hh c d

/-- The head of a column. -/
def headOf (J : Fin 32768) : Fin 256 := ⟨J.val / 128, by omega⟩

/-- A column's place in its head. -/
def placeOf (J : Fin 32768) : Fin 128 := ⟨J.val % 128, by omega⟩

/-- The step's result at row `r` and column `e`. -/
def output (r e : Fin 1024) : EReal := ∑ J, context X W K V (headOf J) r (placeOf J) * O J e

/-- A sum over `a * b` positions is the double sum over its blocks of `b`. -/
theorem sum_blocks {a b N : ℕ} (hN : N = a * b) (f : Fin N → EReal) (hlt : ∀ (s : Fin a) (j : Fin b), b * s.val + j.val < N) :
    ∑ J, f J = ∑ s : Fin a, ∑ j : Fin b, f ⟨b * s.val + j.val, hlt s j⟩ := by
  subst hN
  rw [← Equiv.sum_comp (finProdFinEquiv (m := a) (n := b)), Fintype.sum_prod_type]
  refine Finset.sum_congr rfl fun s _ => Finset.sum_congr rfl fun j _ => congrArg f (Fin.ext ?_)
  show j.val + b * s.val = b * s.val + j.val
  omega

/-- The scale is a real. -/
theorem scale_real : IsReal scale := by
  unfold IsReal scale
  simp [Ideal.ofBits, Ideal.ieee]
  exact ⟨_, (EReal.coe_mul _ _).symm⟩

variable {X W K}

/-- The scores of real operands are real. -/
theorem score_real (hX : ∀ r k, IsReal (X r k)) (hW : ∀ k j, IsReal (W k j)) (hK : ∀ h c d, IsReal (K h c d))
    (hh : Fin 256) (r c : Fin 1024) : IsReal (score X W K hh r c) :=
  ((IsReal.sum _ fun d => (IsReal.sum _ fun k => (hX r k).mul (hW k _)).mul (hK hh c d))).mul scale_real

/-- **A context entry over a window of 512 columns that holds the row's band.** -/
theorem context_window (hX : ∀ r k, IsReal (X r k)) (hW : ∀ k j, IsReal (W k j)) (hK : ∀ h c d, IsReal (K h c d))
    (hh : Fin 256) (r : Fin 1024) (d : Fin 128) (lo : ℕ) (hlo : lo + 512 ≤ 1024)
    (hband : ∀ P : Fin 1024, Near r.val P.val → lo ≤ P.val ∧ P.val < lo + 512) :
    context X W K V hh r d = softSum
      (fun p : Fin 512 => score X W K hh r ⟨lo + p.val, by omega⟩ + if Near r.val (lo + p.val) then 0 else ⊥)
      (fun p : Fin 512 => V hh ⟨lo + p.val, by omega⟩ d) := by
  have hr : ∀ c, ∃ x : ℝ, score X W K hh r c = (x : EReal) := score_real hX hW hK hh r
  unfold context
  rw [softSum_window lo hlo (masked X W K hh r) (fun c => V hh c d)
    (fun P hP => if_neg fun hn => hP (hband P hn))
    (fun c => by
      unfold masked
      split_ifs
      · obtain ⟨x, hx⟩ := hr c
        rw [hx]; exact EReal.coe_ne_top x
      · exact bot_ne_top)
    ⟨r, by
      unfold masked
      rw [if_pos (show Near r.val r.val from ⟨by omega, by omega⟩)]
      obtain ⟨x, hx⟩ := hr r
      rw [hx]; exact EReal.coe_ne_bot x⟩]
  congr 1
  funext p
  unfold masked
  show (if Near r.val (lo + p.val) then _ else _) = _
  split_ifs
  · rw [add_zero]
  · rw [EReal.add_bot]

end Cert.Attention

end
-- ==== Proof.KernelIdeal.ValueKernel.lean ====
/-
  The array the kernel leaves on every device, read at an index: the attention step's plain sums.
-/
module

public import proofs.«01_k».proof.Proof.KernelIdeal.ValuePlain

@[expose] public section

noncomputable section

namespace Cert.KernelIdeal.Exchange

open Cert.KernelIdeal Cert.KernelIdeal.Gen Cert.Attention
open Idealize.ShloMosaic Idealize.ShloMosaic.ValueIdx
open scoped BigOperators

variable (A : Ins Ideal)

/-- The projected queries of a device at row `r` and column `j`. -/
theorem queries_apply (c : Dev nD) (r j : Fin 1024) :
    queries A c (ix2 r j) = ∑ k : Fin 1024, (A.x c (ix2 r k) : EReal) * A.wq c (ix2 k j) := by
  have e : queries A c = matmul (φ₁ := .bf16) (φ₂ := .bf16) dot_S1024x1024_S1024x1024_S1024x1024_1_0_0_1_n_n none
      (shapeCast S1024x1024 (A.x c) shapeCasts_S1024x1024_S1024x1024) (shapeCast S1024x1024 (A.wq c) shapeCasts_S1024x1024_S1024x1024)
      (constant S1024x1024 .f32 0x00000000#32) := rfl
  rw [e, shapeCast_self, shapeCast_self]
  refine (Ideal.matmul_plain_apply (M := 1024) (K := 1024) (N := 1024) none (φ₁ := .bf16) (φ₂ := .bf16) (A.x c) (A.wq c)
    (constant S1024x1024 .f32 0x00000000#32) r j).trans ?_
  exact (congrArg (· + _) Ideal.ofBits_zero_f32).trans (zero_add _)

/-- A window's row is a row of the array. -/
theorem window_apply (kv : Vec Ideal S8x1024x128 .bf16) (rb : Fin 4) (h : Fin 8) (p : Fin 512) (d : Fin 128) :
    window kv rb h (ix3 0 p d) = kv (ix3 h ⟨bandStart rb + p.val, by have := bandStart_le rb; omega⟩ d) := by
  refine congrArg kv (funext fun a => Fin.ext ?_)
  match a with
  | ⟨0, _⟩ => show h.val + 1 * 0 = h.val; omega
  | ⟨1, _⟩ => show bandStart rb + 1 * p.val = bandStart rb + p.val; omega
  | ⟨2, _⟩ => show 0 + 1 * d.val = d.val; omega

/-- One head's output for a block of rows, at an index. -/
theorem head_apply (c : Dev nD) (rb : Fin 4) (h : Fin 8) (i : Fin 256) (d : Fin 128) :
    head A c rb h (ix2 i d) = softSum
      (fun p : Fin 512 => (∑ e : Fin 128,
          (∑ k : Fin 1024, (A.x c (ix2 ⟨256 * rb.val + i.val, by omega⟩ k) : EReal) * A.wq c (ix2 k ⟨128 * h.val + e.val, by omega⟩))
            * A.k c (ix3 h ⟨bandStart rb + p.val, by have := bandStart_le rb; omega⟩ e)) * scale
          + if Near (256 * rb.val + i.val) (bandStart rb + p.val) then 0 else ⊥)
      (fun p : Fin 512 => (A.v c (ix3 h ⟨bandStart rb + p.val, by have := bandStart_le rb; omega⟩ d) : EReal)) := by
  unfold head
  rw [attend_apply]
  have hq : ∀ e : Fin 128, extractStridedSlice S256x128 ![256 * rb.val, 128 * h.val] (queries A c) (head_slices rb h) (ix2 i e)
      = ∑ k : Fin 1024, (A.x c (ix2 ⟨256 * rb.val + i.val, by omega⟩ k) : EReal) * A.wq c (ix2 k ⟨128 * h.val + e.val, by omega⟩) := fun e => by
    refine (extractStridedSlice_apply _ _ _ _ (ix2 ⟨256 * rb.val + i.val, by omega⟩ ⟨128 * h.val + e.val, by omega⟩) fun a => ?_).trans
      (queries_apply A c _ _)
    match a with
    | ⟨0, _⟩ => rfl
    | ⟨1, _⟩ => rfl
  simp only [hq, window_apply, bias_apply]

/-- The partial product of a block of rows, at an index. -/
theorem partBlk_apply (c : Dev nD) (rb : Fin 4) (i : Fin 256) (e : Fin 1024) :
    partBlk A c rb (ix2 i e) = ∑ j : Fin 1024, (ctx A c rb (ix2 i j) : EReal) * A.wo c (ix2 j e) := by
  have h : partBlk A c rb = shapeCast S256x1024 (truncf .bf16 (matmul (φ₁ := .bf16) (φ₂ := .bf16) dot_S256x1024_S1024x1024_S256x1024_1_0_0_1_n_n none
      (ctx A c rb) (shapeCast S1024x1024 (A.wo c) shapeCasts_S1024x1024_S1024x1024)
      (constant S256x1024 .f32 0x00000000#32)) bitsLt_bf16_f32) shapeCasts_S256x1024_S256x1024 := rfl
  rw [h, shapeCast_self, shapeCast_self]
  refine (Ideal.matmul_plain_apply (M := 256) (K := 1024) (N := 1024) none (φ₁ := .bf16) (φ₂ := .bf16) (ctx A c rb) (A.wo c)
    (constant S256x1024 .f32 0x00000000#32) i e).trans ?_
  exact (congrArg (· + _) Ideal.ofBits_zero_f32).trans (zero_add _)

/-- A device's whole partial product, at an index. -/
theorem partC_apply (c : Dev nD) (r e : Fin 1024) :
    partC A c (ix2 r e) = ∑ j : Fin 1024, (head A c ⟨r.val / 256, by omega⟩ ⟨j.val / 128, by omega⟩
      (ix2 ⟨r.val % 256, by omega⟩ ⟨j.val % 128, by omega⟩) : EReal) * A.wo c (ix2 j e) :=
  partBlk_apply A c _ _ e

/-- The rows a device sums, at an index: the sum over the devices of their partial products. -/
theorem outRows_apply (c : Dev nD) (i : Fin 32) (e : Fin 1024) :
    outRows A c (ix2 i e) = ∑ s : Fin 32, (recvC A c (ix3 s i e) : EReal) := by
  refine (Ideal.multiReduction_add_single (φ := .f32) (recvC A c) 0x00000000#32 reduces_S32x32x1024_S32x1024 (.inl rfl) rfl (ix2 i e)).trans ?_
  refine Finset.sum_congr rfl fun s _ => ?_
  exact congrArg (recvC A c) (funext fun a => Fin.ext (match a with | ⟨0, _⟩ => rfl | ⟨1, _⟩ => rfl | ⟨2, _⟩ => rfl))

/-- The array every device ends with is the sum over the devices of their partial products. -/
theorem outC_apply (r e : Fin 1024) :
    outC A (ix2 r e) = ∑ s : Dev nD, (partC A s (ix2 r e) : EReal) := by
  refine (outRows_apply A _ _ e).trans (Finset.sum_congr rfl fun s _ => ?_)
  refine congrArg (partC A s) (congrArg (fun z : Fin 1024 => (ix2 z e : S1024x1024.Idx)) (Fin.ext ?_))
  show 32 * (r.val / 32) + r.val % 32 = r.val
  omega

variable {A} {X : Fin 1024 → Fin 1024 → EReal} {W : Fin 1024 → Fin 32768 → EReal}
  {K V : Fin 256 → Fin 1024 → Fin 128 → EReal} {O : Fin 32768 → Fin 1024 → EReal}

/-- The position of a device's block among all. -/
theorem dev_lt (c : Dev nD) : c.val < 32 := c.isLt

/-- What device `c` holds of the whole arrays: all activations, its columns of the query projection, its eight heads of
    the keys and values and its rows of the output projection. -/
structure Holds (A : Ins Ideal) (X : Fin 1024 → Fin 1024 → EReal) (W : Fin 1024 → Fin 32768 → EReal)
    (K V : Fin 256 → Fin 1024 → Fin 128 → EReal) (O : Fin 32768 → Fin 1024 → EReal) : Prop where
  x : ∀ (c : Dev nD) (r k : Fin 1024), (A.x c (ix2 r k) : EReal) = X r k
  wq : ∀ (c : Dev nD) (k j : Fin 1024), (A.wq c (ix2 k j) : EReal) = W k ⟨1024 * c.val + j.val, by have := dev_lt c; omega⟩
  k : ∀ (c : Dev nD) (h : Fin 8) (r : Fin 1024) (d : Fin 128), (A.k c (ix3 h r d) : EReal) = K ⟨8 * c.val + h.val, by have := dev_lt c; omega⟩ r d
  v : ∀ (c : Dev nD) (h : Fin 8) (r : Fin 1024) (d : Fin 128), (A.v c (ix3 h r d) : EReal) = V ⟨8 * c.val + h.val, by have := dev_lt c; omega⟩ r d
  wo : ∀ (c : Dev nD) (j e : Fin 1024), (A.wo c (ix2 j e) : EReal) = O ⟨1024 * c.val + j.val, by have := dev_lt c; omega⟩ e

/-- The band of a row lies in the window its block reads. -/
theorem band_in_window (rb : Fin 4) (i : Fin 256) (P : Fin 1024) (h : Near (256 * rb.val + i.val) P.val) :
    bandStart rb ≤ P.val ∧ P.val < bandStart rb + 512 := by
  obtain ⟨h1, h2⟩ := h
  match rb, h1, h2 with
  | ⟨0, _⟩, h1, h2 => show 0 ≤ P.val ∧ P.val < 0 + 512; simp only at h1 h2; omega
  | ⟨1, _⟩, h1, h2 => show 128 ≤ P.val ∧ P.val < 128 + 512; simp only at h1 h2; omega
  | ⟨2, _⟩, h1, h2 => show 384 ≤ P.val ∧ P.val < 384 + 512; simp only at h1 h2; omega
  | ⟨3, _⟩, h1, h2 => show 512 ≤ P.val ∧ P.val < 512 + 512; simp only at h1 h2; omega

/-- **One head of one device is the context of the whole arrays.** -/
theorem head_context (hA : Holds A X W K V O) (hX : ∀ r k, IsReal (X r k)) (hW : ∀ k j, IsReal (W k j)) (hK : ∀ h c d, IsReal (K h c d))
    (c : Dev nD) (rb : Fin 4) (h : Fin 8) (i : Fin 256) (d : Fin 128) :
    (head A c rb h (ix2 i d) : EReal)
      = context X W K V ⟨8 * c.val + h.val, by have := dev_lt c; omega⟩ ⟨256 * rb.val + i.val, by omega⟩ d := by
  refine (head_apply A c rb h i d).trans (Eq.trans ?_
    (context_window V hX hW hK _ _ d (bandStart rb) (bandStart_le rb) (band_in_window rb i)).symm)
  simp only [hA.x, hA.wq, hA.k, hA.v]
  have hcol : ∀ e : Fin 128, (⟨1024 * c.val + (128 * h.val + e.val), by have := dev_lt c; omega⟩ : Fin 32768)
      = headCol ⟨8 * c.val + h.val, by have := dev_lt c; omega⟩ e := fun e => Fin.ext (by
    show 1024 * c.val + (128 * h.val + e.val) = 128 * (8 * c.val + h.val) + e.val
    omega)
  simp only [hcol]
  rfl

/-- **What every device ends with is the attention step of the whole arrays.** -/
theorem outC_output (hA : Holds A X W K V O) (hX : ∀ r k, IsReal (X r k)) (hW : ∀ k j, IsReal (W k j)) (hK : ∀ h c d, IsReal (K h c d))
    (r e : Fin 1024) : (outC A (ix2 r e) : EReal) = output X W K V O r e := by
  refine (outC_apply A r e).trans ?_
  unfold output
  rw [sum_blocks (a := 32) (b := 1024) rfl _ (fun s j => by omega)]
  refine Finset.sum_congr rfl fun s _ => (partC_apply A s r e).trans (Finset.sum_congr rfl fun j _ => ?_)
  rw [head_context hA hX hW hK, hA.wo]
  have hs := dev_lt s
  congr 1
  have e1 : (⟨8 * s.val + j.val / 128, by omega⟩ : Fin 256) = headOf ⟨1024 * s.val + j.val, by omega⟩ := Fin.ext (by
    show 8 * s.val + j.val / 128 = (1024 * s.val + j.val) / 128
    omega)
  have e2 : (⟨256 * (r.val / 256) + r.val % 256, by omega⟩ : Fin 1024) = r := Fin.ext (by
    show 256 * (r.val / 256) + r.val % 256 = r.val
    omega)
  have e3 : (⟨j.val % 128, by omega⟩ : Fin 128) = placeOf ⟨1024 * s.val + j.val, by omega⟩ := Fin.ext (by
    show j.val % 128 = (1024 * s.val + j.val) % 128
    omega)
  exact congr (congr (congrArg (context X W K V) e1) e2) e3

end Cert.KernelIdeal.Exchange

end
-- ==== Proof.KernelIdeal.ValueRef.lean ====
/-
  The reference's result read at an index: the same plain sums. Its stages are named here, each the operations the
  program lists, and read in turn.
-/
module

public import proofs.«01_k».proof.Proof.KernelIdeal.ValuePlain
public import proofs.«01_k».proof.Proof.Gen.ReferenceIdeal
public import proofs.«01_k».proof.Proof.Gen.ReferenceIdeal.Run
public import Idealize.ShloMosaic.Lib.KernelVsHost
public import Idealize.ShloMosaic.Lib.StackMember
public import Idealize.ShloMosaic.Lib.ReduceAll

@[expose] public section

noncomputable section

namespace Cert.ReferenceIdeal.Plain

open Cert.ReferenceIdeal Cert.ReferenceIdeal.Gen Cert.Attention
open Idealize.ShloMosaic Idealize.ShloMosaic.ValueIdx
open scoped BigOperators

/-- The band, as words. -/
def band : IVec S1024x1024 1 :=
  cmpi .sle (absi (subi (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))

/-- The band at row `r` and column `c`. -/
theorem band_apply (r c : Fin 1024) : band (ix2 r c) = BitVec.ofBool (decide (Near r.val c.val)) :=
  near_word r.val c.val r.isLt c.isLt

/-- The fold by `or` of words one of which is one is one. -/
theorem foldl_ori_one {ι : Type} (f : ι → BitVec 1) :
    ∀ (l : List ι) (init : BitVec 1), (init = 1#1 ∨ ∃ n ∈ l, f n = 1#1) → l.foldl (fun r n => IntOp.ori r (f n)) init = 1#1
  | [], _, h => h.elim id fun ⟨_, hn, _⟩ => nomatch hn
  | a :: l, init, h => by
    refine foldl_ori_one f l _ ?_
    have l1 : ∀ y : BitVec 1, IntOp.ori 1#1 y = 1#1 := by decide
    have r1 : ∀ y : BitVec 1, IntOp.ori y 1#1 = 1#1 := by decide
    rcases h with h | ⟨n, hn, hf⟩
    · exact .inl (h ▸ l1 _)
    · rcases List.mem_cons.1 hn with rfl | hn
      · exact .inl (by show IntOp.ori init (f n) = 1#1; rw [hf]; exact r1 _)
      · exact .inr ⟨n, hn, hf⟩

/-- Whether a row attends to any column. -/
def rowKeep : IVec S1024 1 := Host.reduce IntOp.ori band (constantI S_ 1 0#1) reducesTo_S1024x1024_S1024_d1 h_S_

/-- Every row does: it attends to itself. -/
theorem rowKeep_apply (r : Fin 1024) : rowKeep (ix1 r) = 1#1 := by
  unfold rowKeep
  rw [Host.reduce_eq_foldl]
  refine foldl_ori_one band _ _ (.inr ⟨ix2 r r, ?_, ?_⟩)
  · rw [List.mem_filter]
    refine ⟨List.mem_map.2 ⟨S1024x1024.rowMajor (ix2 r r), List.mem_finRange _, Equiv.symm_apply_apply _ _⟩, ?_⟩
    have hd : (reducesTo_S1024x1024_S1024_d1).drop (ix2 r r) = ix1 r := funext fun a => Fin.ext (match a with | ⟨0, _⟩ => rfl)
    simp [hd]
  · rw [band_apply, decide_eq_true (show Near r.val r.val from ⟨by omega, by omega⟩)]
    rfl

variable (x : FVec Ideal S1024x1024 .bf16) (wq : FVec Ideal S1024x32768 .bf16) (k v : FVec Ideal S256x1024x128 .bf16)
  (wo : FVec Ideal S32768x1024 .bf16)

/-- The scaled scores. -/
def scoreVec : FVec Ideal S256x1024x1024 .f32 :=
  mulf (Host.dotGeneral dot_S1024x256x128_S256x1024x128_S256x1024x1024_2_2_0_1_1_0 none
    (shapeCast S1024x256x128 (Host.dotGeneral dot_S1024x1024_S1024x32768_S1024x32768_1_0_0_1_n_n none (extf .f32 x bitsLt_bf16_f32) (extf .f32 wq bitsLt_bf16_f32))
      shapeCasts_S1024x32768_S1024x256x128) (extf .f32 k bitsLt_bf16_f32))
    (broadcastInDim S256x1024x1024 ![] bcast_S_S256x1024x1024 (constant S_ .f32 0x3DB504F3#32))

/-- The scaled score of row `r` against column `c` in head `hh`. -/
theorem scoreVec_apply (hh : Fin 256) (r c : Fin 1024) :
    (scoreVec x wq k (ix3 hh r c) : EReal)
      = score (fun a b => x (ix2 a b)) (fun a b => wq (ix2 a b)) (fun a b d => k (ix3 a b d)) hh r c := by
  have hq : ∀ d : Fin 128, (shapeCast S1024x256x128 (Host.dotGeneral dot_S1024x1024_S1024x32768_S1024x32768_1_0_0_1_n_n none
        (extf .f32 x bitsLt_bf16_f32) (extf .f32 wq bitsLt_bf16_f32)) shapeCasts_S1024x32768_S1024x256x128 (ix3 r hh d) : EReal)
      = query (fun a b => x (ix2 a b)) (fun a b => wq (ix2 a b)) r (headCol hh d) := fun d => by
    refine (shapeCast_apply _ _ _ (ix2 r (headCol hh d)) ?_).trans
      (StackMember.dotGeneral_plain_apply (m := 1024) (k := 1024) (n := 32768) none (extf .f32 x bitsLt_bf16_f32) (extf .f32 wq bitsLt_bf16_f32) r (headCol hh d))
    rw [Shape.rowMajor_val_two, Shape.rowMajor_val_three]
    show r.val * 32768 + (128 * hh.val + d.val) = (r.val * 256 + hh.val) * 128 + d.val
    omega
  have hd : (Host.dotGeneral dot_S1024x256x128_S256x1024x128_S256x1024x1024_2_2_0_1_1_0 none
      (shapeCast S1024x256x128 (Host.dotGeneral dot_S1024x1024_S1024x32768_S1024x32768_1_0_0_1_n_n none (extf .f32 x bitsLt_bf16_f32) (extf .f32 wq bitsLt_bf16_f32))
        shapeCasts_S1024x32768_S1024x256x128) (extf .f32 k bitsLt_bf16_f32) (ix3 hh r c) : EReal)
      = ∑ d : Fin 128, query (fun a b => x (ix2 a b)) (fun a b => wq (ix2 a b)) r (headCol hh d) * k (ix3 hh c d) := by
    simp only [Host.dotGeneral]
    rw [Ideal.dotGeneral_apply, ← Equiv.sum_comp (contrEquiv1 dot_S1024x256x128_S256x1024x128_S256x1024x1024_2_2_0_1_1_0 128 rfl rfl).symm]
    refine Finset.sum_congr rfl fun d _ => ?_
    have c2 := contrEquiv1_symm_val dot_S1024x256x128_S256x1024x128_S256x1024x1024_2_2_0_1_1_0 128 rfl rfl d
    have el : dot_S1024x256x128_S256x1024x128_S256x1024x1024_2_2_0_1_1_0.lhsIdx (ix3 hh r c)
        ((contrEquiv1 dot_S1024x256x128_S256x1024x128_S256x1024x1024_2_2_0_1_1_0 128 rfl rfl).symm d) = ix3 r hh d := by
      funext a; apply Fin.ext
      match a with
      | ⟨0, _⟩ => rfl
      | ⟨1, _⟩ => rfl
      | ⟨2, _⟩ => exact c2
    have er : dot_S1024x256x128_S256x1024x128_S256x1024x1024_2_2_0_1_1_0.rhsIdx (ix3 hh r c)
        ((contrEquiv1 dot_S1024x256x128_S256x1024x128_S256x1024x1024_2_2_0_1_1_0 128 rfl rfl).symm d) = ix3 hh c d := by
      funext a; apply Fin.ext
      match a with
      | ⟨0, _⟩ => rfl
      | ⟨1, _⟩ => rfl
      | ⟨2, _⟩ => exact c2
    rw [el, er]
    exact congrArg (· * (k (ix3 hh c d) : EReal)) (hq d)
  exact congrArg (· * scale) hd

/-- The scores with those outside the band at minus infinity. -/
def maskedVec : FVec Ideal S256x1024x1024 .f32 :=
  select (broadcastInDim S256x1024x1024 ![0, 1, 2] bcast_S1x1024x1024_S256x1024x1024_0_1_2 (broadcastInDim S1x1024x1024 ![1, 2] bcast_S1024x1024_S1x1024x1024_1_2 band))
    (scoreVec x wq k) (broadcastInDim S256x1024x1024 ![] bcast_S_S256x1024x1024 (id (constant S_ .f32 0xFF800000#32)))

/-- The masked score of row `r` against column `c` in head `hh`. -/
theorem maskedVec_apply (hh : Fin 256) (r c : Fin 1024) :
    (maskedVec x wq k (ix3 hh r c) : EReal)
      = masked (fun a b => x (ix2 a b)) (fun a b => wq (ix2 a b)) (fun a b d => k (ix3 a b d)) hh r c := by
  have hb : broadcastInDim S256x1024x1024 ![0, 1, 2] bcast_S1x1024x1024_S256x1024x1024_0_1_2
      (broadcastInDim S1x1024x1024 ![1, 2] bcast_S1024x1024_S1x1024x1024_1_2 band) (ix3 hh r c) = BitVec.ofBool (decide (Near r.val c.val)) :=
    Eq.trans (congrArg band (funext fun a => Fin.ext (match a with | ⟨0, _⟩ => rfl | ⟨1, _⟩ => rfl))) (band_apply r c)
  show Scalar.select (broadcastInDim S256x1024x1024 ![0, 1, 2] bcast_S1x1024x1024_S256x1024x1024_0_1_2
      (broadcastInDim S1x1024x1024 ![1, 2] bcast_S1024x1024_S1x1024x1024_1_2 band) (ix3 hh r c)) (scoreVec x wq k (ix3 hh r c) : EReal)
      (Ideal.ofBits .f32 0xFF800000#32) = _
  rw [hb, scoreVec_apply, ofBits_negInf]
  unfold masked
  by_cases h : Near r.val c.val
  · rw [if_pos h, decide_eq_true h]; rfl
  · rw [if_neg h, decide_eq_false h]; rfl

/-- One number a head and row, spread along the columns. -/
theorem spread_apply (u : FVec Ideal S256x1024 .f32) (hh : Fin 256) (r c : Fin 1024) :
    broadcastInDim S256x1024x1024 ![0, 1, 2] bcast_S256x1024x1_S256x1024x1024_0_1_2
      (broadcastInDim S256x1024x1 ![0, 1] bcast_S256x1024_S256x1024x1_0_1 u) (ix3 hh r c) = u (ix2 hh r) :=
  congrArg u (funext fun a => Fin.ext (match a with | ⟨0, _⟩ => rfl | ⟨1, _⟩ => rfl))

theorem reduces_cols : S256x1024x1024.Reduces [2] S256x1024 := by decide

/-- A row's maximum. -/
theorem rowMax_apply (s : FVec Ideal S256x1024x1024 .f32) (hh : Fin 256) (r : Fin 1024) :
    Host.reduce FloatOps.maximumf s (constant S_ .f32 0xFF800000#32) reducesTo_S256x1024x1024_S256x1024_d2 h_S_ (ix2 hh r)
      = Finset.univ.sup fun c : Fin 1024 => (s (ix3 hh r c) : EReal) := by
  refine (congrFun (hostReduce_maximumf_eq_multiReduction s 0xFF800000#32 reducesTo_S256x1024x1024_S256x1024_d2 h_S_ reduces_cols (.inl rfl) rfl) (ix2 hh r)).trans ?_
  refine (Ideal.multiReduction_maximumf_single s 0xFF800000#32 reduces_cols (.inl rfl) rfl (ix2 hh r)).trans ?_
  show Finset.fold max (Ideal.ofBits .f32 0xFF800000#32) _ _ = _
  rw [ofBits_negInf]
  refine (Finset.fold_congr (g := fun c : Fin 1024 => (s (ix3 hh r c) : EReal)) fun c _ => ?_).trans rfl
  exact congrArg s (funext fun a => Fin.ext (match a with | ⟨0, _⟩ => rfl | ⟨1, _⟩ => rfl | ⟨2, _⟩ => rfl))

/-- A row's sum. -/
theorem rowSum_apply (s : FVec Ideal S256x1024x1024 .f32) (hh : Fin 256) (r : Fin 1024) :
    Host.reduceAdd s (constant S_ .f32 0x00000000#32) reducesTo_S256x1024x1024_S256x1024_d2 h_S_ (ix2 hh r)
      = ∑ c : Fin 1024, (s (ix3 hh r c) : EReal) := by
  refine (hostReduceAdd_apply s (constant S_ .f32 0x00000000#32) reducesTo_S256x1024x1024_S256x1024_d2 h_S_ (ix2 hh r)).trans ?_
  refine (Ideal.hostReduceAdd_single reducesTo_S256x1024x1024_S256x1024_d2 reduces_cols s _ (ix2 hh r)).trans ?_
  refine (congrArg (· + _) Ideal.ofBits_zero_f32).trans ((zero_add _).trans ?_)
  refine Finset.sum_congr rfl fun c _ => ?_
  exact congrArg s (funext fun a => Fin.ext (match a with | ⟨0, _⟩ => rfl | ⟨1, _⟩ => rfl | ⟨2, _⟩ => rfl))

/-- The unnormalised weights of the scores `s`. -/
def expVec (s : FVec Ideal S256x1024x1024 .f32) : FVec Ideal S256x1024x1024 .f32 :=
  Host.exp (subf s (broadcastInDim S256x1024x1024 ![0, 1, 2] bcast_S256x1024x1_S256x1024x1024_0_1_2
    (broadcastInDim S256x1024x1 ![0, 1] bcast_S256x1024_S256x1024x1_0_1
      (Host.reduce FloatOps.maximumf s (constant S_ .f32 0xFF800000#32) reducesTo_S256x1024x1024_S256x1024_d2 h_S_))))

/-- The exponential of a difference, at an index. -/
theorem expSub_apply (s w : FVec Ideal S256x1024x1024 .f32) (j : S256x1024x1024.Idx) :
    (Host.exp (subf s w) j : EReal) = Ideal.exp ((s j : EReal) - w j) := rfl

/-- The unnormalised weight at a head, row and column. -/
theorem expVec_apply (s : FVec Ideal S256x1024x1024 .f32) (hh : Fin 256) (r c : Fin 1024) :
    expVec s (ix3 hh r c) = weight (fun c : Fin 1024 => (s (ix3 hh r c) : EReal)) c := by
  refine (expSub_apply s _ (ix3 hh r c)).trans ?_
  rw [spread_apply, rowMax_apply]
  rfl

/-- One bit a row, spread over the heads and columns. -/
theorem rowSpread_apply (u : IVec S1024 1) (hh : Fin 256) (r c : Fin 1024) :
    broadcastInDim S256x1024x1024 ![0, 1, 2] bcast_S1x1024x1_S256x1024x1024_0_1_2
      (broadcastInDim S1x1024x1 ![1] bcast_S1024_S1x1024x1_1 u) (ix3 hh r c) = u (ix1 r) :=
  congrArg u (funext fun a => Fin.ext (match a with | ⟨0, _⟩ => rfl))

/-- The same over the heads and one column. -/
theorem rowSpread1_apply (u : IVec S1024 1) (hh : Fin 256) (r : Fin 1024) :
    broadcastInDim S256x1024x1 ![0, 1, 2] bcast_S1x1024x1_S256x1024x1_0_1_2
      (broadcastInDim S1x1024x1 ![1] bcast_S1024_S1x1024x1_1 u) (ix3 hh r (0 : Fin 1)) = u (ix1 r) :=
  congrArg u (funext fun a => Fin.ext (match a with | ⟨0, _⟩ => rfl))

/-- The softmax of the scores `s`, with the selects by `rowKeep`. -/
def probVec (s : FVec Ideal S256x1024x1024 .f32) : FVec Ideal S256x1024x1024 .f32 :=
  select (broadcastInDim S256x1024x1024 ![0, 1, 2] bcast_S1x1024x1_S256x1024x1024_0_1_2 (broadcastInDim S1x1024x1 ![1] bcast_S1024_S1x1024x1_1 rowKeep))
    (Host.divf (expVec s) (broadcastInDim S256x1024x1024 ![0, 1, 2] bcast_S256x1024x1_S256x1024x1024_0_1_2
      (select (broadcastInDim S256x1024x1 ![0, 1, 2] bcast_S1x1024x1_S256x1024x1_0_1_2 (broadcastInDim S1x1024x1 ![1] bcast_S1024_S1x1024x1_1 rowKeep))
        (broadcastInDim S256x1024x1 ![0, 1] bcast_S256x1024_S256x1024x1_0_1
          (Host.reduceAdd (expVec s) (constant S_ .f32 0x00000000#32) reducesTo_S256x1024x1024_S256x1024_d2 h_S_))
        (broadcastInDim S256x1024x1 ![] bcast_S_S256x1024x1 (id (constant S_ .f32 0x3F800000#32))))))
    (broadcastInDim S256x1024x1024 ![] bcast_S_S256x1024x1024 (id (constant S_ .f32 0x00000000#32)))

/-- The softmax at a head, row and column. -/
theorem probVec_apply (s : FVec Ideal S256x1024x1024 .f32) (hh : Fin 256) (r c : Fin 1024) :
    probVec s (ix3 hh r c) = Ideal.div (weight (fun c : Fin 1024 => (s (ix3 hh r c) : EReal)) c)
      (∑ c', weight (fun c : Fin 1024 => (s (ix3 hh r c) : EReal)) c') := by
  have k1 : broadcastInDim S256x1024x1024 ![0, 1, 2] bcast_S1x1024x1_S256x1024x1024_0_1_2
      (broadcastInDim S1x1024x1 ![1] bcast_S1024_S1x1024x1_1 rowKeep) (ix3 hh r c) = 1#1 :=
    (rowSpread_apply rowKeep hh r c).trans (rowKeep_apply r)
  have k2 : broadcastInDim S256x1024x1 ![0, 1, 2] bcast_S1x1024x1_S256x1024x1_0_1_2
      (broadcastInDim S1x1024x1 ![1] bcast_S1024_S1x1024x1_1 rowKeep) (ix3 hh r (0 : Fin 1)) = 1#1 :=
    (rowSpread1_apply rowKeep hh r).trans (rowKeep_apply r)
  have hs : broadcastInDim S256x1024x1 ![0, 1] bcast_S256x1024_S256x1024x1_0_1
      (Host.reduceAdd (expVec s) (constant S_ .f32 0x00000000#32) reducesTo_S256x1024x1024_S256x1024_d2 h_S_) (ix3 hh r (0 : Fin 1))
      = ∑ c' : Fin 1024, weight (fun c : Fin 1024 => (s (ix3 hh r c) : EReal)) c' := by
    refine Eq.trans (congrArg (Host.reduceAdd (expVec s) (constant S_ .f32 0x00000000#32) reducesTo_S256x1024x1024_S256x1024_d2 h_S_)
      (show _ = ix2 hh r from funext fun a => Fin.ext (match a with | ⟨0, _⟩ => rfl | ⟨1, _⟩ => rfl))) ?_
    rw [rowSum_apply]
    simp only [expVec_apply]
  have hden : broadcastInDim S256x1024x1024 ![0, 1, 2] bcast_S256x1024x1_S256x1024x1024_0_1_2
      (select (broadcastInDim S256x1024x1 ![0, 1, 2] bcast_S1x1024x1_S256x1024x1_0_1_2 (broadcastInDim S1x1024x1 ![1] bcast_S1024_S1x1024x1_1 rowKeep))
        (broadcastInDim S256x1024x1 ![0, 1] bcast_S256x1024_S256x1024x1_0_1
          (Host.reduceAdd (expVec s) (constant S_ .f32 0x00000000#32) reducesTo_S256x1024x1024_S256x1024_d2 h_S_))
        (broadcastInDim S256x1024x1 ![] bcast_S_S256x1024x1 (id (constant S_ .f32 0x3F800000#32)))) (ix3 hh r c)
      = ∑ c' : Fin 1024, weight (fun c : Fin 1024 => (s (ix3 hh r c) : EReal)) c' := by
    refine (broadcastInDim_apply _ _ _ _ (ix3 hh r (0 : Fin 1)) fun a => ?_).trans ?_
    · match a with
      | ⟨0, _⟩ => rfl
      | ⟨1, _⟩ => rfl
      | ⟨2, _⟩ => rfl
    · rw [select_apply, k2]
      exact hs
  unfold probVec
  rw [select_apply, k1]
  refine (hostDivf_apply _ _ _).trans ?_
  rw [hden, expVec_apply]

/-- The context rows, all heads side by side. -/
def ctxVec : FVec Ideal S1024x32768 .f32 :=
  shapeCast S1024x32768 (transpose S1024x256x128 [2, 0, 1] (Host.dotGeneral dot_S256x1024x128_S256x1024x1024_S256x128x1024_1_2_2_1_0_0 none
    (extf .f32 v bitsLt_bf16_f32) (probVec (maskedVec x wq k))) transposes_S256x128x1024_S1024x256x128_2_0_1) shapeCasts_S1024x256x128_S1024x32768

/-- The context at row `r` and column `J`. -/
theorem ctxVec_apply (r : Fin 1024) (J : Fin 32768) :
    (ctxVec x wq k v (ix2 r J) : EReal)
      = context (fun a b => x (ix2 a b)) (fun a b => wq (ix2 a b)) (fun a b d => k (ix3 a b d)) (fun a b d => v (ix3 a b d))
          (headOf J) r (placeOf J) := by
  unfold ctxVec
  refine (shapeCast_apply _ _ _ (ix3 r (headOf J) (placeOf J)) ?_).trans
    ((transpose_apply _ _ _ _ (ix3 (headOf J) (placeOf J) r) fun a => ?_).trans ?_)
  · rw [Shape.rowMajor_val_two, Shape.rowMajor_val_three]
    show (r.val * 256 + J.val / 128) * 128 + J.val % 128 = r.val * 32768 + J.val
    omega
  · match a with
    | ⟨0, _⟩ => rfl
    | ⟨1, _⟩ => rfl
    | ⟨2, _⟩ => rfl
  · simp only [Host.dotGeneral]
    rw [Ideal.dotGeneral_apply, ← Equiv.sum_comp (contrEquiv1 dot_S256x1024x128_S256x1024x1024_S256x128x1024_1_2_2_1_0_0 1024 rfl rfl).symm]
    unfold context softSum
    refine Finset.sum_congr rfl fun c _ => ?_
    have c2 := contrEquiv1_symm_val dot_S256x1024x128_S256x1024x1024_S256x128x1024_1_2_2_1_0_0 1024 rfl rfl c
    have el : dot_S256x1024x128_S256x1024x1024_S256x128x1024_1_2_2_1_0_0.lhsIdx (ix3 (headOf J) (placeOf J) r)
        ((contrEquiv1 dot_S256x1024x128_S256x1024x1024_S256x128x1024_1_2_2_1_0_0 1024 rfl rfl).symm c) = ix3 (headOf J) c (placeOf J) := by
      funext a; apply Fin.ext
      match a with
      | ⟨0, _⟩ => rfl
      | ⟨1, _⟩ => exact c2
      | ⟨2, _⟩ => rfl
    have er : dot_S256x1024x128_S256x1024x1024_S256x128x1024_1_2_2_1_0_0.rhsIdx (ix3 (headOf J) (placeOf J) r)
        ((contrEquiv1 dot_S256x1024x128_S256x1024x1024_S256x128x1024_1_2_2_1_0_0 1024 rfl rfl).symm c) = ix3 (headOf J) r c := by
      funext a; apply Fin.ext
      match a with
      | ⟨0, _⟩ => rfl
      | ⟨1, _⟩ => rfl
      | ⟨2, _⟩ => exact c2
    rw [el, er]
    have hp := probVec_apply (maskedVec x wq k) (headOf J) r c
    simp only [maskedVec_apply] at hp
    exact (mul_comm _ _).trans (congrArg (· * (v (ix3 (headOf J) c (placeOf J)) : EReal)) hp)

/-- The result. -/
def outVec : FVec Ideal S1024x1024 .bf16 :=
  truncf .bf16 (Host.dotGeneral dot_S1024x32768_S32768x1024_S1024x1024_1_0_0_1_n_n none (ctxVec x wq k v) (extf .f32 wo bitsLt_bf16_f32)) bitsLt_bf16_f32

/-- **The result at row `r` and column `e` is the attention step's.** -/
theorem outVec_apply (r e : Fin 1024) :
    (outVec x wq k v wo (ix2 r e) : EReal)
      = output (fun a b => x (ix2 a b)) (fun a b => wq (ix2 a b)) (fun a b d => k (ix3 a b d)) (fun a b d => v (ix3 a b d))
          (fun a b => wo (ix2 a b)) r e := by
  refine (StackMember.dotGeneral_plain_apply (m := 1024) (k := 32768) (n := 1024) none (ctxVec x wq k v) (extf .f32 wo bitsLt_bf16_f32) r e).trans ?_
  exact Finset.sum_congr rfl fun J _ => congrArg (· * (wo (ix2 J e) : EReal)) (ctxVec_apply x wq k v r J)

/-- The run's result term is the stages'. -/
theorem res_eq (m : (ℓ : Loc nD τ sig) → Buf (Elt Ideal) ℓ) (c : Dev nD) :
    Cert.ReferenceIdeal.Value.res_out0 m c = outVec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v40
  rfl

end Cert.ReferenceIdeal.Plain

end
-- ==== Proof.KernelIdeal.ValuePre.lean ====
/-
  The precondition read back: the activations, the query projection and the keys of every device are reals.
-/
module

public import proofs.«01_k».proof.Proof.KernelIdeal.ValueSoftmax
public import proofs.«01_k».proof.Pre_operands_finite_KernelIdeal
public import proofs.«01_k».proof.Proof.Gen.Pre_operands_finite_KernelIdeal
public import Idealize.ShloMosaic.Lib.ReduceAll
public import Idealize.ShloMosaic.Lib.KernelVsHost

@[expose] public section

noncomputable section

namespace Cert.Pre_operands_finite_KernelIdeal

open Idealize.ShloMosaic Idealize.ShloMosaic.ValueIdx Cert.Attention
open Cert.Pre_operands_finite_KernelIdeal.Facts

/-- An extended real whose absolute value compares below plus infinity is a real. -/
theorem real_of_lt (a : EReal) (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a with
  | bot => exact absurd h (by simp [Ideal.cmp])
  | top => exact absurd h (by simp [Ideal.cmp])
  | coe r => exact ⟨r, rfl⟩

variable (x wq : FVec Ideal S1024x1024 .bf16) (k v : FVec Ideal S8x1024x128 .bf16) (wo : FVec Ideal S1024x1024 .bf16)

/-- The precondition's word is one: then the activations, the query projection and the keys are reals. -/
theorem reals (h : fn (F := Ideal) x wq k v wo = fun _ => 1#1) :
    (∀ i, IsReal (x i)) ∧ (∀ i, IsReal (wq i)) ∧ (∀ i, IsReal (k i)) := by
  have e := congrFun h ix0
  simp only [fn] at e
  obtain ⟨e1, ek⟩ := IntOp.andi_eq_one.1 e
  obtain ⟨ex, ew⟩ := IntOp.andi_eq_one.1 e1
  haveI : Subsingleton S_.Idx := ⟨fun a b => funext fun d => d.elim0⟩
  exact ⟨fun i => real_of_lt _ (Host.reduce_andi_all _ _ _ _ _ ex i), fun i => real_of_lt _ (Host.reduce_andi_all _ _ _ _ _ ew i),
    fun i => real_of_lt _ (Host.reduce_andi_all _ _ _ _ _ ek i)⟩

end Cert.Pre_operands_finite_KernelIdeal

end
-- ==== Proof.KernelIdeal.ValueEq.lean ====
/-
  The equation: what the kernel leaves on every device is the reference's result.
-/
module

public import proofs.«01_k».proof.Proof.KernelIdeal.ValueKernel
public import proofs.«01_k».proof.Proof.KernelIdeal.ValueRef
public import proofs.«01_k».proof.Proof.KernelIdeal.ValuePre
public import Idealize.ShloMosaic.Lib.Layout

@[expose] public section

noncomputable section

namespace Cert.KernelIdeal.Exchange

open Cert.KernelIdeal Cert.KernelIdeal.Gen Cert.Attention
open Idealize.ShloMosaic Idealize.ShloMosaic.ValueIdx

/-- A device's block of columns, at an index. -/
theorem cols_apply (w : (⟨2, ![1024, 32768]⟩ : Shape).Idx → EReal) (c : Fin 32) (a j : Fin 1024) :
    Layout.block ⟨2, ![1024, 1024]⟩ ⟨2, ![1024, 32768]⟩ 1 32 c w (by decide) (ix2 a j) = w (ix2 a ⟨1024 * c.val + j.val, by omega⟩) := by
  refine congrArg w (funext fun b => Fin.ext ?_)
  match b with
  | ⟨0, _⟩ => rfl
  | ⟨1, _⟩ => show c.val * 1024 + j.val = 1024 * c.val + j.val; omega

/-- A device's block of rows, at an index. -/
theorem rows_apply (w : (⟨2, ![32768, 1024]⟩ : Shape).Idx → EReal) (c : Fin 32) (j a : Fin 1024) :
    Layout.block ⟨2, ![1024, 1024]⟩ ⟨2, ![32768, 1024]⟩ 0 32 c w (by decide) (ix2 j a) = w (ix2 ⟨1024 * c.val + j.val, by omega⟩ a) := by
  refine congrArg w (funext fun b => Fin.ext ?_)
  match b with
  | ⟨0, _⟩ => show c.val * 1024 + j.val = 1024 * c.val + j.val; omega
  | ⟨1, _⟩ => rfl

/-- A device's block of heads, at an index. -/
theorem heads_apply (w : (⟨3, ![256, 1024, 128]⟩ : Shape).Idx → EReal) (c : Fin 32) (h : Fin 8) (r : Fin 1024) (d : Fin 128) :
    Layout.block ⟨3, ![8, 1024, 128]⟩ ⟨3, ![256, 1024, 128]⟩ 0 32 c w (by decide) (ix3 h r d) = w (ix3 ⟨8 * c.val + h.val, by omega⟩ r d) := by
  refine congrArg w (funext fun b => Fin.ext ?_)
  match b with
  | ⟨0, _⟩ => show c.val * 8 + h.val = 8 * c.val + h.val; omega
  | ⟨1, _⟩ => rfl
  | ⟨2, _⟩ => rfl

/-- **The equation**, of the devices' operands as blocks of the whole arrays. -/
theorem outC_eq (A : Ins Ideal) (x : FVec Ideal ⟨2, ![1024, 1024]⟩ .bf16) (wq : FVec Ideal ⟨2, ![1024, 32768]⟩ .bf16)
    (k v : FVec Ideal ⟨3, ![256, 1024, 128]⟩ .bf16) (wo : FVec Ideal ⟨2, ![32768, 1024]⟩ .bf16)
    (hx : ∀ c, A.x c = x) (hwq : ∀ c, A.wq c = Layout.block ⟨2, ![1024, 1024]⟩ ⟨2, ![1024, 32768]⟩ 1 32 c wq)
    (hk : ∀ c, A.k c = Layout.block ⟨3, ![8, 1024, 128]⟩ ⟨3, ![256, 1024, 128]⟩ 0 32 c k)
    (hv : ∀ c, A.v c = Layout.block ⟨3, ![8, 1024, 128]⟩ ⟨3, ![256, 1024, 128]⟩ 0 32 c v)
    (hwo : ∀ c, A.wo c = Layout.block ⟨2, ![1024, 1024]⟩ ⟨2, ![32768, 1024]⟩ 0 32 c wo)
    (rx : ∀ c i, IsReal (A.x c i)) (rwq : ∀ c i, IsReal (A.wq c i)) (rk : ∀ c i, IsReal (A.k c i)) :
    outC A = Cert.ReferenceIdeal.Plain.outVec x wq k v wo := by
  have hA : Holds A (fun a b => x (ix2 a b)) (fun a b => wq (ix2 a b)) (fun a b d => k (ix3 a b d)) (fun a b d => v (ix3 a b d))
      (fun a b => wo (ix2 a b)) :=
    { x := fun c r a => congrFun (hx c) _
      wq := fun c a j => (congrFun (hwq c) _).trans (cols_apply wq c a j)
      k := fun c h r d => (congrFun (hk c) _).trans (heads_apply k c h r d)
      v := fun c h r d => (congrFun (hv c) _).trans (heads_apply v c h r d)
      wo := fun c j e => (congrFun (hwo c) _).trans (rows_apply wo c j e) }
  have rX : ∀ a b, IsReal (x (ix2 a b)) := fun a b => hA.x 0 a b ▸ rx 0 (ix2 a b)
  have rW : ∀ a J, IsReal (wq (ix2 a J)) := fun a J => by
    have h := hA.wq (⟨J.val / 1024, by have := J.isLt; show J.val / 1024 < 32; omega⟩ : Dev nD) a ⟨J.val % 1024, by omega⟩
    have e : (⟨1024 * (J.val / 1024) + J.val % 1024, by omega⟩ : Fin 32768) = J := Fin.ext (by
      show 1024 * (J.val / 1024) + J.val % 1024 = J.val
      omega)
    have h' := h.trans (congrArg (fun z => (wq (ix2 a z) : EReal)) e)
    exact h' ▸ rwq _ _
  have rK : ∀ hh c d, IsReal (k (ix3 hh c d)) := fun hh c d => by
    have h := hA.k (⟨hh.val / 8, by have := hh.isLt; show hh.val / 8 < 32; omega⟩ : Dev nD) ⟨hh.val % 8, by omega⟩ c d
    have e : (⟨8 * (hh.val / 8) + hh.val % 8, by omega⟩ : Fin 256) = hh := Fin.ext (by
      show 8 * (hh.val / 8) + hh.val % 8 = hh.val
      omega)
    have h' := h.trans (congrArg (fun z => (k (ix3 z c d) : EReal)) e)
    exact h' ▸ rk _ _
  funext i
  rw [eq_ix2 i]
  exact (outC_output hA rX rW rK (i 0) (i 1)).trans (Cert.ReferenceIdeal.Plain.outVec_apply x wq k v wo (i 0) (i 1)).symm

end Cert.KernelIdeal.Exchange

end
-- ==== Proof.lean ====
/-
  Everything claimed, assembled: the runs, the named constant and the equation of the two results.
-/
module

public import proofs.«01_k».proof.Defs
public import proofs.«01_k».proof.Proof.Kernel.Launch
public import proofs.«01_k».proof.Proof.KernelIdeal.Launch
public import proofs.«01_k».proof.Proof.KernelIdeal.ValueEq
public import proofs.«01_k».proof.Proof.Gen.ReferenceIdeal
public import proofs.«01_k».proof.Proof.Gen.ReferenceIdeal.Run
public import proofs.«01_k».proof.Proof.Gen.Pre_operands_finite_KernelIdeal
public import proofs.«01_k».proof.Proof.Gen.Pre_operands_finite_ReferenceIdeal
public import Idealize.ShloMosaic.Adequacy
public import Idealize.ShloMosaic.Init

@[expose] public section

noncomputable section

namespace Cert.Proof

open Idealize.ShloMosaic Idealize.SL.Sem

/-- The kernel's run at the machine's floats: it ends, its operands are unchanged and every semaphore reads zero. -/
theorem frame_k : Cert.quiescent_Kernel (hKernel := Cert.Kernel.Gen.facts) :=
  fun m g _ => Cert.Kernel.Exchange.quiet (F := Bits) m g

/-- The same of the idealized kernel. -/
theorem frame_ki : Cert.quiescent_KernelIdeal (hKernelIdeal := Cert.KernelIdeal.Gen.facts) :=
  fun m g _ => Cert.KernelIdeal.Exchange.quiet (F := Ideal) m g

/-- The same of the reference, which has no semaphores. -/
theorem frame_ri : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The mask's constant is read as minus infinity, all the ideal program changes. -/
theorem preserves : Cert.preserves_Kernel_KernelIdeal :=
  IdealRules.named_const.statement Cert.KernelIdeal.κ "mask" .f32 0xCE6E6B28#32 ⊥ rfl

/-- The idealized kernel's run from finite operands. -/
theorem frame_ki_pre : Cert.quiescent_KernelIdeal_pre_operands_finite_KernelIdeal (hKernelIdeal := Cert.KernelIdeal.Gen.facts)
    (hPre_operands_finite_KernelIdeal := Cert.Pre_operands_finite_KernelIdeal.Gen.facts) :=
  fun m g _ => frame_ki m g trivial

/-- The reference's run from finite operands. -/
theorem frame_ri_pre : Cert.quiescent_ReferenceIdeal_pre_operands_finite_ReferenceIdeal (hReferenceIdeal := Cert.ReferenceIdeal.Gen.facts)
    (hPre_operands_finite_ReferenceIdeal := Cert.Pre_operands_finite_ReferenceIdeal.Gen.facts) :=
  fun m g _ => frame_ri m g trivial

/-- **The kernel leaves the reference's result on every device**, when the activations, the query projection and the keys
    are finite. -/
theorem algebraic : Cert.algebraic_KernelIdeal_ReferenceIdeal_pre_operands_finite_KernelIdeal (hKernelIdeal := Cert.KernelIdeal.Gen.facts)
    (hReferenceIdeal := Cert.ReferenceIdeal.Gen.facts)
    (hPre_operands_finite_KernelIdeal := Cert.Pre_operands_finite_KernelIdeal.Gen.facts) := fun m g m' g' hpre hin => by
  have hr := fun c => Cert.Pre_operands_finite_KernelIdeal.reals _ _ _ _ _ (hpre c)
  have heq := Cert.KernelIdeal.Exchange.outC_eq (Cert.KernelIdeal.Exchange.insOf m) _ _ _ _ _ (fun c => (hin c).1) (fun c => (hin c).2.1)
    (fun c => (hin c).2.2.1) (fun c => (hin c).2.2.2.1) (fun c => (hin c).2.2.2.2) (fun c => (hr c).1) (fun c => (hr c).2.1) (fun c => (hr c).2.2)
  refine ⟨Cert.ReferenceIdeal.Value.res_out0 m' 0, ?_, ?_⟩
  · exact (θ_run Cert.KernelIdeal.defs _ _).mono
      (fun r h c => ⟨(h c).1.trans (heq.trans (Cert.ReferenceIdeal.Plain.res_eq m' 0).symm), (h c).2⟩)
      (Cert.KernelIdeal.Exchange.result (F := Ideal) m g)
  · exact (θ_run Cert.ReferenceIdeal.defs _ _).mono (fun r h => h 0) (Cert.ReferenceIdeal.Value.run (F := Ideal) m' g')

/-- All the claims together. -/
theorem claim : Cert.Claim :=
  ⟨Cert.Kernel.Gen.facts, Cert.KernelIdeal.Gen.facts, Cert.ReferenceIdeal.Gen.facts, Cert.Pre_operands_finite_KernelIdeal.Gen.facts,
    Cert.Pre_operands_finite_ReferenceIdeal.Gen.facts, frame_k, frame_ki, frame_ki_pre, frame_ri, frame_ri_pre, preserves, algebraic⟩

end Cert.Proof

end
